-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S4096x128 : Shape := ⟨2, ![4096, 128]⟩
abbrev S16 : Shape := ⟨1, ![16]⟩
abbrev S1x16 : Shape := ⟨2, ![1, 16]⟩
abbrev S_ : Shape := ⟨0, ![]⟩
abbrev S1024x128 : Shape := ⟨2, ![1024, 128]⟩
abbrev S2048x128 : Shape := ⟨2, ![2048, 128]⟩

abbrev nBuf : Table → Nat
  | .hbm => 19
  | .local .tc .vmem => 38
  | .local .scVector .vmem => 1
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S4096x128, .i32⟩
  | .hbm, ⟨17, _⟩ => ⟨S16384x128, .f32⟩
  | .hbm, ⟨18, _⟩ => ⟨S16384x128, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S1024x128, .f32⟩
  | .local .tc .vmem, ⟨8, _⟩ => ⟨S128x128, .f32⟩
  | .local .tc .vmem, ⟨9, _⟩ => ⟨S128x128, .f32⟩
  | .local .tc .vmem, ⟨10, _⟩ => ⟨S128x128, .f32⟩
  | .local .tc .vmem, ⟨11, _⟩ => ⟨S128x128, .f32⟩
  | .local .tc .vmem, ⟨12, _⟩ => ⟨S1x128, .f32⟩
  | .local .tc .vmem, ⟨13, _⟩ => ⟨S1x128, .f32⟩
  | .local .tc .vmem, ⟨14, _⟩ => ⟨S1x128, .f32⟩
  | .local .tc .vmem, ⟨15, _⟩ => ⟨S1x128, .f32⟩
  | .local .tc .vmem, ⟨16, _⟩ => ⟨S1024x128, .f32⟩
  | .local .tc .vmem, ⟨17, _⟩ => ⟨S1024x128, .f32⟩
  | .local .tc .vmem, ⟨18, _⟩ => ⟨S2048x128, .i32⟩
  | .local .tc .vmem, ⟨19, _⟩ => ⟨S2048x128, .i32⟩
  | .local .tc .vmem, ⟨20, _⟩ => ⟨S2048x128, .f32⟩
  | .local .tc .vmem, ⟨21, _⟩ => ⟨S2048x128, .f32⟩
  | .local .tc .vmem, ⟨22, _⟩ => ⟨S2048x128, .f32⟩
  | .local .tc .vmem, ⟨23, _⟩ => ⟨S2048x128, .f32⟩
  | .local .tc .vmem, ⟨24, _⟩ => ⟨S2048x128, .f32⟩
  | .local .tc .vmem, ⟨25, _⟩ => ⟨S2048x128, .f32⟩
  | .local .tc .vmem, ⟨26, _⟩ => ⟨S2048x128, .f32⟩
  | .local .tc .vmem, ⟨27, _⟩ => ⟨S2048x128, .f32⟩
  | .local .tc .vmem, ⟨28, _⟩ => ⟨S128x128, .f32⟩
  | .local .tc .vmem, ⟨29, _⟩ => ⟨S128x128, .f32⟩
  | .local .tc .vmem, ⟨30, _⟩ => ⟨S128x128, .f32⟩
  | .local .tc .vmem, ⟨31, _⟩ => ⟨S128x128, .f32⟩
  | .local .tc .vmem, ⟨32, _⟩ => ⟨S1x128, .f32⟩
  | .local .tc .vmem, ⟨33, _⟩ => ⟨S1x128, .f32⟩
  | .local .tc .vmem, ⟨34, _⟩ => ⟨S1x128, .f32⟩
  | .local .tc .vmem, ⟨35, _⟩ => ⟨S1x128, .f32⟩
  | .local .tc .vmem, ⟨36, _⟩ => ⟨S2048x128, .f32⟩
  | .local .tc .vmem, ⟨37, _⟩ => ⟨S2048x128, .f32⟩
  | .local .scVector .vmem, ⟨0, _⟩ => ⟨S128x128, .i32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => false
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v4_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg12_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc0_scratch0 : Ref sig .scVector := ⟨.vmem, 0, rfl⟩
abbrev cc1_sem0_0 : DmaSem sig := 1
abbrev cc1_sem0_1 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem12_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem13_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c128_i32_1 : BitVec 32 := 128#32
  let v3 : BitVec 32 := Scalar.addi c0_i32_0 c128_i32_1
  let c1_i32 : BitVec 32 := 1#32
  ⟨c0_i32_0, v3, c1_i32⟩
@[reducible] def k0_t2_loop : Scf.Loop 32 :=
  let c0_i32_5 : BitVec 32 := 0#32
  let c8_i32 : BitVec 32 := 8#32
  let v7 : BitVec 32 := Scalar.addi c0_i32_5 c8_i32
  let c1_i32_6 : BitVec 32 := 1#32
  ⟨c0_i32_5, v7, c1_i32_6⟩
def k0_off1 (k0_t1 : Fin k0_t1_loop.trips) (k0_t2 : Fin k0_t2_loop.trips) : Fin 2 → Nat :=
  let c0_i32_0 : BitVec 32 := 0#32
  let c1_i32 : BitVec 32 := 1#32
  let arg4 : BitVec 32 := Scf.iv c0_i32_0 c1_i32 k0_t1
  let v710 : Index := Scalar.indexCast arg4
  let c0_i32_5 : BitVec 32 := 0#32
  let c1_i32_6 : BitVec 32 := 1#32
  let arg5 : BitVec 32 := Scf.iv c0_i32_5 c1_i32_6 k0_t2
  let c16_i32_217 : BitVec 32 := 16#32
  let v709 : BitVec 32 := Scalar.muli arg5 c16_i32_217
  let v711 : Index := Scalar.indexCast v709
  ![v710.toNat, v711.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r0 : BitVec 32 := 0#32
  ![v2.toNat, 0]
abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![2], ![false]⟩

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc2_transform_5 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

abbrev stage2_0 : Fin 2 → Memref sig .tc .vmem S2048x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2048x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S16384x128x1 : Shape := ⟨3, ![16384, 128, 1]⟩
abbrev S16384x128x4 : Shape := ⟨3, ![16384, 128, 4]⟩
abbrev S16384x4 : Shape := ⟨2, ![16384, 4]⟩
abbrev S16384 : Shape := ⟨1, ![16384]⟩
abbrev S16384x1 : Shape := ⟨2, ![16384, 1]⟩
abbrev S1 : Shape := ⟨1, ![1]⟩
abbrev S2 : Shape := ⟨1, ![2]⟩
abbrev S1x1x1 : Shape := ⟨3, ![1, 1, 1]⟩
abbrev S128x16384x4 : Shape := ⟨3, ![128, 16384, 4]⟩
abbrev S1x16384x4 : Shape := ⟨3, ![1, 16384, 4]⟩
abbrev S128x16384 : Shape := ⟨2, ![128, 16384]⟩
abbrev S1x1x4 : Shape := ⟨3, ![1, 1, 4]⟩

abbrev nBuf : Space → Nat
  | .hbm => 356
  | .vmem => 0
  | .smem => 0
  | _ => 0

abbrev hbmTy0_0 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S16384x128, .f32⟩
  | 13 => ⟨S1x128, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S16384x128, .f32⟩
  | 20 => ⟨S1x128, .f32⟩
  | 21 => ⟨S16384x128, .f32⟩
  | 22 => ⟨S16384x128, .f32⟩
  | 23 => ⟨S_, .f32⟩
  | 24 => ⟨S16384x128, .f32⟩
  | 25 => ⟨S16384x128, .f32⟩
  | 26 => ⟨S16384x128, .f32⟩
  | 27 => ⟨S1x128, .f32⟩
  | 28 => ⟨S16384x128, .f32⟩
  | 29 => ⟨S16384x128, .f32⟩
  | 30 => ⟨S_, .f32⟩
  | 31 => ⟨S16384x128, .f32⟩
  | 32 => ⟨S16384x128, .f32⟩
  | 33 => ⟨S16384x128, .f32⟩
  | 34 => ⟨S1x128, .f32⟩
  | 35 => ⟨S16384x128, .f32⟩
  | 36 => ⟨S16384x128, .f32⟩
  | 37 => ⟨S_, .f32⟩
  | 38 => ⟨S16384x128, .f32⟩
  | 39 => ⟨S16384x128, .f32⟩
  | 40 => ⟨S16384x128x1, .f32⟩
  | 41 => ⟨S16384x128x1, .f32⟩
  | 42 => ⟨S16384x128x1, .f32⟩
  | 43 => ⟨S16384x128x1, .f32⟩
  | 44 => ⟨S16384x128x4, .f32⟩
  | 45 => ⟨S_, .f32⟩
  | 46 => ⟨S16384x4, .f32⟩
  | 47 => ⟨S_, .f32⟩
  | 48 => ⟨S16384x4, .f32⟩
  | 49 => ⟨S16384x4, .f32⟩
  | 50 => ⟨S_, .f32⟩
  | 51 => ⟨S16384, .f32⟩
  | 52 => ⟨S16384x1, .f32⟩
  | 53 => ⟨S16384x4, .f32⟩
  | 54 => ⟨S16384x4, .f32⟩
  | 55 => ⟨S16384x4, .f32⟩
  | 56 => ⟨S_, .i32⟩
  | 57 => ⟨S_, .i32⟩
  | 58 => ⟨S_, .i32⟩
  | 59 => ⟨S_, .i32⟩
  | 60 => ⟨S1, .i32⟩
  | 61 => ⟨S_, .i32⟩
  | 62 => ⟨S_, .i32⟩
  | 63 => ⟨S_, .i32⟩
  | 64 => ⟨S1, .i32⟩
  | 65 => ⟨S2, .i32⟩
  | 66 => ⟨S_, .f32⟩
  | 67 => ⟨S_, .f32⟩
  | 68 => ⟨S_, .f32⟩
  | 69 => ⟨S1x1x1, .f32⟩
  | 70 => ⟨S1x1x1, .f32⟩
  | 71 => ⟨S1, .i32⟩
  | 72 => ⟨S_, .i32⟩
  | 73 => ⟨S1, .i32⟩
  | 74 => ⟨S_, .i32⟩
  | 75 => ⟨S128x16384x4, .i64⟩
  | 76 => ⟨S128x16384x4, .i64⟩
  | 77 => ⟨S128x16384x4, .i64⟩
  | 78 => ⟨S_, .i64⟩
  | 79 => ⟨S128x16384x4, .i64⟩
  | 80 => ⟨S128x16384x4, .i64⟩
  | 81 => ⟨S_, .i64⟩
  | 82 => ⟨S128x16384x4, .i64⟩
  | 83 => ⟨S128x16384x4, .i64⟩
  | 84 => ⟨S_, .i64⟩
  | 85 => ⟨S128x16384x4, .i64⟩
  | 86 => ⟨S128x16384x4, .i64⟩
  | 87 => ⟨S128x16384x4, .i64⟩
  | 88 => ⟨S128x16384x4, .i64⟩
  | 89 => ⟨S_, .i64⟩
  | 90 => ⟨S128x16384x4, .i64⟩
  | 91 => ⟨S128x16384x4, .i64⟩
  | 92 => ⟨S128x16384x4, .i32⟩
  | 93 => ⟨S128x16384x4, .i32⟩
  | 94 => ⟨S_, .i32⟩
  | 95 => ⟨S_, .i32⟩
  | 96 => ⟨S_, .i32⟩
  | 97 => ⟨S128x16384x4, .i32⟩
  | 98 => ⟨S128x16384x4, .i32⟩
  | 99 => ⟨S128x16384x4, .i32⟩
  | 100 => ⟨S128x16384x4, .i32⟩
  | 101 => ⟨S128x16384x4, .i32⟩
  | 102 => ⟨S_, .i32⟩
  | 103 => ⟨S128x16384x4, .i32⟩
  | 104 => ⟨S128x16384x4, .i32⟩
  | 105 => ⟨S_, .i32⟩
  | 106 => ⟨S128x16384x4, .i32⟩
  | 107 => ⟨S128x16384x4, .i32⟩
  | 108 => ⟨S128x16384x4, .i32⟩
  | 109 => ⟨S128x16384x4, .i32⟩
  | 110 => ⟨S128x16384x4, .i32⟩
  | 111 => ⟨S_, .i32⟩
  | 112 => ⟨S128x16384x4, .i32⟩
  | 113 => ⟨S128x16384x4, .i32⟩
  | 114 => ⟨S_, .i32⟩
  | 115 => ⟨S128x16384x4, .i32⟩
  | 116 => ⟨S128x16384x4, .i32⟩
  | 117 => ⟨S128x16384x4, .i32⟩
  | 118 => ⟨S128x16384x4, .i32⟩
  | 119 => ⟨S128x16384x4, .i32⟩
  | 120 => ⟨S_, .i32⟩
  | 121 => ⟨S128x16384x4, .i32⟩
  | 122 => ⟨S128x16384x4, .i32⟩
  | 123 => ⟨S_, .i32⟩
  | 124 => ⟨S128x16384x4, .i32⟩
  | 125 => ⟨S128x16384x4, .i32⟩
  | 126 => ⟨S128x16384x4, .i32⟩
  | 127 => ⟨S128x16384x4, .i32⟩
  | _ => ⟨S16384x128, .f32⟩

abbrev hbmTy0_1 (i : Nat) : BufTy := match i % 128 with
  | 0 => ⟨S128x16384x4, .i32⟩
  | 1 => ⟨S_, .i32⟩
  | 2 => ⟨S128x16384x4, .i32⟩
  | 3 => ⟨S128x16384x4, .i32⟩
  | 4 => ⟨S_, .i32⟩
  | 5 => ⟨S128x16384x4, .i32⟩
  | 6 => ⟨S128x16384x4, .i32⟩
  | 7 => ⟨S128x16384x4, .i32⟩
  | 8 => ⟨S128x16384x4, .i32⟩
  | 9 => ⟨S128x16384x4, .i32⟩
  | 10 => ⟨S128x16384x4, .i32⟩
  | 11 => ⟨S128x16384x4, .i32⟩
  | 12 => ⟨S128x16384x4, .i32⟩
  | 13 => ⟨S_, .i32⟩
  | 14 => ⟨S128x16384x4, .i32⟩
  | 15 => ⟨S128x16384x4, .i32⟩
  | 16 => ⟨S128x16384x4, .i32⟩
  | 17 => ⟨S_, .i32⟩
  | 18 => ⟨S128x16384x4, .i32⟩
  | 19 => ⟨S128x16384x4, .i32⟩
  | 20 => ⟨S_, .i32⟩
  | 21 => ⟨S128x16384x4, .i32⟩
  | 22 => ⟨S128x16384x4, .i32⟩
  | 23 => ⟨S128x16384x4, .i32⟩
  | 24 => ⟨S128x16384x4, .i32⟩
  | 25 => ⟨S128x16384x4, .i32⟩
  | 26 => ⟨S_, .i32⟩
  | 27 => ⟨S128x16384x4, .i32⟩
  | 28 => ⟨S128x16384x4, .i32⟩
  | 29 => ⟨S_, .i32⟩
  | 30 => ⟨S128x16384x4, .i32⟩
  | 31 => ⟨S128x16384x4, .i32⟩
  | 32 => ⟨S128x16384x4, .i32⟩
  | 33 => ⟨S128x16384x4, .i32⟩
  | 34 => ⟨S128x16384x4, .i32⟩
  | 35 => ⟨S_, .i32⟩
  | 36 => ⟨S128x16384x4, .i32⟩
  | 37 => ⟨S128x16384x4, .i32⟩
  | 38 => ⟨S_, .i32⟩
  | 39 => ⟨S128x16384x4, .i32⟩
  | 40 => ⟨S128x16384x4, .i32⟩
  | 41 => ⟨S128x16384x4, .i32⟩
  | 42 => ⟨S128x16384x4, .i32⟩
  | 43 => ⟨S128x16384x4, .i32⟩
  | 44 => ⟨S_, .i32⟩
  | 45 => ⟨S128x16384x4, .i32⟩
  | 46 => ⟨S128x16384x4, .i32⟩
  | 47 => ⟨S_, .i32⟩
  | 48 => ⟨S128x16384x4, .i32⟩
  | 49 => ⟨S128x16384x4, .i32⟩
  | 50 => ⟨S128x16384x4, .i32⟩
  | 51 => ⟨S128x16384x4, .i32⟩
  | 52 => ⟨S128x16384x4, .i32⟩
  | 53 => ⟨S128x16384x4, .i32⟩
  | 54 => ⟨S128x16384x4, .i32⟩
  | 55 => ⟨S128x16384x4, .i32⟩
  | 56 => ⟨S_, .i32⟩
  | 57 => ⟨S128x16384x4, .i32⟩
  | 58 => ⟨S128x16384x4, .i32⟩
  | 59 => ⟨S128x16384x4, .i32⟩
  | 60 => ⟨S_, .i32⟩
  | 61 => ⟨S128x16384x4, .i32⟩
  | 62 => ⟨S128x16384x4, .i32⟩
  | 63 => ⟨S_, .i32⟩
  | 64 => ⟨S128x16384x4, .i32⟩
  | 65 => ⟨S128x16384x4, .i32⟩
  | 66 => ⟨S128x16384x4, .i32⟩
  | 67 => ⟨S128x16384x4, .i32⟩
  | 68 => ⟨S128x16384x4, .i32⟩
  | 69 => ⟨S_, .i32⟩
  | 70 => ⟨S128x16384x4, .i32⟩
  | 71 => ⟨S128x16384x4, .i32⟩
  | 72 => ⟨S_, .i32⟩
  | 73 => ⟨S128x16384x4, .i32⟩
  | 74 => ⟨S128x16384x4, .i32⟩
  | 75 => ⟨S128x16384x4, .i32⟩
  | 76 => ⟨S128x16384x4, .i32⟩
  | 77 => ⟨S128x16384x4, .i32⟩
  | 78 => ⟨S_, .i32⟩
  | 79 => ⟨S128x16384x4, .i32⟩
  | 80 => ⟨S128x16384x4, .i32⟩
  | 81 => ⟨S_, .i32⟩
  | 82 => ⟨S128x16384x4, .i32⟩
  | 83 => ⟨S128x16384x4, .i32⟩
  | 84 => ⟨S128x16384x4, .i32⟩
  | 85 => ⟨S128x16384x4, .i32⟩
  | 86 => ⟨S128x16384x4, .i32⟩
  | 87 => ⟨S_, .i32⟩
  | 88 => ⟨S128x16384x4, .i32⟩
  | 89 => ⟨S128x16384x4, .i32⟩
  | 90 => ⟨S_, .i32⟩
  | 91 => ⟨S128x16384x4, .i32⟩
  | 92 => ⟨S128x16384x4, .i32⟩
  | 93 => ⟨S128x16384x4, .i32⟩
  | 94 => ⟨S128x16384x4, .i32⟩
  | 95 => ⟨S128x16384x4, .i32⟩
  | 96 => ⟨S128x16384x4, .i32⟩
  | 97 => ⟨S128x16384x4, .i32⟩
  | 98 => ⟨S128x16384x4, .i32⟩
  | 99 => ⟨S_, .i32⟩
  | 100 => ⟨S128x16384x4, .i32⟩
  | 101 => ⟨S128x16384x4, .i32⟩
  | 102 => ⟨S128x16384x4, .i32⟩
  | 103 => ⟨S_, .i32⟩
  | 104 => ⟨S128x16384x4, .i32⟩
  | 105 => ⟨S128x16384x4, .i32⟩
  | 106 => ⟨S_, .i32⟩
  | 107 => ⟨S128x16384x4, .i32⟩
  | 108 => ⟨S128x16384x4, .i32⟩
  | 109 => ⟨S128x16384x4, .i32⟩
  | 110 => ⟨S128x16384x4, .i32⟩
  | 111 => ⟨S128x16384x4, .i32⟩
  | 112 => ⟨S_, .i32⟩
  | 113 => ⟨S128x16384x4, .i32⟩
  | 114 => ⟨S128x16384x4, .i32⟩
  | 115 => ⟨S_, .i32⟩
  | 116 => ⟨S128x16384x4, .i32⟩
  | 117 => ⟨S128x16384x4, .i32⟩
  | 118 => ⟨S128x16384x4, .i32⟩
  | 119 => ⟨S128x16384x4, .i32⟩
  | 120 => ⟨S128x16384x4, .i32⟩
  | 121 => ⟨S_, .i32⟩
  | 122 => ⟨S128x16384x4, .i32⟩
  | 123 => ⟨S128x16384x4, .i32⟩
  | 124 => ⟨S_, .i32⟩
  | 125 => ⟨S128x16384x4, .i32⟩
  | 126 => ⟨S128x16384x4, .i32⟩
  | 127 => ⟨S128x16384x4, .i32⟩
  | _ => ⟨S16384x128, .f32⟩

abbrev hbmTy0_2 (i : Nat) : BufTy := match i % 128 with
  | 0 => ⟨S128x16384x4, .i32⟩
  | 1 => ⟨S128x16384x4, .i32⟩
  | 2 => ⟨S_, .i32⟩
  | 3 => ⟨S128x16384x4, .i32⟩
  | 4 => ⟨S128x16384x4, .i32⟩
  | 5 => ⟨S_, .i32⟩
  | 6 => ⟨S128x16384x4, .i32⟩
  | 7 => ⟨S128x16384x4, .i32⟩
  | 8 => ⟨S128x16384x4, .i32⟩
  | 9 => ⟨S128x16384x4, .i32⟩
  | 10 => ⟨S128x16384x4, .i32⟩
  | 11 => ⟨S128x16384x4, .i32⟩
  | 12 => ⟨S128x16384x4, .i32⟩
  | 13 => ⟨S128x16384x4, .i32⟩
  | 14 => ⟨S_, .i32⟩
  | 15 => ⟨S128x16384x4, .i32⟩
  | 16 => ⟨S128x16384x4, .i32⟩
  | 17 => ⟨S128x16384x4, .i32⟩
  | 18 => ⟨S_, .i32⟩
  | 19 => ⟨S128x16384x4, .i32⟩
  | 20 => ⟨S128x16384x4, .i32⟩
  | 21 => ⟨S_, .i32⟩
  | 22 => ⟨S128x16384x4, .i32⟩
  | 23 => ⟨S128x16384x4, .i32⟩
  | 24 => ⟨S128x16384x4, .i32⟩
  | 25 => ⟨S128x16384x4, .i32⟩
  | 26 => ⟨S128x16384x4, .i32⟩
  | 27 => ⟨S_, .i32⟩
  | 28 => ⟨S128x16384x4, .i32⟩
  | 29 => ⟨S128x16384x4, .i32⟩
  | 30 => ⟨S_, .i32⟩
  | 31 => ⟨S128x16384x4, .i32⟩
  | 32 => ⟨S128x16384x4, .i32⟩
  | 33 => ⟨S128x16384x4, .i32⟩
  | 34 => ⟨S128x16384x4, .i32⟩
  | 35 => ⟨S128x16384x4, .i32⟩
  | 36 => ⟨S_, .i32⟩
  | 37 => ⟨S128x16384x4, .i32⟩
  | 38 => ⟨S128x16384x4, .i32⟩
  | 39 => ⟨S_, .i32⟩
  | 40 => ⟨S128x16384x4, .i32⟩
  | 41 => ⟨S128x16384x4, .i32⟩
  | 42 => ⟨S128x16384x4, .i32⟩
  | 43 => ⟨S128x16384x4, .i32⟩
  | 44 => ⟨S128x16384x4, .i32⟩
  | 45 => ⟨S_, .i32⟩
  | 46 => ⟨S128x16384x4, .i32⟩
  | 47 => ⟨S128x16384x4, .i32⟩
  | 48 => ⟨S_, .i32⟩
  | 49 => ⟨S128x16384x4, .i32⟩
  | 50 => ⟨S128x16384x4, .i32⟩
  | 51 => ⟨S128x16384x4, .i32⟩
  | 52 => ⟨S128x16384x4, .i32⟩
  | 53 => ⟨S128x16384x4, .i32⟩
  | 54 => ⟨S128x16384x4, .i32⟩
  | 55 => ⟨S128x16384x4, .i32⟩
  | 56 => ⟨S128x16384x4, .i32⟩
  | 57 => ⟨S_, .i32⟩
  | 58 => ⟨S128x16384x4, .i32⟩
  | 59 => ⟨S128x16384x4, .i32⟩
  | 60 => ⟨S128x16384x4, .i32⟩
  | 61 => ⟨S_, .i32⟩
  | 62 => ⟨S128x16384x4, .i32⟩
  | 63 => ⟨S128x16384x4, .i32⟩
  | 64 => ⟨S_, .i32⟩
  | 65 => ⟨S128x16384x4, .i32⟩
  | 66 => ⟨S128x16384x4, .i32⟩
  | 67 => ⟨S128x16384x4, .f32⟩
  | 68 => ⟨S_, .f32⟩
  | 69 => ⟨S128x16384x4, .f32⟩
  | 70 => ⟨S128x16384x4, .f32⟩
  | 71 => ⟨S1x1x1, .f32⟩
  | 72 => ⟨S128x16384x4, .f32⟩
  | 73 => ⟨S128x16384x4, .f32⟩
  | 74 => ⟨S128x16384x4, .f32⟩
  | 75 => ⟨S128x16384x4, .f32⟩
  | 76 => ⟨S128x16384x4, .f32⟩
  | 77 => ⟨S128x16384x4, .f32⟩
  | 78 => ⟨S128x16384x4, .f32⟩
  | 79 => ⟨S128x16384x4, .f32⟩
  | 80 => ⟨S128x16384x4, .f32⟩
  | 81 => ⟨S128x16384x4, .f32⟩
  | 82 => ⟨S1x16384x4, .f32⟩
  | 83 => ⟨S128x16384x4, .f32⟩
  | 84 => ⟨S128x16384x4, .f32⟩
  | 85 => ⟨S128x16384x4, .i32⟩
  | 86 => ⟨S_, .f32⟩
  | 87 => ⟨S_, .i32⟩
  | 88 => ⟨S128x16384, .f32⟩
  | 89 => ⟨S128x16384, .i32⟩
  | 90 => ⟨S16384x128, .i32⟩
  | 91 => ⟨S16384x128x1, .i32⟩
  | 92 => ⟨S1x1x4, .i32⟩
  | 93 => ⟨S16384x128x4, .i32⟩
  | 94 => ⟨S16384x128x4, .i32⟩
  | 95 => ⟨S16384x128x4, .i1⟩
  | 96 => ⟨S16384x128x4, .f32⟩
  | 97 => ⟨S16384x128x4, .f32⟩
  | 98 => ⟨S_, .f32⟩
  | 99 => ⟨S16384x128, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_cst : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_c_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call4_cst : Ref sig .tc := ⟨.hbm, 66, rfl⟩
abbrev main_call4_cst_0 : Ref sig .tc := ⟨.hbm, 67, rfl⟩
abbrev main_call4_call0_v0 : Ref sig .tc := ⟨.hbm, 68, rfl⟩
abbrev main_call4_call0_v1 : Ref sig .tc := ⟨.hbm, 69, rfl⟩
abbrev main_call4_call0_v2 : Ref sig .tc := ⟨.hbm, 70, rfl⟩
abbrev main_call4_call0_v3 : Ref sig .tc := ⟨.hbm, 71, rfl⟩
abbrev main_call4_call0_v4 : Ref sig .tc := ⟨.hbm, 72, rfl⟩
abbrev main_call4_call0_v5 : Ref sig .tc := ⟨.hbm, 73, rfl⟩
abbrev main_call4_call0_v6 : Ref sig .tc := ⟨.hbm, 74, rfl⟩
abbrev main_call4_call0_v7 : Ref sig .tc := ⟨.hbm, 75, rfl⟩
abbrev main_call4_call0_v8 : Ref sig .tc := ⟨.hbm, 76, rfl⟩
abbrev main_call4_call0_v9 : Ref sig .tc := ⟨.hbm, 77, rfl⟩
abbrev main_call4_call0_c : Ref sig .tc := ⟨.hbm, 78, rfl⟩
abbrev main_call4_call0_v10 : Ref sig .tc := ⟨.hbm, 79, rfl⟩
abbrev main_call4_call0_v11 : Ref sig .tc := ⟨.hbm, 80, rfl⟩
abbrev main_call4_call0_c_0 : Ref sig .tc := ⟨.hbm, 81, rfl⟩
abbrev main_call4_call0_v12 : Ref sig .tc := ⟨.hbm, 82, rfl⟩
abbrev main_call4_call0_v13 : Ref sig .tc := ⟨.hbm, 83, rfl⟩
abbrev main_call4_call0_c_1 : Ref sig .tc := ⟨.hbm, 84, rfl⟩
abbrev main_call4_call0_v14 : Ref sig .tc := ⟨.hbm, 85, rfl⟩
abbrev main_call4_call0_v15 : Ref sig .tc := ⟨.hbm, 86, rfl⟩
abbrev main_call4_call0_v16 : Ref sig .tc := ⟨.hbm, 87, rfl⟩
abbrev main_call4_call0_v17 : Ref sig .tc := ⟨.hbm, 88, rfl⟩
abbrev main_call4_call0_c_2 : Ref sig .tc := ⟨.hbm, 89, rfl⟩
abbrev main_call4_call0_v18 : Ref sig .tc := ⟨.hbm, 90, rfl⟩
abbrev main_call4_call0_v19 : Ref sig .tc := ⟨.hbm, 91, rfl⟩
abbrev main_call4_call0_v20 : Ref sig .tc := ⟨.hbm, 92, rfl⟩
abbrev main_call4_call0_v21 : Ref sig .tc := ⟨.hbm, 93, rfl⟩
abbrev main_call4_call0_call0_v0 : Ref sig .tc := ⟨.hbm, 94, rfl⟩
abbrev main_call4_call0_call0_c : Ref sig .tc := ⟨.hbm, 95, rfl⟩
abbrev main_call4_call0_call0_v1 : Ref sig .tc := ⟨.hbm, 96, rfl⟩
abbrev main_call4_call0_call0_v2 : Ref sig .tc := ⟨.hbm, 97, rfl⟩
abbrev main_call4_call0_call0_v3 : Ref sig .tc := ⟨.hbm, 98, rfl⟩
abbrev main_call4_call0_call0_v4 : Ref sig .tc := ⟨.hbm, 99, rfl⟩
abbrev main_call4_call0_call0_v5 : Ref sig .tc := ⟨.hbm, 100, rfl⟩
abbrev main_call4_call0_call0_v6 : Ref sig .tc := ⟨.hbm, 101, rfl⟩
abbrev main_call4_call0_call0_c_0 : Ref sig .tc := ⟨.hbm, 102, rfl⟩
abbrev main_call4_call0_call0_v7 : Ref sig .tc := ⟨.hbm, 103, rfl⟩
abbrev main_call4_call0_call0_v8 : Ref sig .tc := ⟨.hbm, 104, rfl⟩
abbrev main_call4_call0_call0_c_1 : Ref sig .tc := ⟨.hbm, 105, rfl⟩
abbrev main_call4_call0_call0_v9 : Ref sig .tc := ⟨.hbm, 106, rfl⟩
abbrev main_call4_call0_call0_v10 : Ref sig .tc := ⟨.hbm, 107, rfl⟩
abbrev main_call4_call0_call0_v11 : Ref sig .tc := ⟨.hbm, 108, rfl⟩
abbrev main_call4_call0_call0_v12 : Ref sig .tc := ⟨.hbm, 109, rfl⟩
abbrev main_call4_call0_call0_v13 : Ref sig .tc := ⟨.hbm, 110, rfl⟩
abbrev main_call4_call0_call0_c_2 : Ref sig .tc := ⟨.hbm, 111, rfl⟩
abbrev main_call4_call0_call0_v14 : Ref sig .tc := ⟨.hbm, 112, rfl⟩
abbrev main_call4_call0_call0_v15 : Ref sig .tc := ⟨.hbm, 113, rfl⟩
abbrev main_call4_call0_call0_c_3 : Ref sig .tc := ⟨.hbm, 114, rfl⟩
abbrev main_call4_call0_call0_v16 : Ref sig .tc := ⟨.hbm, 115, rfl⟩
abbrev main_call4_call0_call0_v17 : Ref sig .tc := ⟨.hbm, 116, rfl⟩
abbrev main_call4_call0_call0_v18 : Ref sig .tc := ⟨.hbm, 117, rfl⟩
abbrev main_call4_call0_call0_v19 : Ref sig .tc := ⟨.hbm, 118, rfl⟩
abbrev main_call4_call0_call0_v20 : Ref sig .tc := ⟨.hbm, 119, rfl⟩
abbrev main_call4_call0_call0_c_4 : Ref sig .tc := ⟨.hbm, 120, rfl⟩
abbrev main_call4_call0_call0_v21 : Ref sig .tc := ⟨.hbm, 121, rfl⟩
abbrev main_call4_call0_call0_v22 : Ref sig .tc := ⟨.hbm, 122, rfl⟩
abbrev main_call4_call0_call0_c_5 : Ref sig .tc := ⟨.hbm, 123, rfl⟩
abbrev main_call4_call0_call0_v23 : Ref sig .tc := ⟨.hbm, 124, rfl⟩
abbrev main_call4_call0_call0_v24 : Ref sig .tc := ⟨.hbm, 125, rfl⟩
abbrev main_call4_call0_call0_v25 : Ref sig .tc := ⟨.hbm, 126, rfl⟩
abbrev main_call4_call0_call0_v26 : Ref sig .tc := ⟨.hbm, 127, rfl⟩
abbrev main_call4_call0_call0_v27 : Ref sig .tc := ⟨.hbm, 128, rfl⟩
abbrev main_call4_call0_call0_c_6 : Ref sig .tc := ⟨.hbm, 129, rfl⟩
abbrev main_call4_call0_call0_v28 : Ref sig .tc := ⟨.hbm, 130, rfl⟩
abbrev main_call4_call0_call0_v29 : Ref sig .tc := ⟨.hbm, 131, rfl⟩
abbrev main_call4_call0_call0_c_7 : Ref sig .tc := ⟨.hbm, 132, rfl⟩
abbrev main_call4_call0_call0_v30 : Ref sig .tc := ⟨.hbm, 133, rfl⟩
abbrev main_call4_call0_call0_v31 : Ref sig .tc := ⟨.hbm, 134, rfl⟩
abbrev main_call4_call0_call0_v32 : Ref sig .tc := ⟨.hbm, 135, rfl⟩
abbrev main_call4_call0_call0_v33 : Ref sig .tc := ⟨.hbm, 136, rfl⟩
abbrev main_call4_call0_call0_v34 : Ref sig .tc := ⟨.hbm, 137, rfl⟩
abbrev main_call4_call0_call0_v35 : Ref sig .tc := ⟨.hbm, 138, rfl⟩
abbrev main_call4_call0_call0_v36 : Ref sig .tc := ⟨.hbm, 139, rfl⟩
abbrev main_call4_call0_call0_v37 : Ref sig .tc := ⟨.hbm, 140, rfl⟩
abbrev main_call4_call0_call0_c_8 : Ref sig .tc := ⟨.hbm, 141, rfl⟩
abbrev main_call4_call0_call0_v38 : Ref sig .tc := ⟨.hbm, 142, rfl⟩
abbrev main_call4_call0_call0_v39 : Ref sig .tc := ⟨.hbm, 143, rfl⟩
abbrev main_call4_call0_call0_v40 : Ref sig .tc := ⟨.hbm, 144, rfl⟩
abbrev main_call4_call0_call0_c_9 : Ref sig .tc := ⟨.hbm, 145, rfl⟩
abbrev main_call4_call0_call0_v41 : Ref sig .tc := ⟨.hbm, 146, rfl⟩
abbrev main_call4_call0_call0_v42 : Ref sig .tc := ⟨.hbm, 147, rfl⟩
abbrev main_call4_call0_call0_c_10 : Ref sig .tc := ⟨.hbm, 148, rfl⟩
abbrev main_call4_call0_call0_v43 : Ref sig .tc := ⟨.hbm, 149, rfl⟩
abbrev main_call4_call0_call0_v44 : Ref sig .tc := ⟨.hbm, 150, rfl⟩
abbrev main_call4_call0_call0_v45 : Ref sig .tc := ⟨.hbm, 151, rfl⟩
abbrev main_call4_call0_call0_v46 : Ref sig .tc := ⟨.hbm, 152, rfl⟩
abbrev main_call4_call0_call0_v47 : Ref sig .tc := ⟨.hbm, 153, rfl⟩
abbrev main_call4_call0_call0_c_11 : Ref sig .tc := ⟨.hbm, 154, rfl⟩
abbrev main_call4_call0_call0_v48 : Ref sig .tc := ⟨.hbm, 155, rfl⟩
abbrev main_call4_call0_call0_v49 : Ref sig .tc := ⟨.hbm, 156, rfl⟩
abbrev main_call4_call0_call0_c_12 : Ref sig .tc := ⟨.hbm, 157, rfl⟩
abbrev main_call4_call0_call0_v50 : Ref sig .tc := ⟨.hbm, 158, rfl⟩
abbrev main_call4_call0_call0_v51 : Ref sig .tc := ⟨.hbm, 159, rfl⟩
abbrev main_call4_call0_call0_v52 : Ref sig .tc := ⟨.hbm, 160, rfl⟩
abbrev main_call4_call0_call0_v53 : Ref sig .tc := ⟨.hbm, 161, rfl⟩
abbrev main_call4_call0_call0_v54 : Ref sig .tc := ⟨.hbm, 162, rfl⟩
abbrev main_call4_call0_call0_c_13 : Ref sig .tc := ⟨.hbm, 163, rfl⟩
abbrev main_call4_call0_call0_v55 : Ref sig .tc := ⟨.hbm, 164, rfl⟩
abbrev main_call4_call0_call0_v56 : Ref sig .tc := ⟨.hbm, 165, rfl⟩
abbrev main_call4_call0_call0_c_14 : Ref sig .tc := ⟨.hbm, 166, rfl⟩
abbrev main_call4_call0_call0_v57 : Ref sig .tc := ⟨.hbm, 167, rfl⟩
abbrev main_call4_call0_call0_v58 : Ref sig .tc := ⟨.hbm, 168, rfl⟩
abbrev main_call4_call0_call0_v59 : Ref sig .tc := ⟨.hbm, 169, rfl⟩
abbrev main_call4_call0_call0_v60 : Ref sig .tc := ⟨.hbm, 170, rfl⟩
abbrev main_call4_call0_call0_v61 : Ref sig .tc := ⟨.hbm, 171, rfl⟩
abbrev main_call4_call0_call0_c_15 : Ref sig .tc := ⟨.hbm, 172, rfl⟩
abbrev main_call4_call0_call0_v62 : Ref sig .tc := ⟨.hbm, 173, rfl⟩
abbrev main_call4_call0_call0_v63 : Ref sig .tc := ⟨.hbm, 174, rfl⟩
abbrev main_call4_call0_call0_c_16 : Ref sig .tc := ⟨.hbm, 175, rfl⟩
abbrev main_call4_call0_call0_v64 : Ref sig .tc := ⟨.hbm, 176, rfl⟩
abbrev main_call4_call0_call0_v65 : Ref sig .tc := ⟨.hbm, 177, rfl⟩
abbrev main_call4_call0_call0_v66 : Ref sig .tc := ⟨.hbm, 178, rfl⟩
abbrev main_call4_call0_call0_v67 : Ref sig .tc := ⟨.hbm, 179, rfl⟩
abbrev main_call4_call0_call0_v68 : Ref sig .tc := ⟨.hbm, 180, rfl⟩
abbrev main_call4_call0_call0_v69 : Ref sig .tc := ⟨.hbm, 181, rfl⟩
abbrev main_call4_call0_call0_v70 : Ref sig .tc := ⟨.hbm, 182, rfl⟩
abbrev main_call4_call0_call0_v71 : Ref sig .tc := ⟨.hbm, 183, rfl⟩
abbrev main_call4_call0_call0_c_17 : Ref sig .tc := ⟨.hbm, 184, rfl⟩
abbrev main_call4_call0_call0_v72 : Ref sig .tc := ⟨.hbm, 185, rfl⟩
abbrev main_call4_call0_call0_v73 : Ref sig .tc := ⟨.hbm, 186, rfl⟩
abbrev main_call4_call0_call0_v74 : Ref sig .tc := ⟨.hbm, 187, rfl⟩
abbrev main_call4_call0_call0_c_18 : Ref sig .tc := ⟨.hbm, 188, rfl⟩
abbrev main_call4_call0_call0_v75 : Ref sig .tc := ⟨.hbm, 189, rfl⟩
abbrev main_call4_call0_call0_v76 : Ref sig .tc := ⟨.hbm, 190, rfl⟩
abbrev main_call4_call0_call0_c_19 : Ref sig .tc := ⟨.hbm, 191, rfl⟩
abbrev main_call4_call0_call0_v77 : Ref sig .tc := ⟨.hbm, 192, rfl⟩
abbrev main_call4_call0_call0_v78 : Ref sig .tc := ⟨.hbm, 193, rfl⟩
abbrev main_call4_call0_call0_v79 : Ref sig .tc := ⟨.hbm, 194, rfl⟩
abbrev main_call4_call0_call0_v80 : Ref sig .tc := ⟨.hbm, 195, rfl⟩
abbrev main_call4_call0_call0_v81 : Ref sig .tc := ⟨.hbm, 196, rfl⟩
abbrev main_call4_call0_call0_c_20 : Ref sig .tc := ⟨.hbm, 197, rfl⟩
abbrev main_call4_call0_call0_v82 : Ref sig .tc := ⟨.hbm, 198, rfl⟩
abbrev main_call4_call0_call0_v83 : Ref sig .tc := ⟨.hbm, 199, rfl⟩
abbrev main_call4_call0_call0_c_21 : Ref sig .tc := ⟨.hbm, 200, rfl⟩
abbrev main_call4_call0_call0_v84 : Ref sig .tc := ⟨.hbm, 201, rfl⟩
abbrev main_call4_call0_call0_v85 : Ref sig .tc := ⟨.hbm, 202, rfl⟩
abbrev main_call4_call0_call0_v86 : Ref sig .tc := ⟨.hbm, 203, rfl⟩
abbrev main_call4_call0_call0_v87 : Ref sig .tc := ⟨.hbm, 204, rfl⟩
abbrev main_call4_call0_call0_v88 : Ref sig .tc := ⟨.hbm, 205, rfl⟩
abbrev main_call4_call0_call0_c_22 : Ref sig .tc := ⟨.hbm, 206, rfl⟩
abbrev main_call4_call0_call0_v89 : Ref sig .tc := ⟨.hbm, 207, rfl⟩
abbrev main_call4_call0_call0_v90 : Ref sig .tc := ⟨.hbm, 208, rfl⟩
abbrev main_call4_call0_call0_c_23 : Ref sig .tc := ⟨.hbm, 209, rfl⟩
abbrev main_call4_call0_call0_v91 : Ref sig .tc := ⟨.hbm, 210, rfl⟩
abbrev main_call4_call0_call0_v92 : Ref sig .tc := ⟨.hbm, 211, rfl⟩
abbrev main_call4_call0_call0_v93 : Ref sig .tc := ⟨.hbm, 212, rfl⟩
abbrev main_call4_call0_call0_v94 : Ref sig .tc := ⟨.hbm, 213, rfl⟩
abbrev main_call4_call0_call0_v95 : Ref sig .tc := ⟨.hbm, 214, rfl⟩
abbrev main_call4_call0_call0_c_24 : Ref sig .tc := ⟨.hbm, 215, rfl⟩
abbrev main_call4_call0_call0_v96 : Ref sig .tc := ⟨.hbm, 216, rfl⟩
abbrev main_call4_call0_call0_v97 : Ref sig .tc := ⟨.hbm, 217, rfl⟩
abbrev main_call4_call0_call0_c_25 : Ref sig .tc := ⟨.hbm, 218, rfl⟩
abbrev main_call4_call0_call0_v98 : Ref sig .tc := ⟨.hbm, 219, rfl⟩
abbrev main_call4_call0_call0_v99 : Ref sig .tc := ⟨.hbm, 220, rfl⟩
abbrev main_call4_call0_call0_v100 : Ref sig .tc := ⟨.hbm, 221, rfl⟩
abbrev main_call4_call0_call0_v101 : Ref sig .tc := ⟨.hbm, 222, rfl⟩
abbrev main_call4_call0_call0_v102 : Ref sig .tc := ⟨.hbm, 223, rfl⟩
abbrev main_call4_call0_call0_v103 : Ref sig .tc := ⟨.hbm, 224, rfl⟩
abbrev main_call4_call0_call0_v104 : Ref sig .tc := ⟨.hbm, 225, rfl⟩
abbrev main_call4_call0_call0_v105 : Ref sig .tc := ⟨.hbm, 226, rfl⟩
abbrev main_call4_call0_call0_c_26 : Ref sig .tc := ⟨.hbm, 227, rfl⟩
abbrev main_call4_call0_call0_v106 : Ref sig .tc := ⟨.hbm, 228, rfl⟩
abbrev main_call4_call0_call0_v107 : Ref sig .tc := ⟨.hbm, 229, rfl⟩
abbrev main_call4_call0_call0_v108 : Ref sig .tc := ⟨.hbm, 230, rfl⟩
abbrev main_call4_call0_call0_c_27 : Ref sig .tc := ⟨.hbm, 231, rfl⟩
abbrev main_call4_call0_call0_v109 : Ref sig .tc := ⟨.hbm, 232, rfl⟩
abbrev main_call4_call0_call0_v110 : Ref sig .tc := ⟨.hbm, 233, rfl⟩
abbrev main_call4_call0_call0_c_28 : Ref sig .tc := ⟨.hbm, 234, rfl⟩
abbrev main_call4_call0_call0_v111 : Ref sig .tc := ⟨.hbm, 235, rfl⟩
abbrev main_call4_call0_call0_v112 : Ref sig .tc := ⟨.hbm, 236, rfl⟩
abbrev main_call4_call0_call0_v113 : Ref sig .tc := ⟨.hbm, 237, rfl⟩
abbrev main_call4_call0_call0_v114 : Ref sig .tc := ⟨.hbm, 238, rfl⟩
abbrev main_call4_call0_call0_v115 : Ref sig .tc := ⟨.hbm, 239, rfl⟩
abbrev main_call4_call0_call0_c_29 : Ref sig .tc := ⟨.hbm, 240, rfl⟩
abbrev main_call4_call0_call0_v116 : Ref sig .tc := ⟨.hbm, 241, rfl⟩
abbrev main_call4_call0_call0_v117 : Ref sig .tc := ⟨.hbm, 242, rfl⟩
abbrev main_call4_call0_call0_c_30 : Ref sig .tc := ⟨.hbm, 243, rfl⟩
abbrev main_call4_call0_call0_v118 : Ref sig .tc := ⟨.hbm, 244, rfl⟩
abbrev main_call4_call0_call0_v119 : Ref sig .tc := ⟨.hbm, 245, rfl⟩
abbrev main_call4_call0_call0_v120 : Ref sig .tc := ⟨.hbm, 246, rfl⟩
abbrev main_call4_call0_call0_v121 : Ref sig .tc := ⟨.hbm, 247, rfl⟩
abbrev main_call4_call0_call0_v122 : Ref sig .tc := ⟨.hbm, 248, rfl⟩
abbrev main_call4_call0_call0_c_31 : Ref sig .tc := ⟨.hbm, 249, rfl⟩
abbrev main_call4_call0_call0_v123 : Ref sig .tc := ⟨.hbm, 250, rfl⟩
abbrev main_call4_call0_call0_v124 : Ref sig .tc := ⟨.hbm, 251, rfl⟩
abbrev main_call4_call0_call0_c_32 : Ref sig .tc := ⟨.hbm, 252, rfl⟩
abbrev main_call4_call0_call0_v125 : Ref sig .tc := ⟨.hbm, 253, rfl⟩
abbrev main_call4_call0_call0_v126 : Ref sig .tc := ⟨.hbm, 254, rfl⟩
abbrev main_call4_call0_call0_v127 : Ref sig .tc := ⟨.hbm, 255, rfl⟩
abbrev main_call4_call0_call0_v128 : Ref sig .tc := ⟨.hbm, 256, rfl⟩
abbrev main_call4_call0_call0_v129 : Ref sig .tc := ⟨.hbm, 257, rfl⟩
abbrev main_call4_call0_call0_c_33 : Ref sig .tc := ⟨.hbm, 258, rfl⟩
abbrev main_call4_call0_call0_v130 : Ref sig .tc := ⟨.hbm, 259, rfl⟩
abbrev main_call4_call0_call0_v131 : Ref sig .tc := ⟨.hbm, 260, rfl⟩
abbrev main_call4_call0_call0_c_34 : Ref sig .tc := ⟨.hbm, 261, rfl⟩
abbrev main_call4_call0_call0_v132 : Ref sig .tc := ⟨.hbm, 262, rfl⟩
abbrev main_call4_call0_call0_v133 : Ref sig .tc := ⟨.hbm, 263, rfl⟩
abbrev main_call4_call0_call0_v134 : Ref sig .tc := ⟨.hbm, 264, rfl⟩
abbrev main_call4_call0_call0_v135 : Ref sig .tc := ⟨.hbm, 265, rfl⟩
abbrev main_call4_call0_call0_v136 : Ref sig .tc := ⟨.hbm, 266, rfl⟩
abbrev main_call4_call0_call0_v137 : Ref sig .tc := ⟨.hbm, 267, rfl⟩
abbrev main_call4_call0_call0_v138 : Ref sig .tc := ⟨.hbm, 268, rfl⟩
abbrev main_call4_call0_call0_v139 : Ref sig .tc := ⟨.hbm, 269, rfl⟩
abbrev main_call4_call0_call0_c_35 : Ref sig .tc := ⟨.hbm, 270, rfl⟩
abbrev main_call4_call0_call0_v140 : Ref sig .tc := ⟨.hbm, 271, rfl⟩
abbrev main_call4_call0_call0_v141 : Ref sig .tc := ⟨.hbm, 272, rfl⟩
abbrev main_call4_call0_call0_v142 : Ref sig .tc := ⟨.hbm, 273, rfl⟩
abbrev main_call4_call0_call0_c_36 : Ref sig .tc := ⟨.hbm, 274, rfl⟩
abbrev main_call4_call0_call0_v143 : Ref sig .tc := ⟨.hbm, 275, rfl⟩
abbrev main_call4_call0_call0_v144 : Ref sig .tc := ⟨.hbm, 276, rfl⟩
abbrev main_call4_call0_call0_c_37 : Ref sig .tc := ⟨.hbm, 277, rfl⟩
abbrev main_call4_call0_call0_v145 : Ref sig .tc := ⟨.hbm, 278, rfl⟩
abbrev main_call4_call0_call0_v146 : Ref sig .tc := ⟨.hbm, 279, rfl⟩
abbrev main_call4_call0_call0_v147 : Ref sig .tc := ⟨.hbm, 280, rfl⟩
abbrev main_call4_call0_call0_v148 : Ref sig .tc := ⟨.hbm, 281, rfl⟩
abbrev main_call4_call0_call0_v149 : Ref sig .tc := ⟨.hbm, 282, rfl⟩
abbrev main_call4_call0_call0_c_38 : Ref sig .tc := ⟨.hbm, 283, rfl⟩
abbrev main_call4_call0_call0_v150 : Ref sig .tc := ⟨.hbm, 284, rfl⟩
abbrev main_call4_call0_call0_v151 : Ref sig .tc := ⟨.hbm, 285, rfl⟩
abbrev main_call4_call0_call0_c_39 : Ref sig .tc := ⟨.hbm, 286, rfl⟩
abbrev main_call4_call0_call0_v152 : Ref sig .tc := ⟨.hbm, 287, rfl⟩
abbrev main_call4_call0_call0_v153 : Ref sig .tc := ⟨.hbm, 288, rfl⟩
abbrev main_call4_call0_call0_v154 : Ref sig .tc := ⟨.hbm, 289, rfl⟩
abbrev main_call4_call0_call0_v155 : Ref sig .tc := ⟨.hbm, 290, rfl⟩
abbrev main_call4_call0_call0_v156 : Ref sig .tc := ⟨.hbm, 291, rfl⟩
abbrev main_call4_call0_call0_c_40 : Ref sig .tc := ⟨.hbm, 292, rfl⟩
abbrev main_call4_call0_call0_v157 : Ref sig .tc := ⟨.hbm, 293, rfl⟩
abbrev main_call4_call0_call0_v158 : Ref sig .tc := ⟨.hbm, 294, rfl⟩
abbrev main_call4_call0_call0_c_41 : Ref sig .tc := ⟨.hbm, 295, rfl⟩
abbrev main_call4_call0_call0_v159 : Ref sig .tc := ⟨.hbm, 296, rfl⟩
abbrev main_call4_call0_call0_v160 : Ref sig .tc := ⟨.hbm, 297, rfl⟩
abbrev main_call4_call0_call0_v161 : Ref sig .tc := ⟨.hbm, 298, rfl⟩
abbrev main_call4_call0_call0_v162 : Ref sig .tc := ⟨.hbm, 299, rfl⟩
abbrev main_call4_call0_call0_v163 : Ref sig .tc := ⟨.hbm, 300, rfl⟩
abbrev main_call4_call0_call0_c_42 : Ref sig .tc := ⟨.hbm, 301, rfl⟩
abbrev main_call4_call0_call0_v164 : Ref sig .tc := ⟨.hbm, 302, rfl⟩
abbrev main_call4_call0_call0_v165 : Ref sig .tc := ⟨.hbm, 303, rfl⟩
abbrev main_call4_call0_call0_c_43 : Ref sig .tc := ⟨.hbm, 304, rfl⟩
abbrev main_call4_call0_call0_v166 : Ref sig .tc := ⟨.hbm, 305, rfl⟩
abbrev main_call4_call0_call0_v167 : Ref sig .tc := ⟨.hbm, 306, rfl⟩
abbrev main_call4_call0_call0_v168 : Ref sig .tc := ⟨.hbm, 307, rfl⟩
abbrev main_call4_call0_call0_v169 : Ref sig .tc := ⟨.hbm, 308, rfl⟩
abbrev main_call4_call0_call0_v170 : Ref sig .tc := ⟨.hbm, 309, rfl⟩
abbrev main_call4_call0_v22_0 : Ref sig .tc := ⟨.hbm, 310, rfl⟩
abbrev main_call4_call0_call0_v172 : Ref sig .tc := ⟨.hbm, 311, rfl⟩
abbrev main_call4_call0_call0_v173 : Ref sig .tc := ⟨.hbm, 312, rfl⟩
abbrev main_call4_call0_call0_c_44 : Ref sig .tc := ⟨.hbm, 313, rfl⟩
abbrev main_call4_call0_call0_v174 : Ref sig .tc := ⟨.hbm, 314, rfl⟩
abbrev main_call4_call0_v22_1 : Ref sig .tc := ⟨.hbm, 315, rfl⟩
abbrev main_call4_call0_v23 : Ref sig .tc := ⟨.hbm, 316, rfl⟩
abbrev main_call4_call0_c_3 : Ref sig .tc := ⟨.hbm, 317, rfl⟩
abbrev main_call4_call0_v24 : Ref sig .tc := ⟨.hbm, 318, rfl⟩
abbrev main_call4_call0_v25 : Ref sig .tc := ⟨.hbm, 319, rfl⟩
abbrev main_call4_call0_c_4 : Ref sig .tc := ⟨.hbm, 320, rfl⟩
abbrev main_call4_call0_v26 : Ref sig .tc := ⟨.hbm, 321, rfl⟩
abbrev main_call4_call0_v27 : Ref sig .tc := ⟨.hbm, 322, rfl⟩
abbrev main_call4_call0_v28 : Ref sig .tc := ⟨.hbm, 323, rfl⟩
abbrev main_call4_call0_cst : Ref sig .tc := ⟨.hbm, 324, rfl⟩
abbrev main_call4_call0_v29 : Ref sig .tc := ⟨.hbm, 325, rfl⟩
abbrev main_call4_call0_v30 : Ref sig .tc := ⟨.hbm, 326, rfl⟩
abbrev main_call4_call0_v31 : Ref sig .tc := ⟨.hbm, 327, rfl⟩
abbrev main_call4_call0_v32 : Ref sig .tc := ⟨.hbm, 328, rfl⟩
abbrev main_call4_call0_v33 : Ref sig .tc := ⟨.hbm, 329, rfl⟩
abbrev main_call4_call0_v34 : Ref sig .tc := ⟨.hbm, 330, rfl⟩
abbrev main_call4_call0_v35 : Ref sig .tc := ⟨.hbm, 331, rfl⟩
abbrev main_call4_call0_v36 : Ref sig .tc := ⟨.hbm, 332, rfl⟩
abbrev main_call4_v0 : Ref sig .tc := ⟨.hbm, 333, rfl⟩
abbrev main_call4_v1 : Ref sig .tc := ⟨.hbm, 334, rfl⟩
abbrev main_call4_v2 : Ref sig .tc := ⟨.hbm, 335, rfl⟩
abbrev main_call4_v3 : Ref sig .tc := ⟨.hbm, 336, rfl⟩
abbrev main_v40 : Ref sig .tc := ⟨.hbm, 337, rfl⟩
abbrev main_v41 : Ref sig .tc := ⟨.hbm, 338, rfl⟩
abbrev main_v42 : Ref sig .tc := ⟨.hbm, 339, rfl⟩
abbrev main_v43 : Ref sig .tc := ⟨.hbm, 340, rfl⟩
abbrev main_call5_v0 : Ref sig .tc := ⟨.hbm, 341, rfl⟩
abbrev main_call5_cst : Ref sig .tc := ⟨.hbm, 342, rfl⟩
abbrev main_call5_c : Ref sig .tc := ⟨.hbm, 343, rfl⟩
abbrev main_call5_v1_0 : Ref sig .tc := ⟨.hbm, 344, rfl⟩
abbrev main_v44 : Ref sig .tc := ⟨.hbm, 345, rfl⟩
abbrev main_v45 : Ref sig .tc := ⟨.hbm, 346, rfl⟩
abbrev main_call6_v0 : Ref sig .tc := ⟨.hbm, 347, rfl⟩
abbrev main_call6_v1 : Ref sig .tc := ⟨.hbm, 348, rfl⟩
abbrev main_call6_v2 : Ref sig .tc := ⟨.hbm, 349, rfl⟩
abbrev main_call6_v3 : Ref sig .tc := ⟨.hbm, 350, rfl⟩
abbrev main_call6_v4 : Ref sig .tc := ⟨.hbm, 351, rfl⟩
abbrev main_v46 : Ref sig .tc := ⟨.hbm, 352, rfl⟩
abbrev main_v47 : Ref sig .tc := ⟨.hbm, 353, rfl⟩
abbrev main_cst_4 : Ref sig .tc := ⟨.hbm, 354, rfl⟩
abbrev main_v48 : Ref sig .tc := ⟨.hbm, 355, rfl⟩

abbrev nD : Nat := 1
abbrev τ : Topo := Topo.v7x

variable {F : FTy → Type} [FloatOps F]
-- ==== Proof.Word.lean ====
module

public import Idealize.ShloMosaic.PureOps

@[expose] public section

/-! # The word a counter is turned into

One counter word `x` is turned into 23 random bits by the twenty rounds of the threefry generator under the fixed
key (0, 42): two words are added, the second is rotated and mixed into the sum, and after every fourth round a word
of the key is added to each. Everything here is about ONE word; the vector programs apply it at every lane. -/

namespace Cert.Noise

open Idealize.ShloMosaic

/-- A word rotated left by `r`, where `s = 32 - r`. -/
def rot (r s v : BitVec 32) : BitVec 32 := IntOp.ori (IntOp.shli .vector v r) (IntOp.shrui .vector v s)

/-- The first and the second word before the first round: the key added to the counter pair (0, x). -/
def a0 : BitVec 32 := IntOp.addi 0#32 0#32
def b0 (x : BitVec 32) : BitVec 32 := IntOp.addi x 42#32

/-! The two words after each round: `aN` is the sum, `bN` the rotated second word mixed into it. `cN` and `dN` are
    the words after the key's words are added behind round N. -/

def a1 (x : BitVec 32) : BitVec 32 := IntOp.addi a0 (b0 x)
def b1 (x : BitVec 32) : BitVec 32 := IntOp.xori (a1 x) (rot 13#32 19#32 (b0 x))
def a2 (x : BitVec 32) : BitVec 32 := IntOp.addi (a1 x) (b1 x)
def b2 (x : BitVec 32) : BitVec 32 := IntOp.xori (a2 x) (rot 15#32 17#32 (b1 x))
def a3 (x : BitVec 32) : BitVec 32 := IntOp.addi (a2 x) (b2 x)
def b3 (x : BitVec 32) : BitVec 32 := IntOp.xori (a3 x) (rot 26#32 6#32 (b2 x))
def a4 (x : BitVec 32) : BitVec 32 := IntOp.addi (a3 x) (b3 x)
def b4 (x : BitVec 32) : BitVec 32 := IntOp.xori (a4 x) (rot 6#32 26#32 (b3 x))
def c4 (x : BitVec 32) : BitVec 32 := IntOp.addi (a4 x) 42#32
def d4 (x : BitVec 32) : BitVec 32 := IntOp.addi (b4 x) 466689009#32
def a5 (x : BitVec 32) : BitVec 32 := IntOp.addi (c4 x) (d4 x)
def b5 (x : BitVec 32) : BitVec 32 := IntOp.xori (a5 x) (rot 17#32 15#32 (d4 x))
def a6 (x : BitVec 32) : BitVec 32 := IntOp.addi (a5 x) (b5 x)
def b6 (x : BitVec 32) : BitVec 32 := IntOp.xori (a6 x) (rot 29#32 3#32 (b5 x))
def a7 (x : BitVec 32) : BitVec 32 := IntOp.addi (a6 x) (b6 x)
def b7 (x : BitVec 32) : BitVec 32 := IntOp.xori (a7 x) (rot 16#32 16#32 (b6 x))
def a8 (x : BitVec 32) : BitVec 32 := IntOp.addi (a7 x) (b7 x)
def b8 (x : BitVec 32) : BitVec 32 := IntOp.xori (a8 x) (rot 24#32 8#32 (b7 x))
def c8 (x : BitVec 32) : BitVec 32 := IntOp.addi (a8 x) 466689008#32
def d8 (x : BitVec 32) : BitVec 32 := IntOp.addi (b8 x) 2#32
def a9 (x : BitVec 32) : BitVec 32 := IntOp.addi (c8 x) (d8 x)
def b9 (x : BitVec 32) : BitVec 32 := IntOp.xori (a9 x) (rot 13#32 19#32 (d8 x))
def a10 (x : BitVec 32) : BitVec 32 := IntOp.addi (a9 x) (b9 x)
def b10 (x : BitVec 32) : BitVec 32 := IntOp.xori (a10 x) (rot 15#32 17#32 (b9 x))
def a11 (x : BitVec 32) : BitVec 32 := IntOp.addi (a10 x) (b10 x)
def b11 (x : BitVec 32) : BitVec 32 := IntOp.xori (a11 x) (rot 26#32 6#32 (b10 x))
def a12 (x : BitVec 32) : BitVec 32 := IntOp.addi (a11 x) (b11 x)
def b12 (x : BitVec 32) : BitVec 32 := IntOp.xori (a12 x) (rot 6#32 26#32 (b11 x))
def c12 (x : BitVec 32) : BitVec 32 := IntOp.addi (a12 x) 0#32
def d12 (x : BitVec 32) : BitVec 32 := IntOp.addi (b12 x) 45#32
def a13 (x : BitVec 32) : BitVec 32 := IntOp.addi (c12 x) (d12 x)
def b13 (x : BitVec 32) : BitVec 32 := IntOp.xori (a13 x) (rot 17#32 15#32 (d12 x))
def a14 (x : BitVec 32) : BitVec 32 := IntOp.addi (a13 x) (b13 x)
def b14 (x : BitVec 32) : BitVec 32 := IntOp.xori (a14 x) (rot 29#32 3#32 (b13 x))
def a15 (x : BitVec 32) : BitVec 32 := IntOp.addi (a14 x) (b14 x)
def b15 (x : BitVec 32) : BitVec 32 := IntOp.xori (a15 x) (rot 16#32 16#32 (b14 x))
def a16 (x : BitVec 32) : BitVec 32 := IntOp.addi (a15 x) (b15 x)
def b16 (x : BitVec 32) : BitVec 32 := IntOp.xori (a16 x) (rot 24#32 8#32 (b15 x))
def c16 (x : BitVec 32) : BitVec 32 := IntOp.addi (a16 x) 42#32
def d16 (x : BitVec 32) : BitVec 32 := IntOp.addi (b16 x) 466689012#32
def a17 (x : BitVec 32) : BitVec 32 := IntOp.addi (c16 x) (d16 x)
def b17 (x : BitVec 32) : BitVec 32 := IntOp.xori (a17 x) (rot 13#32 19#32 (d16 x))
def a18 (x : BitVec 32) : BitVec 32 := IntOp.addi (a17 x) (b17 x)
def b18 (x : BitVec 32) : BitVec 32 := IntOp.xori (a18 x) (rot 15#32 17#32 (b17 x))
def a19 (x : BitVec 32) : BitVec 32 := IntOp.addi (a18 x) (b18 x)
def b19 (x : BitVec 32) : BitVec 32 := IntOp.xori (a19 x) (rot 26#32 6#32 (b18 x))
def a20 (x : BitVec 32) : BitVec 32 := IntOp.addi (a19 x) (b19 x)
def b20 (x : BitVec 32) : BitVec 32 := IntOp.xori (a20 x) (rot 6#32 26#32 (b19 x))
def c20 (x : BitVec 32) : BitVec 32 := IntOp.addi (a20 x) 466689008#32
def d20 (x : BitVec 32) : BitVec 32 := IntOp.addi (b20 x) 5#32

/-- The 32 random bits of counter `x`. -/
def bits (x : BitVec 32) : BitVec 32 := IntOp.xori (c20 x) (d20 x)

/-- The upper 23 of them: the mantissa the choice is made by. -/
def mant (x : BitVec 32) : BitVec 32 := IntOp.shrui .vector (bits x) 9#32

/-- The mantissa of feature `j` at the counter base `x`. -/
def mj (x j : BitVec 32) : BitVec 32 := mant (IntOp.addi x j)

/-- The largest mantissa of features 0 to 1, and of features 0 to 2, at counter base `x`. -/
def best1 (x : BitVec 32) : BitVec 32 := Scalar.select (IntOp.cmpi .sgt (mj x 1#32) (mj x 0#32)) (mj x 1#32) (mj x 0#32)
def best2 (x : BitVec 32) : BitVec 32 := Scalar.select (IntOp.cmpi .sgt (mj x 2#32) (best1 x)) (mj x 2#32) (best1 x)

/-- Of four values, the one at the feature whose mantissa is the largest, the first of equals: a later feature is
    taken only if its mantissa is strictly larger than the best before it. -/
def pick {α : Type} (x : BitVec 32) (e0 e1 e2 e3 : α) : α :=
  Scalar.select (IntOp.cmpi .sgt (mj x 3#32) (best2 x)) e3
    (Scalar.select (IntOp.cmpi .sgt (mj x 2#32) (best1 x)) e2
      (Scalar.select (IntOp.cmpi .sgt (mj x 1#32) (mj x 0#32)) e1 e0))

end Cert.Noise

end
-- ==== Proof.Bodies.lean ====
module

public import proofs.«01_k».proof.Proof.Word
public import proofs.«01_k».proof.Proof.Gen.KernelIdeal.Skeleton
public import Idealize.ShloMosaic.Lib.Pipeline.Regions

@[expose] public section

/-! # What the three kernel bodies store

Each printed body is cut into parts whose values run through hundreds of vector operations. Here each body is shown to
be a short program: its loads, and one store of a value written out as a function of what was loaded. -/

noncomputable section

namespace Cert.KernelIdeal.Bodies

open Cert.KernelIdeal Cert.KernelIdeal.Gen Idealize.ShloMosaic Idealize.SL.Sem

variable {F : FTy → Type} [FloatOps F]

/-! ## The SparseCore's body -/

/-- The 16 chosen features of one trip of the inner loop, one per lane: lane `y` picks by the counter word of that lane. -/
def picks (v6 : BitVec 32) (k0_t2 : Fin k0_t2_loop.trips) : IVec S1x16 32 :=
  shapeCast S1x16 (fun y => Noise.pick (k0_pay2 v6 0#32 1#32 k0_t2 y) 0#32 1#32 2#32 3#32) shapeCasts_S16_S1x16

/-- One trip of the inner loop: a load it does not use, and the store of the 16 chosen features. -/
theorem inner_eq (i : grid0.Coords) (arg2 : Memref sig .scVector .hbm S4096x128 .i32) (harg2 : arg2.IsWhole)
    (arg3 : Memref sig .scVector .vmem S128x128 .i32) (harg3 : arg3.IsWhole) (v4_r0 : DmaSems sig S_)
    (k0_t1 : Fin k0_t1_loop.trips) (v6 : BitVec 32) (k0_t2 : Fin k0_t2_loop.trips) :
    k0_t2_body (F := F) i arg2 harg2 arg3 harg3 v4_r0 k0_t1 v6 k0_t2 ⟨⟩ = (do
      let _ ← Prog.lift (.load arg3 (Rect.unit (s := S128x128) (k0_off1 k0_t1 k0_t2) S1x16.size (k0_off1_inb k0_t1 k0_t2)).toLoadRect (View.loadsAt_vmem h_S1x16))
      Prog.lift (.store arg3 (Rect.unit (s := S128x128) (k0_off1 k0_t1 k0_t2) S1x16.size (k0_off1_inb k0_t1 k0_t2)) (picks v6 k0_t2) Finset.univ (View.stores_vmem_bits_univ h_S1x16 rfl) (.inl rfl))
      pure ⟨⟩) := by
  chain_rfl

/-! ## The first TensorCore body -/

/-- Block `i` of the rows the TensorCore serves alone: at each index the pick, by that index's counter word, among the
    four features' values there. -/
def mainOut (i : grid1.Coords) (x0 x1 x2 x3 : Vec F S1024x128 .f32) (w0 w1 w2 w3 : Vec F S128x128 .f32)
    (b0 b1 b2 b3 : Vec F S1x128 .f32) : Vec F S1024x128 .f32 := fun y =>
  Noise.pick (k1_pay7 (BitVec.ofNat 32 (i 0).val) y) (k1_pay2 x0 w0 b0 y) (k1_pay2 x1 w1 b1 y) (k1_pay2 x2 w2 b2 y) (k1_pay2 x3 w3 b3 y)

/-- The body: it loads its twelve blocks, and stores `mainOut` of them. -/
theorem main_eq (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1024x128 .f32) (harg13 : arg13.IsWhole) :
    cc1__body_main (F := F) i arg1 harg1 arg2 harg2 arg3 harg3 arg4 harg4 arg5 harg5 arg6 harg6 arg7 harg7 arg8 harg8 arg9 harg9 arg10 harg10 arg11 harg11 arg12 harg12 arg13 harg13 = (do
      let x0 ← Prog.lift (.load arg1 (Rect.unit (s := S1024x128) ![0, 0] S1024x128.size inb_S1024x128_S1024x128_0_0).toLoadRect (View.loadsAt_vmem h_S1024x128))
      let w0 ← Prog.lift (.load arg5 (Rect.unit (s := S128x128) ![0, 0] S128x128.size inb_S128x128_S128x128_0_0).toLoadRect (View.loadsAt_vmem h_S128x128))
      let b0 ← Prog.lift (.load arg9 (Rect.unit (s := S1x128) ![0, 0] S1x128.size inb_S1x128_S1x128_0_0).toLoadRect (View.loadsAt_vmem h_S1x128))
      let x1 ← Prog.lift (.load arg2 (Rect.unit (s := S1024x128) ![0, 0] S1024x128.size inb_S1024x128_S1024x128_0_0).toLoadRect (View.loadsAt_vmem h_S1024x128))
      let w1 ← Prog.lift (.load arg6 (Rect.unit (s := S128x128) ![0, 0] S128x128.size inb_S128x128_S128x128_0_0).toLoadRect (View.loadsAt_vmem h_S128x128))
      let b1 ← Prog.lift (.load arg10 (Rect.unit (s := S1x128) ![0, 0] S1x128.size inb_S1x128_S1x128_0_0).toLoadRect (View.loadsAt_vmem h_S1x128))
      let x2 ← Prog.lift (.load arg3 (Rect.unit (s := S1024x128) ![0, 0] S1024x128.size inb_S1024x128_S1024x128_0_0).toLoadRect (View.loadsAt_vmem h_S1024x128))
      let w2 ← Prog.lift (.load arg7 (Rect.unit (s := S128x128) ![0, 0] S128x128.size inb_S128x128_S128x128_0_0).toLoadRect (View.loadsAt_vmem h_S128x128))
      let b2 ← Prog.lift (.load arg11 (Rect.unit (s := S1x128) ![0, 0] S1x128.size inb_S1x128_S1x128_0_0).toLoadRect (View.loadsAt_vmem h_S1x128))
      let x3 ← Prog.lift (.load arg4 (Rect.unit (s := S1024x128) ![0, 0] S1024x128.size inb_S1024x128_S1024x128_0_0).toLoadRect (View.loadsAt_vmem h_S1024x128))
      let w3 ← Prog.lift (.load arg8 (Rect.unit (s := S128x128) ![0, 0] S128x128.size inb_S128x128_S128x128_0_0).toLoadRect (View.loadsAt_vmem h_S128x128))
      let b3 ← Prog.lift (.load arg12 (Rect.unit (s := S1x128) ![0, 0] S1x128.size inb_S1x128_S1x128_0_0).toLoadRect (View.loadsAt_vmem h_S1x128))
      let _ ← Prog.lift (.load arg13 (Rect.unit (s := S1024x128) ![0, 0] S1024x128.size inb_S1024x128_S1024x128_0_0).toLoadRect (View.loadsAt_vmem h_S1024x128))
      Prog.lift (.store arg13 (Rect.unit (s := S1024x128) ![0, 0] S1024x128.size inb_S1024x128_S1024x128_0_0) (mainOut i x0 x1 x2 x3 w0 w1 w2 w3 b0 b1 b2 b3) Finset.univ (View.stores_vmem_bits_univ h_S1024x128 rfl) (.inl rfl))
      pure ⟨⟩) := by
  chain_rfl

/-! ## The second TensorCore body -/

/-- A block of the remaining rows: at each index the value of the feature the index array names there. -/
def selOut (c : Vec F S2048x128 .i32) (x0 x1 x2 x3 : Vec F S2048x128 .f32) (w0 w1 w2 w3 : Vec F S128x128 .f32)
    (b0 b1 b2 b3 : Vec F S1x128 .f32) : Vec F S2048x128 .f32 :=
  let cc : IVec S2048x128 32 := shapeCast S2048x128 c shapeCasts_S2048x128_S2048x128
  fun y => Scalar.select (IntOp.cmpi .eq (cc y) 3#32) (k2_pay2 x3 w3 b3 y)
    (Scalar.select (IntOp.cmpi .eq (cc y) 2#32) (k2_pay2 x2 w2 b2 y)
      (Scalar.select (IntOp.cmpi .eq (cc y) 1#32) (k2_pay2 x1 w1 b1 y) (k2_pay2 x0 w0 b0 y)))

/-- The body: it loads its thirteen blocks, and stores `selOut` of them; the array it is aliased with it does not touch. -/
theorem sel_eq (i : grid2.Coords) (arg1 : Memref sig .tc .hbm S16384x128 .f32) (harg1 : arg1.IsWhole) (arg2 : Memref sig .tc .vmem S2048x128 .i32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S2048x128 .f32) (harg15 : arg15.IsWhole) :
    cc2__body_sel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (do
      let x0 ← Prog.lift (.load arg3 (Rect.unit (s := S2048x128) ![0, 0] S2048x128.size inb_S2048x128_S2048x128_0_0).toLoadRect (View.loadsAt_vmem h_S2048x128))
      let w0 ← Prog.lift (.load arg7 (Rect.unit (s := S128x128) ![0, 0] S128x128.size inb_S128x128_S128x128_0_0).toLoadRect (View.loadsAt_vmem h_S128x128))
      let b0 ← Prog.lift (.load arg11 (Rect.unit (s := S1x128) ![0, 0] S1x128.size inb_S1x128_S1x128_0_0).toLoadRect (View.loadsAt_vmem h_S1x128))
      let x1 ← Prog.lift (.load arg4 (Rect.unit (s := S2048x128) ![0, 0] S2048x128.size inb_S2048x128_S2048x128_0_0).toLoadRect (View.loadsAt_vmem h_S2048x128))
      let w1 ← Prog.lift (.load arg8 (Rect.unit (s := S128x128) ![0, 0] S128x128.size inb_S128x128_S128x128_0_0).toLoadRect (View.loadsAt_vmem h_S128x128))
      let b1 ← Prog.lift (.load arg12 (Rect.unit (s := S1x128) ![0, 0] S1x128.size inb_S1x128_S1x128_0_0).toLoadRect (View.loadsAt_vmem h_S1x128))
      let x2 ← Prog.lift (.load arg5 (Rect.unit (s := S2048x128) ![0, 0] S2048x128.size inb_S2048x128_S2048x128_0_0).toLoadRect (View.loadsAt_vmem h_S2048x128))
      let w2 ← Prog.lift (.load arg9 (Rect.unit (s := S128x128) ![0, 0] S128x128.size inb_S128x128_S128x128_0_0).toLoadRect (View.loadsAt_vmem h_S128x128))
      let b2 ← Prog.lift (.load arg13 (Rect.unit (s := S1x128) ![0, 0] S1x128.size inb_S1x128_S1x128_0_0).toLoadRect (View.loadsAt_vmem h_S1x128))
      let x3 ← Prog.lift (.load arg6 (Rect.unit (s := S2048x128) ![0, 0] S2048x128.size inb_S2048x128_S2048x128_0_0).toLoadRect (View.loadsAt_vmem h_S2048x128))
      let w3 ← Prog.lift (.load arg10 (Rect.unit (s := S128x128) ![0, 0] S128x128.size inb_S128x128_S128x128_0_0).toLoadRect (View.loadsAt_vmem h_S128x128))
      let b3 ← Prog.lift (.load arg14 (Rect.unit (s := S1x128) ![0, 0] S1x128.size inb_S1x128_S1x128_0_0).toLoadRect (View.loadsAt_vmem h_S1x128))
      let c ← Prog.lift (.load arg2 (Rect.unit (s := S2048x128) ![0, 0] S2048x128.size inb_S2048x128_S2048x128_0_0).toLoadRect (View.loadsAt_vmem h_S2048x128))
      let _ ← Prog.lift (.load arg15 (Rect.unit (s := S2048x128) ![0, 0] S2048x128.size inb_S2048x128_S2048x128_0_0).toLoadRect (View.loadsAt_vmem h_S2048x128))
      Prog.lift (.store arg15 (Rect.unit (s := S2048x128) ![0, 0] S2048x128.size inb_S2048x128_S2048x128_0_0) (selOut c x0 x1 x2 x3 w0 w1 w2 w3 b0 b1 b2 b3) Finset.univ (View.stores_vmem_bits_univ h_S2048x128 rfl) (.inl rfl))
      pure ⟨⟩) := by
  chain_rfl

end Cert.KernelIdeal.Bodies

end
-- ==== Proof.Setup.lean ====
module

public import proofs.«01_k».proof.Defs
public import proofs.«01_k».proof.Proof.Bodies
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch

@[expose] public section

/-! # The launch's set-up

The program as its launch sees it, the algebra the proof keeps its ghost state in, the array the SparseCores fill, and
what each of their tasks is given and gives back. -/

noncomputable section

namespace Cert.Noise

open Idealize.ShloMosaic

/-- The counter word of row `r`, lane `e`, first feature: the four features of an entry take four words in a row, the
    rows follow one another, and the lanes are 65536 words apart. -/
def word (r e : ℕ) : BitVec 32 := BitVec.ofNat 32 (e * 65536 + r * 4)

/-- The feature chosen at row `r`, lane `e`. -/
def choice (r e : ℕ) : BitVec 32 := pick (word r e) 0#32 1#32 2#32 3#32

end Cert.Noise

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The array the SparseCores fill -/

variable (m : (ℓ : Loc nD τ sig) → Buf (Elt F) ℓ)

/-- The array of choices, as a location of device `d`. -/
abbrev cLoc (d : Dev nD) : Loc nD τ sig := (SparseCore.T d).loc main_v4

/-- The array of choices as a vector subcore's kernel is passed it, and the kernel's scratch. -/
local notation "cV" => (Memref.whole Cert.KernelIdeal.main_v4_scv : Memref Cert.KernelIdeal.sig Kind.scVector Space.hbm Cert.KernelIdeal.S4096x128 EltTy.i32)

/-- What the array of choices ends at: row `r` of it is row `12288 + r` of the whole batch. -/
def chosen (d : Dev nD) : Buf (Elt F) (cLoc d) := fun (y : S4096x128.Idx) => Noise.choice (12288 + (y 0).val) (y 1).val

/-- The 128 rows the task at grid point `L` writes. -/
abbrev rows (L : grid0.Coords) : Rect S4096x128 := Rect.unit (s := S4096x128) (k0_off2 L) S128x128.size (k0_off2_inb L)
abbrev rowSet (L : grid0.Coords) : Finset S4096x128.Idx := (rows L).set

/-- The grid point of SparseCore `c`, subcore `s`. -/
abbrev at₀ (c : Fin 2) (s : Fin 16) : grid0.Coords :=
  fun | 0 => c | 1 => s | ⟨_ + 2, h⟩ => absurd h (Nat.not_lt.2 (Nat.le_add_left _ _))

theorem nSub_zero : (K (F := F)).nSub 0 = 16 := rfl
theorem nCore_zero : (K (F := F)).nCore 0 = 2 := rfl

variable [FloatOps F]

/-! ## What the handshakes carry -/

abbrev rowPts (d : Dev nD) (c : Fin 2) (s : Fin 16) (f : Buf (Elt F) (cLoc d)) : sProp 𝕄 := cLoc d ↦[rowSet (at₀ c s)]{fullShare} f
abbrev corePts (d : Dev nD) (c : Fin 2) (f : Buf (Elt F) (cLoc d)) : sProp 𝕄 := bigSep Finset.univ fun s : Fin 16 => rowPts d c s f

/-- The call gives each SparseCore the rows of its sixteen tasks and each task its own 128 rows, at what they held at
    the start, and takes them back at the choices. -/
def P : (K (F := F)).Pay (nD := nD) (Val := Elt F) (Name := ℕ) (U := UU) where
  st := fun q d c => match q with | 0 => corePts d (Fin.cast nCore_zero c) (m (cLoc d))
  dn := fun q d c => match q with | 0 => corePts d (Fin.cast nCore_zero c) (chosen d)
  go := fun q d c i => match q with | 0 => rowPts d (Fin.cast nCore_zero c) (Fin.cast nSub_zero i) (m (cLoc d))
  td := fun q d c i => match q with | 0 => rowPts d (Fin.cast nCore_zero c) (Fin.cast nSub_zero i) (chosen d)
  x := fun _ _ => iprop(emp)

instance P_storable : (P (F := F) m).IsStorable where
  st q d c := match q with
    | 0 => (inferInstance : BI.Storable (upEmb : UEmb _ 𝕄) (corePts d (Fin.cast nCore_zero c) (m (cLoc d))))
  dn q d c := match q with
    | 0 => (inferInstance : BI.Storable (upEmb : UEmb _ 𝕄) (corePts d (Fin.cast nCore_zero c) (chosen d)))
  go q d c i := match q with
    | 0 => (inferInstance : BI.Storable (upEmb : UEmb _ 𝕄) (rowPts d (Fin.cast nCore_zero c) (Fin.cast nSub_zero i) (m (cLoc d))))
  td q d c i := match q with
    | 0 => (inferInstance : BI.Storable (upEmb : UEmb _ 𝕄) (rowPts d (Fin.cast nCore_zero c) (Fin.cast nSub_zero i) (chosen d)))

/-! ## The rows of the tasks split the array -/

omit [FloatOps F] in
/-- A cell lies in a task's rows exactly if its row divided by 128 is the task's number. -/
theorem mem_rowSet (c : Fin 2) (s : Fin 16) (y : S4096x128.Idx) : y ∈ rowSet (at₀ c s) ↔ (y 0).val / 128 = 2 * s.val + c.val := by
  unfold rowSet rows
  rw [Rect.mem_set_unit, k0_off2_eq]
  have h1 : (y 1).val < 128 := (y 1).isLt
  have h0 : (y 0).val < 4096 := (y 0).isLt
  constructor
  · intro h
    have := h 0
    have h' : 256 * s.val + 128 * c.val ≤ (y 0).val ∧ (y 0).val < 256 * s.val + 128 * c.val + 128 := this
    omega
  · intro h a
    match a with
    | 0 =>
      show 256 * s.val + 128 * c.val ≤ (y 0).val ∧ (y 0).val < 256 * s.val + 128 * c.val + 128
      omega
    | 1 =>
      show 0 ≤ (y 1).val ∧ (y 1).val < 0 + 128
      omega

omit [FloatOps F] in
theorem rows_disjoint : ∀ p ∈ (Finset.univ : Finset (Fin 2 × Fin 16)), ∀ q ∈ (Finset.univ : Finset (Fin 2 × Fin 16)), p ≠ q →
    Disjoint (rowSet (at₀ p.1 p.2)) (rowSet (at₀ q.1 q.2)) := by
  intro p _ q _ h
  rw [Finset.disjoint_left]
  intro y hp hq
  rw [mem_rowSet] at hp hq
  apply h
  have hp1 := p.1.isLt
  have hq1 := q.1.isLt
  exact Prod.ext (Fin.ext (by omega)) (Fin.ext (by omega))

omit [FloatOps F] in
theorem rows_cover : (Finset.univ : Finset (Fin 2 × Fin 16)).biUnion (fun p => rowSet (at₀ p.1 p.2)) = Finset.univ := by
  ext y
  simp only [Finset.mem_biUnion, Finset.mem_univ, true_and, iff_true]
  have h0 : (y 0).val < 4096 := (y 0).isLt
  refine ⟨(⟨(y 0).val / 128 % 2, by omega⟩, ⟨(y 0).val / 256, by omega⟩), ?_⟩
  rw [mem_rowSet]
  show (y 0).val / 128 = 2 * ((y 0).val / 256) + (y 0).val / 128 % 2
  omega

/-- The whole array is the two SparseCores' shares of it. -/
theorem cPts_cores (d : Dev nD) (f : Buf (Elt F) (cLoc d)) :
    (cLoc d ↦{fullShare} f : sProp 𝕄) = bigSep Finset.univ fun c : Fin 2 => corePts d c f := by
  rw [← bigSep_univ_prod (fun p : Fin 2 × Fin 16 => rowPts d p.1 p.2 f), ← pointsTo_biUnion Finset.univ (ℓ := cLoc d) (fun p : Fin 2 × Fin 16 => rowSet (at₀ p.1 p.2)) rows_disjoint, rows_cover]; try rfl

theorem st0_eq (d : Dev nD) :
    (bigSep Finset.univ fun c : Fin ((K (F := F)).nCore 0) => (P m).st 0 d c) = (cLoc d ↦{fullShare} m (cLoc d) : sProp 𝕄) :=
  (cPts_cores d _).symm
theorem dn0_eq (d : Dev nD) :
    (bigSep Finset.univ fun c : Fin ((K (F := F)).nCore 0) => (P m).dn 0 d c) = (cLoc d ↦{fullShare} chosen d : sProp 𝕄) :=
  (cPts_cores d _).symm

theorem vecSplit : (K (F := F)).VecSplit' (P m) 0 := by
  intro d c
  show corePts d (Fin.cast nCore_zero c) (m (cLoc d)) ⊢ |={Set.univ}=> iprop(
      (bigSep Finset.univ fun i : Fin 16 => rowPts d (Fin.cast nCore_zero c) i (m (cLoc d)))
      ∗ ((bigSep Finset.univ fun i : Fin 16 => rowPts d (Fin.cast nCore_zero c) i (chosen d)) -∗ corePts d (Fin.cast nCore_zero c) (chosen d)))
  iintro H; imodintro
  isplitl [H]; · iexact H
  iintro H; iexact H

end Cert.KernelIdeal.Run

end
-- ==== Proof.Tile.lean ====
module

public import proofs.«01_k».proof.Proof.Setup
public import Idealize.ShloMosaic.Lib.Pipeline.Value

@[expose] public section

/-! # One task of the SparseCore call

A task fills its scratch row by row, sixteen lanes a trip, and copies it to its 128 rows of the array of choices. The
loops' invariants say which cells of the scratch already hold their choice. -/

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "oV" => (Memref.whole Cert.KernelIdeal.main_v4_scv : Memref Cert.KernelIdeal.sig Kind.scVector Space.hbm Cert.KernelIdeal.S4096x128 EltTy.i32)
local notation "sV" => (Memref.whole Cert.KernelIdeal.cc0_scratch0 : Memref Cert.KernelIdeal.sig Kind.scVector Space.vmem Cert.KernelIdeal.S128x128 EltTy.i32)

variable (m : (ℓ : Loc nD τ sig) → Buf (Elt F) ℓ)

/-! ## The counter words -/

/-- The first row of the task at `L`, among the rows the SparseCores serve. -/
abbrev base (L : grid0.Coords) : ℕ := 256 * (L 1).val + 128 * (L 0).val

/-- The same as the body computes it. -/
abbrev baseW (L : grid0.Coords) : BitVec 32 :=
  Scalar.muli (Scalar.addi (Scalar.muli (BitVec.ofNat 32 (L 1).val) 2#32) (BitVec.ofNat 32 (L 0).val)) 128#32

/-- The part of the counter word a trip of the outer loop sets. -/
abbrev rowW (L : grid0.Coords) (t1 : Fin k0_t1_loop.trips) : BitVec 32 :=
  Scalar.shli (Scalar.addi (Scalar.addi 12288#32 (baseW L)) (Scf.iv 0#32 1#32 t1)) 2#32

omit [FloatOps F] in
theorem rowW_eq (L : grid0.Coords) (t1 : Fin k0_t1_loop.trips) : rowW L t1 = BitVec.ofNat 32 ((12288 + base L + t1.val) * 4) := by
  have h1 : (L 1).val < 16 := (L 1).isLt
  have h0 : (L 0).val < 2 := (L 0).isLt
  have ht := lt_of_lt_of_le t1.isLt k0_t1_abs.2.1
  apply BitVec.eq_of_toNat_eq
  simp only [rowW, baseW, base, Scalar.shli, Scalar.addi, Scalar.muli, IntOp.shli, IntOp.addi, IntOp.muli, Scf.iv]
  simp [BitVec.toNat_add, BitVec.toNat_mul, BitVec.toNat_shiftLeft, BitVec.toNat_ofNat, Nat.shiftLeft_eq]
  omega

/-- The counter word of lane `l` of trip `t` over row `b`, as the body adds it up. -/
theorem _root_.Cert.Noise.word_sum (b t l : ℕ) (hb : b < 4096) (ht : t < 8) (hl : l < 16) :
    IntOp.addi (IntOp.shli .vector (IntOp.addi (BitVec.ofNat 32 l) (Scalar.muli 16#32 (Scf.iv 0#32 1#32 t))) 16#32) (BitVec.ofNat 32 ((12288 + b) * 4))
      = Noise.word (12288 + b) (16 * t + l) := by
  unfold Noise.word
  apply BitVec.eq_of_toNat_eq
  have hs : ∀ v : BitVec 32, IntOp.shli .vector v 16#32 = v <<< 16 := fun _ => rfl
  rw [hs]
  simp only [Scalar.muli, IntOp.addi, IntOp.muli, Scf.iv, BitVec.toNat_add, BitVec.toNat_mul, BitVec.toNat_shiftLeft, BitVec.toNat_ofNat, Nat.shiftLeft_eq]
  omega

omit [FloatOps F] in
/-- Lane `y` of a trip of the inner loop counts from the word of its own row and lane. -/
theorem lane_word (L : grid0.Coords) (t1 : Fin k0_t1_loop.trips) (t2 : Fin k0_t2_loop.trips) (y : S16.Idx) :
    k0_pay2 (rowW L t1) 0#32 1#32 t2 y = Noise.word (12288 + (base L + t1.val)) (16 * t2.val + (y 0).val) := by
  have ht2 := lt_of_lt_of_le t2.isLt k0_t2_abs.2.1
  have hy : (y 0).val < 16 := (y 0).isLt
  have h1 : (L 1).val < 16 := (L 1).isLt
  have h0 : (L 0).val < 2 := (L 0).isLt
  have ht := lt_of_lt_of_le t1.isLt k0_t1_abs.2.1
  rw [rowW_eq, Nat.add_assoc, ← Noise.word_sum _ _ _ (by unfold base; omega) ht2 hy]
  unfold k0_pay2
  show IntOp.addi (IntOp.shli .vector (IntOp.addi (iota .scVector S16 32 [0] iota_S16_d0_w32_scVector y) _) _) _ = _
  rw [show iota .scVector S16 32 [0] iota_S16_d0_w32_scVector y = BitVec.ofNat 32 (y 0).val from by unfold iota; simp]
  rfl

omit [FloatOps F] in
/-- What a trip of the inner loop stores is the choice of each of its sixteen cells. -/
theorem picks_apply (L : grid0.Coords) (t1 : Fin k0_t1_loop.trips) (t2 : Fin k0_t2_loop.trips) (x : S1x16.Idx) :
    Bodies.picks (rowW L t1) t2 x = Noise.choice (12288 + (base L + t1.val)) (16 * t2.val + (x 1).val) := by
  have h0 : (x 0).val = 0 := by have := (x 0).isLt; change _ < 1 at this; omega
  unfold Bodies.picks
  rw [shapeCast_apply _ _ x (show S16.Idx from fun | 0 => x 1) (by
    rw [Shape.rowMajor_val_one, Shape.rowMajor_val_two]; show (x 1).val = (x 0).val * 16 + (x 1).val; omega)]
  show Noise.pick (k0_pay2 _ _ _ _ _) _ _ _ _ = _
  rw [lane_word]; rfl

/-! ## The scratch, cell by cell -/

/-- The scratch filled: each cell at the choice of its row and lane. -/
def filled (L : grid0.Coords) (y : S128x128.Idx) : BitVec 32 := Noise.choice (12288 + (base L + (y 0).val)) (y 1).val

/-- The scratch holds the choices on rows below `r`, and on row `r` on lanes below `e`. -/
def Upto (L : grid0.Coords) (r e : ℕ) (f : (sV).view.ty.Contents (Elt F)) : Prop :=
  ∀ y : S128x128.Idx, ((y 0).val < r ∨ ((y 0).val = r ∧ (y 1).val < e)) → (sV).view.read (Elt F) f y = filled L y

omit [FloatOps F] in
theorem Upto.next_row {L : grid0.Coords} {r : ℕ} {f : (sV).view.ty.Contents (Elt F)} (h : Upto L r 128 f) : Upto L (r + 1) 0 f := by
  intro y hy
  have h1 : (y 1).val < 128 := (y 1).isLt
  exact h y (by omega)

/-- The rectangle a trip stores. -/
abbrev chunk (t1 : Fin k0_t1_loop.trips) (t2 : Fin k0_t2_loop.trips) : Rect S128x128 :=
  Rect.unit (s := S128x128) (k0_off1 t1 t2) S1x16.size (k0_off1_inb t1 t2)

omit [FloatOps F] in
/-- The store of one trip extends the filled lanes by sixteen. -/
theorem Upto.store {L : grid0.Coords} {t1 : Fin k0_t1_loop.trips} {t2 : Fin k0_t2_loop.trips} {f : (sV).view.ty.Contents (Elt F)}
    (h : Upto L t1.val (16 * t2.val) f) :
    Upto L t1.val (16 * (t2.val + 1)) ((sV).view.writes (Elt F) f [⟨chunk t1 t2, Bodies.picks (rowW L t1) t2⟩]) := by
  intro y hy
  by_cases hm : (y 0).val = t1.val ∧ 16 * t2.val ≤ (y 1).val ∧ (y 1).val < 16 * t2.val + 16
  · rw [View.read_writes_cons_hit_of_coords (sV).view f (chunk t1 t2) _ _ (fun | 0 => ⟨0, Nat.one_pos⟩ | 1 => ⟨(y 1).val - 16 * t2.val, by show _ < 16; omega⟩) y (by
      intro a
      match a with
      | 0 =>
        show (y 0).val = (k0_off1 t1 t2) 0 + 1 * 0
        rw [k0_off1_eq]; show (y 0).val = t1.val + 1 * 0; omega
      | 1 =>
        show (y 1).val = (k0_off1 t1 t2) 1 + 1 * ((y 1).val - 16 * t2.val)
        rw [k0_off1_eq]; show (y 1).val = 16 * t2.val + 1 * ((y 1).val - 16 * t2.val); omega)]
    rw [picks_apply, filled]
    show Noise.choice _ (16 * t2.val + ((y 1).val - 16 * t2.val)) = _
    rw [hm.1, show 16 * t2.val + ((y 1).val - 16 * t2.val) = (y 1).val by omega]
  · rw [View.read_writes_cons_miss]
    · exact h y (by omega)
    · show y ∉ (chunk t1 t2).set
      rw [Rect.mem_set_unit, k0_off1_eq]
      intro hc
      apply hm
      have c0 : t1.val ≤ (y 0).val ∧ (y 0).val < t1.val + 1 := hc 0
      have c1 : 16 * t2.val ≤ (y 1).val ∧ (y 1).val < 16 * t2.val + 16 := hc 1
      omega

/-! ## The loops -/

section Body

variable (d : Dev nD) (L : grid0.Coords)

/-- The vector subcore at grid point `L`. -/
abbrev thr (L : grid0.Coords) : Thread nD τ := V d ((L 0).castLE hcore0) ((L 1).castLE hsub0)

/-- The scratch, filled up to lane `e` of row `r`. -/
abbrev scr (r e : ℕ) : sProp 𝕄 := iprop(∃ f, ⌜Upto L r e f⌝ ∗ ((sV).view.loc (thr d L) ↦{fullShare} f))

/-- A trip of the outer loop is the inner loop. -/
theorem outer_eq (t1 : Fin k0_t1_loop.trips) :
    k0_t1_body (F := F) L oV (Memref.isWhole_whole _) sV (Memref.isWhole_whole _) cc0_scoped0 (baseW L) t1 ⟨⟩
      = Scf.Loop.for k0_t2_loop k0_t2_ok (⟨⟩ : Unit) (k0_t2_body L oV (Memref.isWhole_whole _) sV (Memref.isWhole_whole _) cc0_scoped0 t1 (rowW L t1)) >>= fun _ => pure ⟨⟩ := rfl

/-- A trip of the inner loop fills the next sixteen lanes. -/
theorem chunk_run (t1 : Fin k0_t1_loop.trips) (t2 : Fin k0_t2_loop.trips) :
    scr (F := F) d L t1.val (16 * t2.val) ⊢ wp frame (wpE (defs₀ (F := F)) 𝒱₀ (thr d L) none) Set.univ
      (k0_t2_body L oV (Memref.isWhole_whole _) sV (Memref.isWhole_whole _) cc0_scoped0 t1 (rowW L t1) t2 ⟨⟩)
      fun _ => scr (F := F) d L t1.val (16 * (t2.val + 1)) := by
  rw [Bodies.inner_eq]
  iintro ⟨%f, %hf, H⟩
  sl_exec
  sl_step
  iexists _; isplitr
  swap; · iexact H
  ipureintro
  exact hf.store

/-- A trip of the outer loop fills its row. -/
theorem row_run (t1 : Fin k0_t1_loop.trips) :
    scr (F := F) d L t1.val 0 ⊢ wp frame (wpE (defs₀ (F := F)) 𝒱₀ (thr d L) none) Set.univ
      (k0_t1_body L oV (Memref.isWhole_whole _) sV (Memref.isWhole_whole _) cc0_scoped0 (baseW L) t1 ⟨⟩)
      fun _ => scr (F := F) d L (t1.val + 1) 0 := by
  rw [outer_eq]
  iintro H
  sl_for (fun k _ => scr (F := F) d L t1.val (16 * k)) $$ [H]
  case region =>
    intro k _
    exact chunk_run d L t1 k
  · iexact H
  iintro %_ ⟨%f, %hf, H⟩
  sl_step
  iexists f; isplitr
  · ipureintro
    exact Upto.next_row hf
  iexact H

/-! ## The whole task -/

omit [FloatOps F] in
theorem trips_outer : Scf.trips k0_t1_loop.lb k0_t1_loop.ub k0_t1_loop.st = 128 := by decide

/-- The task's rows of the array, as the body addresses them. -/
abbrev out (L : grid0.Coords) : Memref sig .scVector .hbm S128x128 .i32 := (oV).slice (rows L) (fun _ => rfl)

omit [FloatOps F] in
theorem out_set : (out L).view.set = rowSet L := by
  show ((View.whole (main_v4_scv : Ref sig .scVector)).slice (rows L)).set = _
  rw [View.set_slice]; exact Finset.map_refl

omit [FloatOps F] in
theorem out_pts (f : Buf (Elt F) (cLoc d)) :
    ((out L).view.loc (thr d L) ↦[(out L).view.set]{fullShare} f : sProp 𝕄) = cLoc d ↦[rowSet L]{fullShare} f := by
  rw [out_set]

omit [FloatOps F] in
theorem scr_pts (f : Buf (Elt F) ((thr d L).loc cc0_scratch0)) :
    ((sV).view.loc (thr d L) ↦{fullShare} f : sProp 𝕄) = (thr d L).loc cc0_scratch0 ↦{fullShare} f := rfl

/-- The semaphore of the task's copy. -/
abbrev copyCell : GSem nD τ sig := (thr d L, .dma cc0_scoped0.sem)

omit [FloatOps F] in
theorem sems_split :
    (ownSems0 (thr d L) : sProp (MT nD τ sig (HIx 1) (Elt F) ℕ UU ℕ)) = iprop(semVal (copyCell d L) 0 ∗ bigSep ((ownCells (thr d L)).erase (copyCell d L)) fun g => semVal g 0) := by
  unfold SparseCore.Cfg.ownSems0
  exact SparseCore.bigSep_erase' ((mem_ownCells (g := copyCell d L)).mpr ⟨rfl, by
      show (SemLoc.dma cc0_scoped0.sem : SemLoc sig).isScoped .scVector = true; decide⟩)

omit [FloatOps F] in
theorem bufs_split :
    (ownBufs (thr d L) : sProp 𝕄)
      = iprop((∃ f, (thr d L).loc cc0_scratch0 ↦{fullShare} f)
          ∗ bigSep ((ownRefs (τ := τ) (.scVector ((L 0).castLE hcore0) ((L 1).castLE hsub0))).erase
              ((Proc.scVector ((L 0).castLE hcore0) ((L 1).castLE hsub0)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)

/-- The body is its loop and its copy. -/
theorem body_eq :
    cc0__sc_idx_body (F := F) L oV (Memref.isWhole_whole _) sV (Memref.isWhole_whole _) cc0_scoped0
      = Scf.Loop.for k0_t1_loop k0_t1_ok (⟨⟩ : Unit) (k0_t1_body L oV (Memref.isWhole_whole _) sV (Memref.isWhole_whole _) cc0_scoped0 (baseW L)) >>= fun _ => (do
        Prog.lift (.enqueueDma sV (.here (out L)) (.dma cc0_scoped0.sem) (Memref.isWhole_whole _).wordExact (View.wordExact_bits rfl) ⟨Or.inl rfl, trivial⟩)
        Prog.lift (.waitDma2 cc0_scoped0.sem sV (out L) (Memref.isWhole_whole _).wordExact (View.wordExact_bits rfl))
        pure ⟨⟩) := by
  rw [cc0__sc_idx_body_eq_skeleton]; rfl

omit [FloatOps F] in
/-- The copy leaves the choices on the task's rows. -/
theorem copied (g : Buf (Elt F) (cLoc d)) (w : S128x128.Idx → Elt F .i32) (hw : ∀ y, w y = filled L y)
    (i : S4096x128.Idx) (hi : i ∈ rowSet L) :
    (out L).view.writes (Elt F) g [⟨Rect.whole S128x128, w⟩] i = chosen d i := by
  obtain ⟨x, -, rfl⟩ := Finset.mem_map.mp (show i ∈ Finset.univ.map (rows L).emb by rwa [Rect.map_emb_univ])
  have h := View.read_writes_cons_hit_of_coords (Val := Elt F) (out L).view g (Rect.whole S128x128) w [] x x
    (fun a => by show (x a).val = 0 + 1 * (x a).val; omega)
  rw [hw] at h
  refine Eq.trans ?_ (h.trans ?_)
  · rfl
  · unfold filled chosen
    have e0 : ((rows L).emb x 0).val = base L + (x 0).val := by
      show (k0_off2 L) 0 + 1 * (x 0).val = _
      rw [k0_off2_eq]; show 256 * (L 1).val + 128 * (L 0).val + 1 * (x 0).val = _; unfold base; omega
    have e1 : ((rows L).emb x 1).val = (x 1).val := by
      show (k0_off2 L) 1 + 1 * (x 1).val = _
      rw [k0_off2_eq]; show 0 + 1 * (x 1).val = _; omega
    show Noise.choice _ _ = Noise.choice (12288 + ((rows L).emb x 0).val) ((rows L).emb x 1).val
    rw [e0, e1]

/-- The task's rows at contents `f`. -/
abbrev tilePts (f : Buf (Elt F) (cLoc d)) : sProp 𝕄 := cLoc d ↦[rowSet L]{fullShare} f

/-- The task: from its rows at their first contents it leaves them at the choices. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts d L (m (cLoc d))
        ∗ scopedBufs (thr d L) ∗ scopedSems0 (thr d L) ∗ owes (thr d L) O W)
      ⊢ wp frame (wpE (defs₀ (F := F)) 𝒱₀ (thr d L) none) Set.univ
          (cc0__sc_idx_body L oV (Memref.isWhole_whole _) sV (Memref.isWhole_whole _) cc0_scoped0)
          fun _ => iprop(tilePts d L (chosen d)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d _ _, SparseCore.Cfg.scopedSems0_V (Val := Elt F) d _ _, sems_split d L, bufs_split d L, body_eq]
  iintro ⟨#Hlv, -, Ho, ⟨⟨%fs, Hs⟩, Hbufs⟩, ⟨Hsem, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (out_pts (F := F) d L _).symm) $$ Ho
  ihave Hs' := (Entails.of_eq (scr_pts (F := F) d L _).symm) $$ Hs
  sl_for (fun k (_ : Unit) => scr (F := F) d L k 0) $$ [Hs']
  case region =>
    intro k _
    exact row_run d L k
  · iexists fs; isplitr
    · ipureintro; intro y hy; omega
    iexact Hs'
  iintro %_ ⟨%f, %hf, Hs'⟩
  sl_exec
  sl_step
  isplitl [Ho']
  · ihave Ho2 := (Entails.of_eq (out_pts (F := F) d L _)) $$ Ho'
    iapply (Entails.of_eq (pointsTo_congr (ℓ := cLoc d) (I := rowSet L) (q := fullShare)
      (fun i hi => copied d L (m (cLoc d)) _ (fun y => hf y (.inl (lt_of_lt_of_eq (y 0).isLt trips_outer.symm))) i hi)))
    iexact Ho2
  isplitl [Hs' Hbufs]
  · isplitl [Hs']; · iexists _; iexact Hs'
    iexact Hbufs
  isplitl [Hsem Hsems]
  · isplitl [Hsem]; · iexact Hsem
    iexact Hsems
  iexists _; isplitr
  swap; · iexact HO
  ipureintro; intro p _
  rcases p.2 with _ | q
  · exact .inr (.inl rfl)
  · exact .inr (.inr (congrArg some (Subsingleton.elim q 0)))

/-! ## The obligation of the call -/

omit [FloatOps F] in
theorem at₀_eta (L : grid0.Coords) : at₀ (L 0) (L 1) = L := by
  funext a
  match a with
  | 0 => rfl
  | 1 => rfl

theorem defs₀_vector (c : Fin τ.nSC) (s : Fin τ.nSub) :
    defs₀ (F := F) (.scVector c s) 0 ()
      = SparseCore.onTile hcore0 hsub0 (fun c s => cc0__sc_idx_body (at₀ c s) oV (Memref.isWhole_whole _) sV (Memref.isWhole_whole _) cc0_scoped0) ⟨⟩ c s := rfl

/-- Every task of the call, from what it is given, gives back its rows at the choices. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (at₀ ⟨_, hci.1⟩ ⟨_, hci.2⟩) hF O W hO

end Body

end Cert.KernelIdeal.Run

end
-- ==== Proof.Region1.lean ====
module

public import proofs.«01_k».proof.Proof.Setup
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.WordCmp

@[expose] public section

set_option maxRecDepth 16384

/-! # The first TensorCore kernel, at any contents of the buffers

What its body leaves of the blocks it loads, the data of its pipeline, and the body's run at every grid point. -/

noncomputable section

namespace Cert.KernelIdeal.Run

open Cert.KernelIdeal Cert.KernelIdeal.Gen Cert.KernelIdeal.Bodies

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The waits core `c` may have recorded: those on a level no higher than the launch's own. -/
def low (c : Dev nD) : Set (SemLoc sig × HIx 1) :=
  {p | (K (F := F)).lev ((c : Thread nD τ), p.1) p.2 ≤ 8 * 1}

theorem off_zero : (![0, 0] : Fin 2 → ℕ) = fun _ => 0 := by funext a; fin_cases a <;> rfl

theorem ld_S1024x128_f32 (X : Vec F S1024x128 .f32) : View.ld X (Rect.unit (s := S1024x128) ![0, 0] S1024x128.size inb_S1024x128_S1024x128_0_0) = X := View.ld_unit_zero (S := S1024x128) off_zero _ X
theorem ld_S2048x128_f32 (X : Vec F S2048x128 .f32) : View.ld X (Rect.unit (s := S2048x128) ![0, 0] S2048x128.size inb_S2048x128_S2048x128_0_0) = X := View.ld_unit_zero (S := S2048x128) off_zero _ X
theorem ld_S2048x128_i32 (X : Vec F S2048x128 .i32) : View.ld X (Rect.unit (s := S2048x128) ![0, 0] S2048x128.size inb_S2048x128_S2048x128_0_0) = X := View.ld_unit_zero (S := S2048x128) off_zero _ X
theorem ld_S128x128_f32 (X : Vec F S128x128 .f32) : View.ld X (Rect.unit (s := S128x128) ![0, 0] S128x128.size inb_S128x128_S128x128_0_0) = X := View.ld_unit_zero (S := S128x128) off_zero _ X
theorem ld_S1x128_f32 (X : Vec F S1x128 .f32) : View.ld X (Rect.unit (s := S1x128) ![0, 0] S1x128.size inb_S1x128_S1x128_0_0) = X := View.ld_unit_zero (S := S1x128) off_zero _ X

/-- Window `w`'s block at grid point `t`, of the array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block the body leaves at grid point `t`. -/
def put1 (c : Dev nD) (t : Fin cfg1.N) : Vec F S1024x128 .f32 :=
  mainOut (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t)

/-- The one store covers the block. -/
theorem covers1 (p : Vec F S1024x128 .f32) (y : S1024x128.Idx) :
    ∃ pc ∈ ([⟨(Rect.unit (s := S1024x128) ![0, 0] S1024x128.size inb_S1024x128_S1024x128_0_0), p⟩] : List (View.Piece (Elt F) S1024x128 .f32)), y ∈ pc.1.set :=
  View.cover_of_tiled [⟨(Rect.unit (s := S1024x128) ![0, 0] S1024x128.size inb_S1024x128_S1024x128_0_0), p⟩] S1024x128.size (by rfl) y

set_option maxHeartbeats 1000000 in
/-- The body, holding its blocks: it gives the loaded ones back as they were and leaves `mainOut` of them in the other. -/
theorem body_run1 (c : Dev nD) (E : Set ℕ) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1024x128 .f32) (harg13 : arg13.IsWhole)
    (x0 : Vec F S1024x128 .f32) (x1 : Vec F S1024x128 .f32) (x2 : Vec F S1024x128 .f32) (x3 : Vec F S1024x128 .f32) (x4 : Vec F S128x128 .f32) (x5 : Vec F S128x128 .f32) (x6 : Vec F S128x128 .f32) (x7 : Vec F S128x128 .f32) (x8 : Vec F S1x128 .f32) (x9 : Vec F S1x128 .f32) (x10 : Vec F S1x128 .f32) (x11 : Vec F S1x128 .f32) (Φ : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (mainOut i x0 x1 x2 x3 x4 x5 x6 x7 x8 x9 x10 x11)) -∗ Φ ⟨⟩))
      ⊢ wp frame (wpE (defs₀ (F := F)) Variants.none c none) E (cc1__body_main i arg1 harg1 arg2 harg2 arg3 harg3 arg4 harg4 arg5 harg5 arg6 harg6 arg7 harg7 arg8 harg8 arg9 harg9 arg10 harg10 arg11 harg11 arg12 harg12 arg13 harg13) Φ := by
  rw [Bodies.main_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (covers1 _)).trans ?_
  refine (View.canon_unit_zero off_zero inb_S1024x128_S1024x128_0_0 _).trans ?_
  show mainOut i (View.ld (arg1.view.read (Elt F) f0) (Rect.unit (s := S1024x128) ![0, 0] S1024x128.size inb_S1024x128_S1024x128_0_0)) (View.ld (arg2.view.read (Elt F) f1) (Rect.unit (s := S1024x128) ![0, 0] S1024x128.size inb_S1024x128_S1024x128_0_0)) (View.ld (arg3.view.read (Elt F) f2) (Rect.unit (s := S1024x128) ![0, 0] S1024x128.size inb_S1024x128_S1024x128_0_0)) (View.ld (arg4.view.read (Elt F) f3) (Rect.unit (s := S1024x128) ![0, 0] S1024x128.size inb_S1024x128_S1024x128_0_0)) (View.ld (arg5.view.read (Elt F) f4) (Rect.unit (s := S128x128) ![0, 0] S128x128.size inb_S128x128_S128x128_0_0)) (View.ld (arg6.view.read (Elt F) f5) (Rect.unit (s := S128x128) ![0, 0] S128x128.size inb_S128x128_S128x128_0_0)) (View.ld (arg7.view.read (Elt F) f6) (Rect.unit (s := S128x128) ![0, 0] S128x128.size inb_S128x128_S128x128_0_0)) (View.ld (arg8.view.read (Elt F) f7) (Rect.unit (s := S128x128) ![0, 0] S128x128.size inb_S128x128_S128x128_0_0)) (View.ld (arg9.view.read (Elt F) f8) (Rect.unit (s := S1x128) ![0, 0] S1x128.size inb_S1x128_S1x128_0_0)) (View.ld (arg10.view.read (Elt F) f9) (Rect.unit (s := S1x128) ![0, 0] S1x128.size inb_S1x128_S1x128_0_0)) (View.ld (arg11.view.read (Elt F) f10) (Rect.unit (s := S1x128) ![0, 0] S1x128.size inb_S1x128_S1x128_0_0)) (View.ld (arg12.view.read (Elt F) f11) (Rect.unit (s := S1x128) ![0, 0] S1x128.size inb_S1x128_S1x128_0_0)) = _
  rw [ld_S1024x128_f32, ld_S1024x128_f32, ld_S1024x128_f32, ld_S1024x128_f32, ld_S128x128_f32, ld_S128x128_f32, ld_S128x128_f32, ld_S128x128_f32, ld_S1x128_f32, ld_S1x128_f32, ld_S1x128_f32, ld_S1x128_f32]

/-- The pipeline's data: the arrays as the kernel finds them, each loaded block left in place, `put1` in the other. -/
def dat1 (c : Dev nD) : Dat τ (Elt F) (HIx 1) ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => put1 V c t
  Φ _ := Pipeline.scopedRest (Ix := HIx 1) (Name := ℕ) (U := UU) (Lvl := ℕ) (Val := Elt F) spec1 c
  q _ := fullShare
  owed _ := 0
  recorded _ := low (F := F) c

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = blk1 V c 10 t := by dsimp only [dat1]
theorem after1_11 (c : Dev nD) (t : Fin cfg1.N) : (dat1 V c).after 11 t = blk1 V c 11 t := by dsimp only [dat1]
theorem after1_12 (c : Dev nD) (t : Fin cfg1.N) : (dat1 V c).after 12 t = put1 V c t := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [A_eq1]; try rfl) t d).trans
    (by unfold Dat.fetched Dat.blockOf blk1; rw [A_eq1]; try rfl)
theorem before1_8 (c : Dev nD) (t : Fin cfg1.N) (d) : (dat1 V c).before 8 t d = blk1 V c 8 t :=
  ((dat1 V c).before_in_eq_fetched 8 rfl (fun _ => rfl) (fun _ _ _ => rfl)
    (fun t => by rw [after1_8]; unfold Dat.blockOf blk1; rw [A_eq1]; try rfl) t d).trans
    (by unfold Dat.fetched Dat.blockOf blk1; rw [A_eq1]; try rfl)
theorem before1_9 (c : Dev nD) (t : Fin cfg1.N) (d) : (dat1 V c).before 9 t d = blk1 V c 9 t :=
  ((dat1 V c).before_in_eq_fetched 9 rfl (fun _ => rfl) (fun _ _ _ => rfl)
    (fun t => by rw [after1_9]; unfold Dat.blockOf blk1; rw [A_eq1]; try rfl) t d).trans
    (by unfold Dat.fetched Dat.blockOf blk1; rw [A_eq1]; try rfl)
theorem before1_10 (c : Dev nD) (t : Fin cfg1.N) (d) : (dat1 V c).before 10 t d = blk1 V c 10 t :=
  ((dat1 V c).before_in_eq_fetched 10 rfl (fun _ => rfl) (fun _ _ _ => rfl)
    (fun t => by rw [after1_10]; unfold Dat.blockOf blk1; rw [A_eq1]; try rfl) t d).trans
    (by unfold Dat.fetched Dat.blockOf blk1; rw [A_eq1]; try rfl)
theorem before1_11 (c : Dev nD) (t : Fin cfg1.N) (d) : (dat1 V c).before 11 t d = blk1 V c 11 t :=
  ((dat1 V c).before_in_eq_fetched 11 rfl (fun _ => rfl) (fun _ _ _ => rfl)
    (fun t => by rw [after1_11]; unfold Dat.blockOf blk1; rw [A_eq1]; try rfl) t d).trans
    (by unfold Dat.fetched Dat.blockOf blk1; rw [A_eq1]; try rfl)

/-- What the body is called with at point `t`, -/
def holds1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def gives1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body's run at a point, on the pipeline's own blocks. -/
theorem point_run1 (c : Dev nD) (t : Fin cfg1.N) :
    holds1 V c t ⊢ wp frame (wpE (defs₀ (F := F)) Variants.none c none) Set.univ (bodyAt1 t) (fun _ => gives1 V c t) := by
  unfold holds1 gives1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt none t.succ = (dat1 V c).owesAt none t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run1 c Set.univ (grid1.coords t) _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem row1 (t : Fin cfg1.N) :
    defs₀ (F := F) .tc cfg1.body (cfg1.bodyArgs t (cfg1.slots t)) = bodyAt1 t := by
  rfl

/-- The body's run at every point, as the pipeline asks for it. -/
theorem obligation1 (c : Dev nD) : BodyObligation (dat1 (F := F) V c) (defs₀ (F := F)) Variants.none none Set.univ := fun t => by
  rw [bigSep_W1, bigSep_W1, row1]
  exact triple_restated (point_run1 V c t) rfl .rfl fun _ => .rfl

end Cert.KernelIdeal.Run

end
-- ==== Proof.Region2.lean ====
module

public import proofs.«01_k».proof.Proof.Region1
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.WordCmp

@[expose] public section

set_option maxRecDepth 16384

/-! # The second TensorCore kernel, at any contents of the buffers

What its body leaves of the blocks it loads, the data of its pipeline, and the body's run at every grid point. -/

noncomputable section

namespace Cert.KernelIdeal.Run

open Cert.KernelIdeal Cert.KernelIdeal.Gen Cert.KernelIdeal.Bodies

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- Window `w`'s block at grid point `t`, of the array as the kernel finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block the body leaves at grid point `t`. -/
def put2 (c : Dev nD) (t : Fin cfg2.N) : Vec F S2048x128 .f32 :=
  selOut (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t)

/-- The one store covers the block. -/
theorem covers2 (p : Vec F S2048x128 .f32) (y : S2048x128.Idx) :
    ∃ pc ∈ ([⟨(Rect.unit (s := S2048x128) ![0, 0] S2048x128.size inb_S2048x128_S2048x128_0_0), p⟩] : List (View.Piece (Elt F) S2048x128 .f32)), y ∈ pc.1.set :=
  View.cover_of_tiled [⟨(Rect.unit (s := S2048x128) ![0, 0] S2048x128.size inb_S2048x128_S2048x128_0_0), p⟩] S2048x128.size (by rfl) y

set_option maxHeartbeats 1000000 in
/-- The body, holding its blocks: it gives the loaded ones back as they were and leaves `selOut` of them in the other. -/
theorem body_run2 (c : Dev nD) (E : Set ℕ) (i : grid2.Coords) (arg1 : Memref sig .tc .hbm S16384x128 .f32) (harg1 : arg1.IsWhole) (arg2 : Memref sig .tc .vmem S2048x128 .i32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S2048x128 .f32) (harg15 : arg15.IsWhole)
    (x0 : Vec F S2048x128 .i32) (x1 : Vec F S2048x128 .f32) (x2 : Vec F S2048x128 .f32) (x3 : Vec F S2048x128 .f32) (x4 : Vec F S2048x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (Φ : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (selOut x0 x1 x2 x3 x4 x5 x6 x7 x8 x9 x10 x11 x12)) -∗ Φ ⟨⟩))
      ⊢ wp frame (wpE (defs₀ (F := F)) Variants.none c none) E (cc2__body_sel i arg1 harg1 arg2 harg2 arg3 harg3 arg4 harg4 arg5 harg5 arg6 harg6 arg7 harg7 arg8 harg8 arg9 harg9 arg10 harg10 arg11 harg11 arg12 harg12 arg13 harg13 arg14 harg14 arg15 harg15) Φ := by
  rw [Bodies.sel_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (View.read_writes_eq_canon _ _ _ (covers2 _)).trans ?_
  refine (View.canon_unit_zero off_zero inb_S2048x128_S2048x128_0_0 _).trans ?_
  show selOut (View.ld (arg2.view.read (Elt F) f0) (Rect.unit (s := S2048x128) ![0, 0] S2048x128.size inb_S2048x128_S2048x128_0_0)) (View.ld (arg3.view.read (Elt F) f1) (Rect.unit (s := S2048x128) ![0, 0] S2048x128.size inb_S2048x128_S2048x128_0_0)) (View.ld (arg4.view.read (Elt F) f2) (Rect.unit (s := S2048x128) ![0, 0] S2048x128.size inb_S2048x128_S2048x128_0_0)) (View.ld (arg5.view.read (Elt F) f3) (Rect.unit (s := S2048x128) ![0, 0] S2048x128.size inb_S2048x128_S2048x128_0_0)) (View.ld (arg6.view.read (Elt F) f4) (Rect.unit (s := S2048x128) ![0, 0] S2048x128.size inb_S2048x128_S2048x128_0_0)) (View.ld (arg7.view.read (Elt F) f5) (Rect.unit (s := S128x128) ![0, 0] S128x128.size inb_S128x128_S128x128_0_0)) (View.ld (arg8.view.read (Elt F) f6) (Rect.unit (s := S128x128) ![0, 0] S128x128.size inb_S128x128_S128x128_0_0)) (View.ld (arg9.view.read (Elt F) f7) (Rect.unit (s := S128x128) ![0, 0] S128x128.size inb_S128x128_S128x128_0_0)) (View.ld (arg10.view.read (Elt F) f8) (Rect.unit (s := S128x128) ![0, 0] S128x128.size inb_S128x128_S128x128_0_0)) (View.ld (arg11.view.read (Elt F) f9) (Rect.unit (s := S1x128) ![0, 0] S1x128.size inb_S1x128_S1x128_0_0)) (View.ld (arg12.view.read (Elt F) f10) (Rect.unit (s := S1x128) ![0, 0] S1x128.size inb_S1x128_S1x128_0_0)) (View.ld (arg13.view.read (Elt F) f11) (Rect.unit (s := S1x128) ![0, 0] S1x128.size inb_S1x128_S1x128_0_0)) (View.ld (arg14.view.read (Elt F) f12) (Rect.unit (s := S1x128) ![0, 0] S1x128.size inb_S1x128_S1x128_0_0)) = _
  rw [ld_S2048x128_i32, ld_S2048x128_f32, ld_S2048x128_f32, ld_S2048x128_f32, ld_S2048x128_f32, ld_S128x128_f32, ld_S128x128_f32, ld_S128x128_f32, ld_S128x128_f32, ld_S1x128_f32, ld_S1x128_f32, ld_S1x128_f32, ld_S1x128_f32]

/-- The pipeline's data: the arrays as the kernel finds them, each loaded block left in place, `put2` in the other. -/
def dat2 (c : Dev nD) : Dat τ (Elt F) (HIx 1) ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => put2 V c t
  Φ _ := Pipeline.scopedRest (Ix := HIx 1) (Name := ℕ) (U := UU) (Lvl := ℕ) (Val := Elt F) spec2 c
  q _ := fullShare
  owed _ := 0
  recorded _ := low (F := F) c

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = blk2 V c 9 t := by dsimp only [dat2]
theorem after2_10 (c : Dev nD) (t : Fin cfg2.N) : (dat2 V c).after 10 t = blk2 V c 10 t := by dsimp only [dat2]
theorem after2_11 (c : Dev nD) (t : Fin cfg2.N) : (dat2 V c).after 11 t = blk2 V c 11 t := by dsimp only [dat2]
theorem after2_12 (c : Dev nD) (t : Fin cfg2.N) : (dat2 V c).after 12 t = blk2 V c 12 t := by dsimp only [dat2]
theorem after2_13 (c : Dev nD) (t : Fin cfg2.N) : (dat2 V c).after 13 t = put2 V c t := by dsimp only [dat2]

theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [A_eq2]; try rfl) t d).trans
    (by unfold Dat.fetched Dat.blockOf blk2; rw [A_eq2]; try rfl)
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [A_eq2]; try rfl) t d).trans
    (by unfold Dat.fetched Dat.blockOf blk2; rw [A_eq2]; try rfl)
theorem before2_4 (c : Dev nD) (t : Fin cfg2.N) (d) : (dat2 V c).before 4 t d = blk2 V c 4 t :=
  ((dat2 V c).before_in_eq_fetched 4 rfl (fun _ => rfl) (fun _ _ _ => rfl)
    (fun t => by rw [after2_4]; unfold Dat.blockOf blk2; rw [A_eq2]; try rfl) t d).trans
    (by unfold Dat.fetched Dat.blockOf blk2; rw [A_eq2]; try rfl)
theorem before2_5 (c : Dev nD) (t : Fin cfg2.N) (d) : (dat2 V c).before 5 t d = blk2 V c 5 t :=
  ((dat2 V c).before_in_eq_fetched 5 rfl (fun _ => rfl) (fun _ _ _ => rfl)
    (fun t => by rw [after2_5]; unfold Dat.blockOf blk2; rw [A_eq2]; try rfl) t d).trans
    (by unfold Dat.fetched Dat.blockOf blk2; rw [A_eq2]; try rfl)
theorem before2_6 (c : Dev nD) (t : Fin cfg2.N) (d) : (dat2 V c).before 6 t d = blk2 V c 6 t :=
  ((dat2 V c).before_in_eq_fetched 6 rfl (fun _ => rfl) (fun _ _ _ => rfl)
    (fun t => by rw [after2_6]; unfold Dat.blockOf blk2; rw [A_eq2]; try rfl) t d).trans
    (by unfold Dat.fetched Dat.blockOf blk2; rw [A_eq2]; try rfl)
theorem before2_7 (c : Dev nD) (t : Fin cfg2.N) (d) : (dat2 V c).before 7 t d = blk2 V c 7 t :=
  ((dat2 V c).before_in_eq_fetched 7 rfl (fun _ => rfl) (fun _ _ _ => rfl)
    (fun t => by rw [after2_7]; unfold Dat.blockOf blk2; rw [A_eq2]; try rfl) t d).trans
    (by unfold Dat.fetched Dat.blockOf blk2; rw [A_eq2]; try rfl)
theorem before2_8 (c : Dev nD) (t : Fin cfg2.N) (d) : (dat2 V c).before 8 t d = blk2 V c 8 t :=
  ((dat2 V c).before_in_eq_fetched 8 rfl (fun _ => rfl) (fun _ _ _ => rfl)
    (fun t => by rw [after2_8]; unfold Dat.blockOf blk2; rw [A_eq2]; try rfl) t d).trans
    (by unfold Dat.fetched Dat.blockOf blk2; rw [A_eq2]; try rfl)
theorem before2_9 (c : Dev nD) (t : Fin cfg2.N) (d) : (dat2 V c).before 9 t d = blk2 V c 9 t :=
  ((dat2 V c).before_in_eq_fetched 9 rfl (fun _ => rfl) (fun _ _ _ => rfl)
    (fun t => by rw [after2_9]; unfold Dat.blockOf blk2; rw [A_eq2]; try rfl) t d).trans
    (by unfold Dat.fetched Dat.blockOf blk2; rw [A_eq2]; try rfl)
theorem before2_10 (c : Dev nD) (t : Fin cfg2.N) (d) : (dat2 V c).before 10 t d = blk2 V c 10 t :=
  ((dat2 V c).before_in_eq_fetched 10 rfl (fun _ => rfl) (fun _ _ _ => rfl)
    (fun t => by rw [after2_10]; unfold Dat.blockOf blk2; rw [A_eq2]; try rfl) t d).trans
    (by unfold Dat.fetched Dat.blockOf blk2; rw [A_eq2]; try rfl)
theorem before2_11 (c : Dev nD) (t : Fin cfg2.N) (d) : (dat2 V c).before 11 t d = blk2 V c 11 t :=
  ((dat2 V c).before_in_eq_fetched 11 rfl (fun _ => rfl) (fun _ _ _ => rfl)
    (fun t => by rw [after2_11]; unfold Dat.blockOf blk2; rw [A_eq2]; try rfl) t d).trans
    (by unfold Dat.fetched Dat.blockOf blk2; rw [A_eq2]; try rfl)
theorem before2_12 (c : Dev nD) (t : Fin cfg2.N) (d) : (dat2 V c).before 12 t d = blk2 V c 12 t :=
  ((dat2 V c).before_in_eq_fetched 12 rfl (fun _ => rfl) (fun _ _ _ => rfl)
    (fun t => by rw [after2_12]; unfold Dat.blockOf blk2; rw [A_eq2]; try rfl) t d).trans
    (by unfold Dat.fetched Dat.blockOf blk2; rw [A_eq2]; try rfl)

/-- What the body is called with at point `t`, -/
def holds2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns. -/
def gives2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

/-- The body's run at a point, on the pipeline's own blocks. -/
theorem point_run2 (c : Dev nD) (t : Fin cfg2.N) :
    holds2 V c t ⊢ wp frame (wpE (defs₀ (F := F)) Variants.none c none) Set.univ (bodyAt2 t) (fun _ => gives2 V c t) := by
  unfold holds2 gives2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run2 c Set.univ (grid2.coords t) _ _ _ _ _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row2 (t : Fin cfg2.N) :
    defs₀ (F := F) .tc cfg2.body (cfg2.bodyArgs t (cfg2.slots t)) = bodyAt2 t := by
  rfl

/-- The body's run at every point, as the pipeline asks for it. -/
theorem obligation2 (c : Dev nD) : BodyObligation (dat2 (F := F) V c) (defs₀ (F := F)) Variants.none none Set.univ := fun t => by
  rw [bigSep_W2, bigSep_W2, row2]
  exact triple_restated (point_run2 V c t) rfl .rfl fun _ => .rfl

end Cert.KernelIdeal.Run

end
-- ==== Proof.Contents.lean ====
module

public import proofs.«01_k».proof.Proof.Tile
public import proofs.«01_k».proof.Proof.Region1
public import proofs.«01_k».proof.Proof.Region2

@[expose] public section

set_option maxRecDepth 16384

/-! # The buffers' contents from step to step

`main` runs four reshapes, the SparseCore call, the first TensorCore kernel, a copy and the second TensorCore kernel.
What every buffer of a device holds after each of them. -/

noncomputable section

namespace Cert.KernelIdeal.Run

open Cert.KernelIdeal Cert.KernelIdeal.Gen Cert.KernelIdeal.Bodies

open Idealize.ShloMosaic Idealize.ShloMosaic.TcCoe Idealize.ShloMosaic.Tactic
open Idealize.ShloMosaic.SparseCore.Cfg (HIx)
open Idealize.SL Idealize.SL.Sem
open Idealize.ShloMosaic.Pipeline (Dat Cfg Window BodyObligation cellOf)

variable {F : FTy → Type} [FloatOps F]
variable (m : (ℓ : Loc nD τ sig) → Buf (Elt F) ℓ)

/-- The four reshapes. -/
abbrev ops₀ : List (HloOp τ sig (Elt F)) := [
  StableHlo.reshape main_arg5 main_v0 (rfl : (.f32 : EltTy) = .f32) shapeCasts_S128_S1x128,
  StableHlo.reshape main_arg7 main_v1 (rfl : (.f32 : EltTy) = .f32) shapeCasts_S128_S1x128,
  StableHlo.reshape main_arg9 main_v2 (rfl : (.f32 : EltTy) = .f32) shapeCasts_S128_S1x128,
  StableHlo.reshape main_arg11 main_v3 (rfl : (.f32 : EltTy) = .f32) shapeCasts_S128_S1x128]

/-- The copy between the two kernels. -/
abbrev ops₁ : List (HloOp τ sig (Elt F)) := [StableHlo.unary main_v5 main_v6 id]

theorem ops₀_fresh : ∀ op ∈ (ops₀ : List (HloOp τ sig (Elt F))), op.fresh = ∅ :=
  List.forall_iff_forall_mem.mp (show (ops₀ : List (HloOp τ sig (Elt F))).Forall fun op => op.fresh = ∅ from ⟨rfl, rfl, rfl, rfl⟩)
theorem ops₁_fresh : ∀ op ∈ (ops₁ : List (HloOp τ sig (Elt F))), op.fresh = ∅ :=
  List.forall_iff_forall_mem.mp (show (ops₁ : List (HloOp τ sig (Elt F))).Forall fun op => op.fresh = ∅ from rfl)

/-- The buffers the reshapes write, and the one the copy writes. -/
abbrev writes₀ : List (Ref sig .tc) := [main_v0, main_v1, main_v2, main_v3]
abbrev writes₁ : List (Ref sig .tc) := [main_v6]
theorem ops₀_writes : (ops₀ : List (HloOp τ sig (Elt F))).Forall fun op => op.writes ⊆ (writes₀.map (Proc.devRef (τ := τ) .tc)).toFinset :=
  StableHlo.forall_writes_sub_of_map rfl
theorem ops₁_writes : (ops₁ : List (HloOp τ sig (Elt F))).Forall fun op => op.writes ⊆ (writes₁.map (Proc.devRef (τ := τ) .tc)).toFinset :=
  StableHlo.forall_writes_sub_of_map rfl

/-- At the start. -/
abbrev W0 (d : Dev nD) : Valuation τ sig (Elt F) := fun b => m (d, b)
/-- After the reshapes. -/
abbrev W1 (d : Dev nD) : Valuation τ sig (Elt F) := StableHlo.after ops₀ (W0 m d)
/-- After the SparseCore call: its array at the choices. -/
def W2 (d : Dev nD) : Valuation τ sig (Elt F) := Function.update (W1 m d) (Proc.devRef .tc main_v4) (chosen d)
abbrev V2 : (c : Dev nD) → (b : Ref sig .tc) → Buf (Elt F) ((c : Thread nD τ).loc b) := fun c b => W2 m c b
/-- After the first TensorCore kernel. -/
def W3 (d : Dev nD) : Valuation τ sig (Elt F) :=
  Pipeline.withArrays spec1 d (W2 m d) fun w => (dat1 (V2 m) d).arrAt w cfg1.N
abbrev V3 : (c : Dev nD) → (b : Ref sig .tc) → Buf (Elt F) ((c : Thread nD τ).loc b) := fun c b => W3 m c b
/-- After the copy. -/
abbrev W4 (d : Dev nD) : Valuation τ sig (Elt F) := StableHlo.after ops₁ (W3 m d)
abbrev V4 : (c : Dev nD) → (b : Ref sig .tc) → Buf (Elt F) ((c : Thread nD τ).loc b) := fun c b => W4 m c b
/-- At the end. -/
def W5 (d : Dev nD) : Valuation τ sig (Elt F) :=
  Pipeline.withArrays spec2 d (W4 m d) fun w => (dat2 (V4 m) d).arrAt w cfg2.N
abbrev V5 : (c : Dev nD) → (b : Ref sig .tc) → Buf (Elt F) ((c : Thread nD τ).loc b) := fun c b => W5 m c b

/-- What each step leaves alone. -/
theorem W1_of (c : Dev nD) (r : Ref sig .tc) (h : r ∉ writes₀) : W1 m c (Proc.devRef .tc r) = m ((c : Thread nD τ).loc r) :=
  StableHlo.after_of_writes_sub ops₀ (W0 m c) ops₀_writes h
theorem W2_v4 (c : Dev nD) : W2 m c (Proc.devRef .tc main_v4) = chosen c := by
  unfold W2; exact Function.update_self _ _ _
theorem W2_of (c : Dev nD) (r : Ref sig .tc) (h : Proc.devRef (τ := τ) .tc r ≠ Proc.devRef .tc main_v4) :
    W2 m c (Proc.devRef .tc r) = W1 m c (Proc.devRef .tc r) := by
  unfold W2; exact Function.update_of_ne h _ _
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
theorem W4_of (c : Dev nD) (r : Ref sig .tc) (h : r ∉ writes₁) : W4 m c (Proc.devRef .tc r) = W3 m c (Proc.devRef .tc r) :=
  StableHlo.after_of_writes_sub ops₁ _ ops₁_writes h
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (V4 m) c).arrAt_in w (h w rfl) _).trans (A_eq2 (V4 m) c w))
  · exact W5_of_ne m c r fun w e => hw ⟨w, e⟩

/-- The arguments. -/
abbrev args : List (Ref sig .tc) := [main_arg0, main_arg1, main_arg2, main_arg3, main_arg4, main_arg5, main_arg6, main_arg7,
  main_arg8, main_arg9, main_arg10, main_arg11]

theorem args₀ : ∀ a ∈ args, a ∉ writes₀ ∧ Proc.devRef (τ := τ) .tc a ≠ Proc.devRef .tc main_v4 := by decide +kernel
theorem args₁ : ∀ a ∈ args, a ∉ writes₁ := by decide +kernel
theorem args_in1 : ∀ a ∈ args, ∀ w : Fin cfg1.W, Pipeline.arrRef spec1 w = a → (cfg1.win w).isOut = false := by decide +kernel
theorem args_in2 : ∀ a ∈ args, ∀ w : Fin cfg2.W, Pipeline.arrRef spec2 w = a → (cfg2.win w).isOut = false := by decide +kernel

/-- Every argument holds at each step what it held at the start. -/
theorem W2_args (c : Dev nD) : ∀ a ∈ args, W2 m c (Proc.devRef .tc a) = m ((c : Thread nD τ).loc a) :=
  fun a ha => (W2_of m c a (args₀ a ha).2).trans (W1_of m c a (args₀ a ha).1)
theorem W4_args (c : Dev nD) : ∀ a ∈ args, W4 m c (Proc.devRef .tc a) = m ((c : Thread nD τ).loc a) :=
  fun a ha => (W4_of m c a (args₁ a ha)).trans ((W3_of m c a (args_in1 a ha)).trans (W2_args m c a ha))
theorem W5_args (c : Dev nD) : ∀ a ∈ args, W5 m c (Proc.devRef .tc a) = m ((c : Thread nD τ).loc a) :=
  fun a ha => (W5_of m c a (args_in2 a ha)).trans (W4_args m c a ha)

end Cert.KernelIdeal.Run

end
-- ==== Proof.Launch.lean ====
module

public import proofs.«01_k».proof.Proof.Contents

@[expose] public section

set_option maxRecDepth 16384

/-! # The whole run

`main` from the launch to its end: every buffer of every device ends at the contents `W5`, and every semaphore at zero. -/

noncomputable section

namespace Cert.KernelIdeal.Run

open Cert.KernelIdeal Cert.KernelIdeal.Gen Cert.KernelIdeal.Bodies

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

abbrev adm : (p : Fin 2) → (pcfgs (F := F) p).Adm := fun p => (cfgs p).toPCfg_adm

/-- The two pipelines' data, each at the contents its kernel finds. -/
def pdats : (p : Fin 2) → (c : Dev nD) → Dat τ (Elt F) (HIx 1) ℕ UU ℕ (Pipeline.pin (pcfgs (F := F)) adm p) c
  | ⟨0, _⟩ => fun c => dat1 (V2 m) c
  | ⟨1, _⟩ => fun c => dat2 (V4 m) c

/-- The TensorCore owes nothing, and has recorded low waits only. -/
def idle (c : Dev nD) : sProp 𝕄 :=
  iprop(∃ W, ⌜∀ p ∈ W, (K (F := F)).lev ((c : Thread nD τ), p.1) p.2 ≤ 8 * 1⌝ ∗ owes (c : Thread nD τ) (0 : CellTallies nD τ sig (HIx 1)) W)

/-- The call of a TensorCore kernel, among the labels of the pipelines alone, -/
abbrev entryProg (p : Fin 2) : Prog (TpuEff nD τ sig (Elt F) (ΛP (F := F)) .tc) PUnit :=
  .op (.customCall (Pipeline.entry p) ()) .ret

/-- and as `main` makes it. -/
theorem call_lift (p : Fin 2) :
    (Prog.lift (.customCall (SparseCore.inner (Pipeline.entry p)) ()) :
      Prog (TpuEff nD τ sig (Elt F) (SparseCore.Sig (ΛP (F := F)) 1) .tc) PUnit) = SparseCore.liftProg (entryProg (F := F) p) := by
  unfold entryProg
  rw [SparseCore.liftProg_op]
  rfl

-- the library states the split over the pipeline's pinned form, which unification must be free to unfold
set_option backward.isDefEq.respectTransparency.types false in
/-- The first TensorCore kernel as a step of `main`: from every buffer at `W2` to every buffer at `W3`. -/
def reg1 : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation1 (V2 m) c).loose
  hwaits := Pipeline.hwaits_of_owed_zero _ _ _ _ _ _ 0 fun _ _ => rfl
  pre c := iprop(StableHlo.held (c : Thread nD τ) (Pipeline.ucRefs τ sig) (W2 m c) ∗ idle c)
  post c := iprop(StableHlo.held (c : Thread nD τ) (Pipeline.ucRefs τ sig) (W3 m c) ∗ idle c)
  X c := iprop(emp)
  Y c := iprop(emp)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) (A_eq1 (V2 m) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin idle
      icases HO with ⟨%W, %hW, HO⟩; iexists W; isplitr; · ipureintro; exact fun p hp => Or.inl (hW p hp)
      iexact HO
    isplitr; · iempintro
    iexact Hrest
  hin c := by
    rw [show (pdats m 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (pdats m 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (fun w => (W3_arr m c w).symm)
      (fun b hb => W3_of_ne m c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin idle
    icases HO with ⟨%W, %hW, HO⟩
    iexists W
    isplitr
    · ipureintro
      intro p hp
      rcases hW hp with h | ⟨w, s, h⟩
      · exact h
      · rw [h]; exact Nat.zero_le _
    iexact HO

/-- Its call, from the boundary, its state and its ghost state. -/
theorem call1 (d : Dev nD) (Φ : PUnit → sProp 𝕄) :
    iprop((iprop(boundary (d : Thread nD τ) ∗ (reg1 m).post d) -∗ Φ ⟨⟩) ∗ boundary (d : Thread nD τ) ∗ (reg1 m).pre d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Φ := by
  rw [call_lift]
  have hl := (K (F := F)).wp_liftProg (D (F := F)) 𝒱 (SparseCore.T d : Thread nD τ) Set.univ none (entryProg (F := F) 0) Φ
  refine BI.Entails.trans ?_ hl
  have h := Pipeline.RegionSeg.wp (pcfgs (F := F)) adm (pdats m) none cellOf_inj EP defs₀ 𝒱₀ _ _ (reg1 m) d none
    (fun u hu => absurd hu (Option.not_mem_none u)) (α := PUnit) .ret Φ
  refine BI.Entails.trans (sep_mono_left (?_ : (_ : sProp 𝕄) ⊢ _)) h
  iintro Hk
  iintro H
  rw [wp_ret]
  imodintro
  iapply Hk; iexact H

-- the library states the split over the pipeline's pinned form, which unification must be free to unfold
set_option backward.isDefEq.respectTransparency.types false in
/-- The second TensorCore kernel as a step of `main`: from every buffer at `W4` to every buffer at `W5`. -/
def reg2 : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 (V4 m) c).loose
  hwaits := Pipeline.hwaits_of_owed_zero _ _ _ _ _ _ 1 fun _ _ => rfl
  pre c := iprop(StableHlo.held (c : Thread nD τ) (Pipeline.ucRefs τ sig) (W4 m c) ∗ idle c)
  post c := iprop(StableHlo.held (c : Thread nD τ) (Pipeline.ucRefs τ sig) (W5 m c) ∗ idle c)
  X c := iprop(emp)
  Y c := iprop(emp)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) (A_eq2 (V4 m) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin idle
      icases HO with ⟨%W, %hW, HO⟩; iexists W; isplitr; · ipureintro; exact fun p hp => Or.inl (hW p hp)
      iexact HO
    isplitr; · iempintro
    iexact Hrest
  hin c := by
    rw [show (pdats m 1 c).Φ 0 = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats m 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (fun w => (W5_arr m c w).symm)
      (fun b hb => W5_of_ne m c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin idle
    icases HO with ⟨%W, %hW, HO⟩
    iexists W
    isplitr
    · ipureintro
      intro p hp
      rcases hW hp with h | ⟨w, s, h⟩
      · exact h
      · rw [h]; exact Nat.zero_le _
    iexact HO

/-- Its call, from the boundary, its state and its ghost state. -/
theorem call2 (d : Dev nD) (Φ : PUnit → sProp 𝕄) :
    iprop((iprop(boundary (d : Thread nD τ) ∗ (reg2 m).post d) -∗ Φ ⟨⟩) ∗ boundary (d : Thread nD τ) ∗ (reg2 m).pre d
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (Prog.lift (.customCall (SparseCore.inner (Pipeline.entry 1)) ())) Φ := by
  rw [call_lift]
  have hl := (K (F := F)).wp_liftProg (D (F := F)) 𝒱 (SparseCore.T d : Thread nD τ) Set.univ none (entryProg (F := F) 1) Φ
  refine BI.Entails.trans ?_ hl
  have h := Pipeline.RegionSeg.wp (pcfgs (F := F)) adm (pdats m) none cellOf_inj EP defs₀ 𝒱₀ _ _ (reg2 m) d none
    (fun u hu => absurd hu (Option.not_mem_none u)) (α := PUnit) .ret Φ
  refine BI.Entails.trans (sep_mono_left (?_ : (_ : sProp 𝕄) ⊢ _)) h
  iintro Hk
  iintro H
  rw [wp_ret]
  imodintro
  iapply Hk; iexact H

end Cert.KernelIdeal.Run

end
-- ==== Proof.Whole.lean ====
module

public import proofs.«01_k».proof.Proof.Launch

@[expose] public section

set_option maxRecDepth 16384

/-! # The whole run

`main` from the launch to its end: every buffer of every device ends at the contents `W5`, and every semaphore at zero. -/

noncomputable section

namespace Cert.KernelIdeal.Run

open Cert.KernelIdeal Cert.KernelIdeal.Gen Cert.KernelIdeal.Bodies

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state of the launch -/

/-- The handshakes' rounds and the pipelines' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What device `d`'s `main` is dealt of it: both pipelines' cells and tokens. -/
abbrev deal (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem bigSep_emp' {I : Type} (s : Finset I) : (bigSep s fun _ => iprop(emp)) = (iprop(emp) : sProp 𝕄) := bigSep_emp_const s

theorem deal_eq (d : Dev nD) : (deal d : sProp 𝕄)
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold deal
  rw [show (Finset.univ : Finset (Fin 2)) = {0, 1} from rfl, bigSep_insert (by decide), bigSep_insert (by decide), bigSep_singleton, bigSep_singleton]
  rfl

theorem fund : (ownU (u₀ (F := F)) : sProp 𝕄)
    ⊢ |={Set.univ}=> iprop(BI.own (EH (initOf (K (F := F)).hsCells (K (F := F)).hsToks)) ∗ (bigSep Finset.univ fun d : Dev nD => deal d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `main` -/

/-- `main`, its operations in two lists. -/
theorem main_eq (d : Dev nD) : main (F := F) d = (StableHlo.seq ops₀ >>= fun _ => (sc (F := F)).run d 0 >>= fun _ =>
    Prog.lift (.customCall (SparseCore.inner (Pipeline.entry 0)) ()) >>= fun _ => StableHlo.seq ops₁ >>= fun _ =>
    Prog.lift (.customCall (SparseCore.inner (Pipeline.entry 1)) ()) >>= fun _ => pure ⟨⟩) := rfl

theorem ops₀_sub : ∀ op ∈ (ops₀ : List (HloOp τ sig (Elt F))), op.bufs ⊆ Pipeline.ucRefs τ sig :=
  fun op h => Pipeline.sub_ucRefs op (List.forall_iff_forall_mem.mp (show (ops₀ : List (HloOp τ sig (Elt F))).Forall fun op => op.bufs ⊆ StableHlo.tcRefs τ sig from
    ⟨StableHlo.reshape_bufs_sub .., StableHlo.reshape_bufs_sub .., StableHlo.reshape_bufs_sub .., StableHlo.reshape_bufs_sub ..⟩) op h)
theorem ops₁_sub : ∀ op ∈ (ops₁ : List (HloOp τ sig (Elt F))), op.bufs ⊆ Pipeline.ucRefs τ sig :=
  fun op h => Pipeline.sub_ucRefs op (List.forall_iff_forall_mem.mp (show (ops₁ : List (HloOp τ sig (Elt F))).Forall fun op => op.bufs ⊆ StableHlo.tcRefs τ sig from
    StableHlo.unary_bufs_sub ..) op h)

/-- The array of choices, as one of the buffers held. -/
theorem v4_mem : ({Proc.devRef .tc main_v4} : Finset (DevRef τ sig)) ⊆ Pipeline.ucRefs τ sig :=
  Finset.singleton_subset_iff.mpr (Finset.mem_filter.mpr ⟨StableHlo.devRef_mem_tcRefs main_v4, by decide⟩)

/-- Before the SparseCore call: the array of choices, and the rest. -/
theorem held_before (d : Dev nD) : (StableHlo.held (d : Thread nD τ) (Pipeline.ucRefs τ sig) (W1 m d) : sProp 𝕄)
    = iprop((cLoc d ↦{fullShare} m (cLoc d)) ∗ StableHlo.held (d : Thread nD τ) (Pipeline.ucRefs τ sig \ {Proc.devRef .tc main_v4}) (W1 m d)) := by
  rw [StableHlo.held_sub_split (d : Thread nD τ) v4_mem (W1 m d)]
  refine congrArg (fun P => iprop(P ∗ _)) ?_
  unfold StableHlo.held
  rw [bigSep_singleton, W1_of m d main_v4 (by decide)]
/-- and after it. -/
theorem held_after (d : Dev nD) : (StableHlo.held (d : Thread nD τ) (Pipeline.ucRefs τ sig) (W2 m d) : sProp 𝕄)
    = iprop((cLoc d ↦{fullShare} chosen d) ∗ StableHlo.held (d : Thread nD τ) (Pipeline.ucRefs τ sig \ {Proc.devRef .tc main_v4}) (W1 m d)) := by
  rw [StableHlo.held_sub_split (d : Thread nD τ) v4_mem (W2 m d)]
  rw [show (StableHlo.held (d : Thread nD τ) (Pipeline.ucRefs τ sig \ {Proc.devRef .tc main_v4}) (W2 m d) : sProp 𝕄)
      = StableHlo.held (d : Thread nD τ) (Pipeline.ucRefs τ sig \ {Proc.devRef .tc main_v4}) (W1 m d) from
    StableHlo.held_congr (d : Thread nD τ) fun b hb => by
      unfold W2
      exact Function.update_of_ne (fun h => (Finset.mem_sdiff.mp hb).2 (Finset.mem_singleton.mpr h)) _ _]
  refine congrArg (fun P => iprop(P ∗ _)) ?_
  unfold StableHlo.held
  rw [bigSep_singleton, W2_v4]

/-- Past its one SparseCore call the TensorCore owes nothing. -/
theorem owed_none (d : Dev nD) : (K (F := F)).Otc d 1 = 0 := by
  unfold SparseCore.Cfg.Otc
  exact Finset.sum_eq_zero fun q _ => if_neg (by have := q.isLt; omega)

theorem owes_none (d : Dev nD) (W : Waits sig (HIx 1)) :
    (owes (SparseCore.T d : Thread nD τ) ((K (F := F)).Otc d ((0 : Fin 1).val + 1)) W : sProp 𝕄)
      = owes (d : Thread nD τ) (0 : CellTallies nD τ sig (HIx 1)) W :=
  congrArg (fun O => (owes (d : Thread nD τ) O W : sProp 𝕄)) (owed_none d)

/-- What `main` ends with: every buffer at its last contents. -/
abbrev FIN (d : Dev nD) : sProp 𝕄 := StableHlo.held (d : Thread nD τ) (Pipeline.ucRefs τ sig) (W5 m d)

/-- `main` on device `d`'s TensorCore. -/
theorem main_run (κ : GSem nD τ sig → ℕ) (d : Dev nD) :
    iprop((K (F := F)).ctx EH (P m) κ ∗ (K (F := F)).tcSt EH d 0 ∗ (K (F := F)).tcRes m ρ d ∗ deal d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq, deal_eq]
  unfold SparseCore.Cfg.tcRes SparseCore.Cfg.tcEnd
  rw [show (unscopedBufs d (fun b => m ((SparseCore.T d : Thread nD τ).loc b)) : sProp 𝕄) = StableHlo.held (d : Thread nD τ) (Pipeline.ucRefs τ sig) (W0 m d) from
    Pipeline.unscopedBufs_held d (W0 m d)]
  iintro ⟨#Hctx, Hst, ⟨Hb, Hub, Hts, -⟩, ⟨⟨Hg0, Hg1⟩, ⟨Ht0, Ht1⟩⟩⟩
  iapply (StableHlo.wp_seq 𝒱 none Set.univ d (Pipeline.ucRefs τ sig) _ ops₀ ops₀_sub ops₀_fresh (W0 m d)) $$ [Hb Hub]
  · isplitl [Hb] <;> iassumption
  iintro ⟨Hb, Hub⟩
  ihave Hub := (Entails.of_eq (held_before m d)) $$ Hub
  icases Hub with ⟨Hc, Hub⟩
  rw [wp_bind]
  iapply ((K (F := F)).wp_run (D (F := F)) 𝒱 (EH := EH) (P := P m) κ d 0)
  isplitr; · iexact Hctx
  isplitl [Hst]; · iexact Hst
  isplitl [Hc]; · rw [st0_eq]; iexact Hc
  iintro ⟨Hst, Hc⟩
  ihave Hc := (Entails.of_eq (dn0_eq m d)) $$ Hc
  ihave Hub := (Entails.of_eq (held_after m d).symm) $$ [Hc Hub]
  · isplitl [Hc] <;> iassumption
  unfold SparseCore.Cfg.tcSt
  icases Hst with ⟨⟨%W, %hW, HO⟩, Hrest⟩
  ihave HO := (Entails.of_eq (owes_none d W)) $$ HO
  ihave Hlev := (SparseCore.Cfg.ctx_levAts κ) $$ Hctx
  rw [wp_bind]
  iapply (call1 m d)
  isplitr [Hb Hub HO Hlev Hg0 Ht0]
  swap
  · isplitl [Hb]; · iexact Hb
    isplitl [Hub HO]
    · unfold reg1 idle
      isplitl [Hub]; · iexact Hub
      iexists W; isplitr; · ipureintro; exact hW
      iexact HO
    isplitl [Hlev]; · iexact Hlev
    isplitl [Hg0] <;> iassumption
  iintro ⟨Hb, Hpost⟩
  unfold reg1 idle
  icases Hpost with ⟨Hub, HI⟩
  icases HI with ⟨%W', %hW', HO⟩
  iapply (StableHlo.wp_seq 𝒱 none Set.univ d (Pipeline.ucRefs τ sig) _ ops₁ ops₁_sub ops₁_fresh (W3 m d)) $$ [Hb Hub]
  · isplitl [Hb] <;> iassumption
  iintro ⟨Hb, Hub⟩
  ihave Hlev := (SparseCore.Cfg.ctx_levAts κ) $$ Hctx
  rw [wp_bind]
  iapply (call2 m d)
  isplitr [Hb Hub HO Hlev Hg1 Ht1]
  swap
  · isplitl [Hb]; · iexact Hb
    isplitl [Hub HO]
    · unfold reg2 idle
      isplitl [Hub]; · iexact Hub
      iexists W'; isplitr; · ipureintro; exact hW'
      iexact HO
    isplitl [Hlev]; · iexact Hlev
    isplitl [Hg1] <;> iassumption
  iintro ⟨Hb, Hpost⟩
  unfold reg2 idle
  icases Hpost with ⟨Hub, HI⟩
  icases HI with ⟨%W'', %hW'', HO⟩
  rw [wp_pure]
  imodintro
  isplitl [HO Hrest]
  · isplitl [HO]
    · iexists W''; isplitr; · ipureintro; exact hW''
      iapply (Entails.of_eq (owes_none d W'').symm); iexact HO
    iexact Hrest
  isplitl [Hub]; · iexact Hub
  isplitl [Hb] <;> iassumption

/-! ## The launch -/

/-- What is read of device `d`'s memory at the end. -/
def fq (d : Dev nD) (s' : Phys nD τ sig (Elt F)) : Prop := ∀ b ∈ Pipeline.ucRefs τ sig, s'.mem.mem (d, b) = W5 m d b

theorem read_end (d : Dev nD) (s' : Phys nD τ sig (Elt F)) : iprop(FIN m d ∗ SI s') ⊢ (⌜fq m d s'⌝ : sProp 𝕄) :=
  (pointsTo_read_all (Pipeline.ucRefs τ sig) (fun b => (d, b)) (W5 m d) s').trans sep_elim_left

/-- What the program ends with. -/
def QC : PUnit × MemSt nD τ sig (Elt F) → Prop :=
  fun r => (∀ c : Dev nD, ∀ b ∈ Pipeline.ucRefs τ sig, r.2.mem (c, b) = W5 m c b) ∧ r.2.sem = fun _ => 0

/-- From any memory, with every semaphore at zero, the program ends with every buffer at `W5` and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => deal d) (FIN m) (u₀ (F := F)) (sep_elim_left.trans (fund m)) (main_run m ρ) (fq m) (read_end m) (QC m) (fun _ h hz => ⟨h, hz⟩)

/-- A buffer of the TensorCore is among those read at the end. -/
theorem mem_read (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_unscoped : ∀ a ∈ args, ¬ (Proc.devRef .tc a : DevRef τ sig).isScoped := by decide +kernel

/-- Every argument ends as it began. -/
theorem args_kept {r : PUnit × MemSt nD τ sig (Elt F)} (h : QC m r) (c : Dev nD) (a : Ref sig .tc) (ha : a ∈ args) :
    r.2.mem ((c.tc : Thread nD τ).loc a) = m ((c.tc : Thread nD τ).loc a) :=
  (h.1 c _ (mem_read a (args_unscoped a ha))).trans (W5_args m c a ha)

/-- The result ends at `W5`. -/
theorem result_at {r : PUnit × MemSt nD τ sig (Elt F)} (h : QC m r) (c : Dev nD) :
    r.2.mem ((c.tc : Thread nD τ).loc main_v6) = W5 m c (Proc.devRef .tc main_v6) :=
  h.1 c _ (mem_read main_v6 (by decide))

end Cert.KernelIdeal.Run

end
-- ==== Proof.RefOps.lean ====
module

public import proofs.«01_k».proof.Proof.Gen.ReferenceIdeal
public import Idealize.ShloMosaic.Lib.StableHlo.Run
public import Idealize.ShloMosaic.Lib.Pipeline.Regions

/-! The reference as one line of host operations: each function's operations listed in their order, calls in place. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The operations of the clipping at zero. -/
def reluOps (arg0 : TRef sig ⟨S16384x128, .f32⟩) (φ : fn_relu.Bufs) : List (HloOp τ sig (Elt F)) :=
  [TRef.nullary φ.cst (constant S_ .f32 0x00000000#32),
   TRef.unary φ.cst φ.v0 (broadcastInDim S16384x128 ![] bcast_S_S16384x128),
   TRef.binary arg0 φ.v0 φ.v1 maximumf]

/-- The operations of part 0 of the mixing rounds. -/
def mixPart0Ops (arg0 arg1 : TRef sig ⟨S_, .i32⟩) (arg2 arg3 : TRef sig ⟨S128x16384x4, .i32⟩) (φ : fn_threefry2x32.Bufs) : List (HloOp τ sig (Elt F)) :=
  [TRef.binary arg0 arg1 φ.v0 xori,
   TRef.nullary φ.c (constantI S_ 32 466688986#32),
   TRef.binary φ.v0 φ.c φ.v1 xori,
   TRef.unary arg0 φ.v2 (broadcastInDim S128x16384x4 ![] bcast_S_S128x16384x4),
   TRef.binary arg2 φ.v2 φ.v3 addi,
   TRef.unary arg1 φ.v4 (broadcastInDim S128x16384x4 ![] bcast_S_S128x16384x4),
   TRef.binary arg3 φ.v4 φ.v5 addi,
   TRef.binary φ.v3 φ.v5 φ.v6 addi,
   TRef.nullary φ.c_0 (constantI S_ 32 13#32),
   TRef.unary φ.c_0 φ.v7 (broadcastInDim S128x16384x4 ![] bcast_S_S128x16384x4),
   TRef.binary φ.v5 φ.v7 φ.v8 Host.shli,
   TRef.nullary φ.c_1 (constantI S_ 32 19#32),
   TRef.unary φ.c_1 φ.v9 (broadcastInDim S128x16384x4 ![] bcast_S_S128x16384x4),
   TRef.binary φ.v5 φ.v9 φ.v10 Host.shrui,
   TRef.binary φ.v8 φ.v10 φ.v11 ori,
   TRef.binary φ.v6 φ.v11 φ.v12 xori,
   TRef.binary φ.v6 φ.v12 φ.v13 addi,
   TRef.nullary φ.c_2 (constantI S_ 32 15#32),
   TRef.unary φ.c_2 φ.v14 (broadcastInDim S128x16384x4 ![] bcast_S_S128x16384x4),
   TRef.binary φ.v12 φ.v14 φ.v15 Host.shli,
   TRef.nullary φ.c_3 (constantI S_ 32 17#32),
   TRef.unary φ.c_3 φ.v16 (broadcastInDim S128x16384x4 ![] bcast_S_S128x16384x4),
   TRef.binary φ.v12 φ.v16 φ.v17 Host.shrui,
   TRef.binary φ.v15 φ.v17 φ.v18 ori,
   TRef.binary φ.v13 φ.v18 φ.v19 xori,
   TRef.binary φ.v13 φ.v19 φ.v20 addi,
   TRef.nullary φ.c_4 (constantI S_ 32 26#32),
   TRef.unary φ.c_4 φ.v21 (broadcastInDim S128x16384x4 ![] bcast_S_S128x16384x4),
   TRef.binary φ.v19 φ.v21 φ.v22 Host.shli,
   TRef.nullary φ.c_5 (constantI S_ 32 6#32),
   TRef.unary φ.c_5 φ.v23 (broadcastInDim S128x16384x4 ![] bcast_S_S128x16384x4),
   TRef.binary φ.v19 φ.v23 φ.v24 Host.shrui,
   TRef.binary φ.v22 φ.v24 φ.v25 ori,
   TRef.binary φ.v20 φ.v25 φ.v26 xori,
   TRef.binary φ.v20 φ.v26 φ.v27 addi,
   TRef.nullary φ.c_6 (constantI S_ 32 6#32),
   TRef.unary φ.c_6 φ.v28 (broadcastInDim S128x16384x4 ![] bcast_S_S128x16384x4),
   TRef.binary φ.v26 φ.v28 φ.v29 Host.shli,
   TRef.nullary φ.c_7 (constantI S_ 32 26#32),
   TRef.unary φ.c_7 φ.v30 (broadcastInDim S128x16384x4 ![] bcast_S_S128x16384x4),
   TRef.binary φ.v26 φ.v30 φ.v31 Host.shrui,
   TRef.binary φ.v29 φ.v31 φ.v32 ori,
   TRef.binary φ.v27 φ.v32 φ.v33 xori,
   TRef.unary arg1 φ.v34 (broadcastInDim S128x16384x4 ![] bcast_S_S128x16384x4),
   TRef.binary φ.v27 φ.v34 φ.v35 addi,
   TRef.unary φ.v1 φ.v36 (broadcastInDim S128x16384x4 ![] bcast_S_S128x16384x4),
   TRef.binary φ.v33 φ.v36 φ.v37 addi,
   TRef.nullary φ.c_8 (constantI S_ 32 1#32),
   TRef.unary φ.c_8 φ.v38 (broadcastInDim S128x16384x4 ![] bcast_S_S128x16384x4),
   TRef.binary φ.v37 φ.v38 φ.v39 addi,
   TRef.binary φ.v35 φ.v39 φ.v40 addi,
   TRef.nullary φ.c_9 (constantI S_ 32 17#32),
   TRef.unary φ.c_9 φ.v41 (broadcastInDim S128x16384x4 ![] bcast_S_S128x16384x4),
   TRef.binary φ.v39 φ.v41 φ.v42 Host.shli,
   TRef.nullary φ.c_10 (constantI S_ 32 15#32),
   TRef.unary φ.c_10 φ.v43 (broadcastInDim S128x16384x4 ![] bcast_S_S128x16384x4),
   TRef.binary φ.v39 φ.v43 φ.v44 Host.shrui,
   TRef.binary φ.v42 φ.v44 φ.v45 ori,
   TRef.binary φ.v40 φ.v45 φ.v46 xori,
   TRef.binary φ.v40 φ.v46 φ.v47 addi]

/-- The operations of part 1 of the mixing rounds. -/
def mixPart1Ops (arg0 arg1 : TRef sig ⟨S_, .i32⟩) (arg2 arg3 : TRef sig ⟨S128x16384x4, .i32⟩) (φ : fn_threefry2x32.Bufs) : List (HloOp τ sig (Elt F)) :=
  [TRef.nullary φ.c_11 (constantI S_ 32 29#32),
   TRef.unary φ.c_11 φ.v48 (broadcastInDim S128x16384x4 ![] bcast_S_S128x16384x4),
   TRef.binary φ.v46 φ.v48 φ.v49 Host.shli,
   TRef.nullary φ.c_12 (constantI S_ 32 3#32),
   TRef.unary φ.c_12 φ.v50 (broadcastInDim S128x16384x4 ![] bcast_S_S128x16384x4),
   TRef.binary φ.v46 φ.v50 φ.v51 Host.shrui,
   TRef.binary φ.v49 φ.v51 φ.v52 ori,
   TRef.binary φ.v47 φ.v52 φ.v53 xori,
   TRef.binary φ.v47 φ.v53 φ.v54 addi,
   TRef.nullary φ.c_13 (constantI S_ 32 16#32),
   TRef.unary φ.c_13 φ.v55 (broadcastInDim S128x16384x4 ![] bcast_S_S128x16384x4),
   TRef.binary φ.v53 φ.v55 φ.v56 Host.shli,
   TRef.nullary φ.c_14 (constantI S_ 32 16#32),
   TRef.unary φ.c_14 φ.v57 (broadcastInDim S128x16384x4 ![] bcast_S_S128x16384x4),
   TRef.binary φ.v53 φ.v57 φ.v58 Host.shrui,
   TRef.binary φ.v56 φ.v58 φ.v59 ori,
   TRef.binary φ.v54 φ.v59 φ.v60 xori,
   TRef.binary φ.v54 φ.v60 φ.v61 addi,
   TRef.nullary φ.c_15 (constantI S_ 32 24#32),
   TRef.unary φ.c_15 φ.v62 (broadcastInDim S128x16384x4 ![] bcast_S_S128x16384x4),
   TRef.binary φ.v60 φ.v62 φ.v63 Host.shli,
   TRef.nullary φ.c_16 (constantI S_ 32 8#32),
   TRef.unary φ.c_16 φ.v64 (broadcastInDim S128x16384x4 ![] bcast_S_S128x16384x4),
   TRef.binary φ.v60 φ.v64 φ.v65 Host.shrui,
   TRef.binary φ.v63 φ.v65 φ.v66 ori,
   TRef.binary φ.v61 φ.v66 φ.v67 xori,
   TRef.unary φ.v1 φ.v68 (broadcastInDim S128x16384x4 ![] bcast_S_S128x16384x4),
   TRef.binary φ.v61 φ.v68 φ.v69 addi,
   TRef.unary arg0 φ.v70 (broadcastInDim S128x16384x4 ![] bcast_S_S128x16384x4),
   TRef.binary φ.v67 φ.v70 φ.v71 addi,
   TRef.nullary φ.c_17 (constantI S_ 32 2#32),
   TRef.unary φ.c_17 φ.v72 (broadcastInDim S128x16384x4 ![] bcast_S_S128x16384x4),
   TRef.binary φ.v71 φ.v72 φ.v73 addi,
   TRef.binary φ.v69 φ.v73 φ.v74 addi,
   TRef.nullary φ.c_18 (constantI S_ 32 13#32),
   TRef.unary φ.c_18 φ.v75 (broadcastInDim S128x16384x4 ![] bcast_S_S128x16384x4),
   TRef.binary φ.v73 φ.v75 φ.v76 Host.shli,
   TRef.nullary φ.c_19 (constantI S_ 32 19#32),
   TRef.unary φ.c_19 φ.v77 (broadcastInDim S128x16384x4 ![] bcast_S_S128x16384x4),
   TRef.binary φ.v73 φ.v77 φ.v78 Host.shrui,
   TRef.binary φ.v76 φ.v78 φ.v79 ori,
   TRef.binary φ.v74 φ.v79 φ.v80 xori,
   TRef.binary φ.v74 φ.v80 φ.v81 addi,
   TRef.nullary φ.c_20 (constantI S_ 32 15#32),
   TRef.unary φ.c_20 φ.v82 (broadcastInDim S128x16384x4 ![] bcast_S_S128x16384x4),
   TRef.binary φ.v80 φ.v82 φ.v83 Host.shli,
   TRef.nullary φ.c_21 (constantI S_ 32 17#32),
   TRef.unary φ.c_21 φ.v84 (broadcastInDim S128x16384x4 ![] bcast_S_S128x16384x4),
   TRef.binary φ.v80 φ.v84 φ.v85 Host.shrui,
   TRef.binary φ.v83 φ.v85 φ.v86 ori,
   TRef.binary φ.v81 φ.v86 φ.v87 xori,
   TRef.binary φ.v81 φ.v87 φ.v88 addi,
   TRef.nullary φ.c_22 (constantI S_ 32 26#32),
   TRef.unary φ.c_22 φ.v89 (broadcastInDim S128x16384x4 ![] bcast_S_S128x16384x4),
   TRef.binary φ.v87 φ.v89 φ.v90 Host.shli,
   TRef.nullary φ.c_23 (constantI S_ 32 6#32),
   TRef.unary φ.c_23 φ.v91 (broadcastInDim S128x16384x4 ![] bcast_S_S128x16384x4),
   TRef.binary φ.v87 φ.v91 φ.v92 Host.shrui,
   TRef.binary φ.v90 φ.v92 φ.v93 ori,
   TRef.binary φ.v88 φ.v93 φ.v94 xori]

/-- The operations of part 2 of the mixing rounds. -/
def mixPart2Ops (arg0 arg1 : TRef sig ⟨S_, .i32⟩) (arg2 arg3 : TRef sig ⟨S128x16384x4, .i32⟩) (φ : fn_threefry2x32.Bufs) : List (HloOp τ sig (Elt F)) :=
  [TRef.binary φ.v88 φ.v94 φ.v95 addi,
   TRef.nullary φ.c_24 (constantI S_ 32 6#32),
   TRef.unary φ.c_24 φ.v96 (broadcastInDim S128x16384x4 ![] bcast_S_S128x16384x4),
   TRef.binary φ.v94 φ.v96 φ.v97 Host.shli,
   TRef.nullary φ.c_25 (constantI S_ 32 26#32),
   TRef.unary φ.c_25 φ.v98 (broadcastInDim S128x16384x4 ![] bcast_S_S128x16384x4),
   TRef.binary φ.v94 φ.v98 φ.v99 Host.shrui,
   TRef.binary φ.v97 φ.v99 φ.v100 ori,
   TRef.binary φ.v95 φ.v100 φ.v101 xori,
   TRef.unary arg0 φ.v102 (broadcastInDim S128x16384x4 ![] bcast_S_S128x16384x4),
   TRef.binary φ.v95 φ.v102 φ.v103 addi,
   TRef.unary arg1 φ.v104 (broadcastInDim S128x16384x4 ![] bcast_S_S128x16384x4),
   TRef.binary φ.v101 φ.v104 φ.v105 addi,
   TRef.nullary φ.c_26 (constantI S_ 32 3#32),
   TRef.unary φ.c_26 φ.v106 (broadcastInDim S128x16384x4 ![] bcast_S_S128x16384x4),
   TRef.binary φ.v105 φ.v106 φ.v107 addi,
   TRef.binary φ.v103 φ.v107 φ.v108 addi,
   TRef.nullary φ.c_27 (constantI S_ 32 17#32),
   TRef.unary φ.c_27 φ.v109 (broadcastInDim S128x16384x4 ![] bcast_S_S128x16384x4),
   TRef.binary φ.v107 φ.v109 φ.v110 Host.shli,
   TRef.nullary φ.c_28 (constantI S_ 32 15#32),
   TRef.unary φ.c_28 φ.v111 (broadcastInDim S128x16384x4 ![] bcast_S_S128x16384x4),
   TRef.binary φ.v107 φ.v111 φ.v112 Host.shrui,
   TRef.binary φ.v110 φ.v112 φ.v113 ori,
   TRef.binary φ.v108 φ.v113 φ.v114 xori,
   TRef.binary φ.v108 φ.v114 φ.v115 addi,
   TRef.nullary φ.c_29 (constantI S_ 32 29#32),
   TRef.unary φ.c_29 φ.v116 (broadcastInDim S128x16384x4 ![] bcast_S_S128x16384x4),
   TRef.binary φ.v114 φ.v116 φ.v117 Host.shli,
   TRef.nullary φ.c_30 (constantI S_ 32 3#32),
   TRef.unary φ.c_30 φ.v118 (broadcastInDim S128x16384x4 ![] bcast_S_S128x16384x4),
   TRef.binary φ.v114 φ.v118 φ.v119 Host.shrui,
   TRef.binary φ.v117 φ.v119 φ.v120 ori,
   TRef.binary φ.v115 φ.v120 φ.v121 xori,
   TRef.binary φ.v115 φ.v121 φ.v122 addi,
   TRef.nullary φ.c_31 (constantI S_ 32 16#32),
   TRef.unary φ.c_31 φ.v123 (broadcastInDim S128x16384x4 ![] bcast_S_S128x16384x4),
   TRef.binary φ.v121 φ.v123 φ.v124 Host.shli,
   TRef.nullary φ.c_32 (constantI S_ 32 16#32),
   TRef.unary φ.c_32 φ.v125 (broadcastInDim S128x16384x4 ![] bcast_S_S128x16384x4),
   TRef.binary φ.v121 φ.v125 φ.v126 Host.shrui,
   TRef.binary φ.v124 φ.v126 φ.v127 ori,
   TRef.binary φ.v122 φ.v127 φ.v128 xori,
   TRef.binary φ.v122 φ.v128 φ.v129 addi,
   TRef.nullary φ.c_33 (constantI S_ 32 24#32),
   TRef.unary φ.c_33 φ.v130 (broadcastInDim S128x16384x4 ![] bcast_S_S128x16384x4),
   TRef.binary φ.v128 φ.v130 φ.v131 Host.shli,
   TRef.nullary φ.c_34 (constantI S_ 32 8#32),
   TRef.unary φ.c_34 φ.v132 (broadcastInDim S128x16384x4 ![] bcast_S_S128x16384x4),
   TRef.binary φ.v128 φ.v132 φ.v133 Host.shrui,
   TRef.binary φ.v131 φ.v133 φ.v134 ori,
   TRef.binary φ.v129 φ.v134 φ.v135 xori,
   TRef.unary arg1 φ.v136 (broadcastInDim S128x16384x4 ![] bcast_S_S128x16384x4),
   TRef.binary φ.v129 φ.v136 φ.v137 addi,
   TRef.unary φ.v1 φ.v138 (broadcastInDim S128x16384x4 ![] bcast_S_S128x16384x4),
   TRef.binary φ.v135 φ.v138 φ.v139 addi,
   TRef.nullary φ.c_35 (constantI S_ 32 4#32),
   TRef.unary φ.c_35 φ.v140 (broadcastInDim S128x16384x4 ![] bcast_S_S128x16384x4),
   TRef.binary φ.v139 φ.v140 φ.v141 addi,
   TRef.binary φ.v137 φ.v141 φ.v142 addi]

/-- The operations of part 3 of the mixing rounds. -/
def mixPart3Ops (arg0 arg1 : TRef sig ⟨S_, .i32⟩) (arg2 arg3 : TRef sig ⟨S128x16384x4, .i32⟩) (φ : fn_threefry2x32.Bufs) : List (HloOp τ sig (Elt F)) :=
  [TRef.nullary φ.c_36 (constantI S_ 32 13#32),
   TRef.unary φ.c_36 φ.v143 (broadcastInDim S128x16384x4 ![] bcast_S_S128x16384x4),
   TRef.binary φ.v141 φ.v143 φ.v144 Host.shli,
   TRef.nullary φ.c_37 (constantI S_ 32 19#32),
   TRef.unary φ.c_37 φ.v145 (broadcastInDim S128x16384x4 ![] bcast_S_S128x16384x4),
   TRef.binary φ.v141 φ.v145 φ.v146 Host.shrui,
   TRef.binary φ.v144 φ.v146 φ.v147 ori,
   TRef.binary φ.v142 φ.v147 φ.v148 xori,
   TRef.binary φ.v142 φ.v148 φ.v149 addi,
   TRef.nullary φ.c_38 (constantI S_ 32 15#32),
   TRef.unary φ.c_38 φ.v150 (broadcastInDim S128x16384x4 ![] bcast_S_S128x16384x4),
   TRef.binary φ.v148 φ.v150 φ.v151 Host.shli,
   TRef.nullary φ.c_39 (constantI S_ 32 17#32),
   TRef.unary φ.c_39 φ.v152 (broadcastInDim S128x16384x4 ![] bcast_S_S128x16384x4),
   TRef.binary φ.v148 φ.v152 φ.v153 Host.shrui,
   TRef.binary φ.v151 φ.v153 φ.v154 ori,
   TRef.binary φ.v149 φ.v154 φ.v155 xori,
   TRef.binary φ.v149 φ.v155 φ.v156 addi,
   TRef.nullary φ.c_40 (constantI S_ 32 26#32),
   TRef.unary φ.c_40 φ.v157 (broadcastInDim S128x16384x4 ![] bcast_S_S128x16384x4),
   TRef.binary φ.v155 φ.v157 φ.v158 Host.shli,
   TRef.nullary φ.c_41 (constantI S_ 32 6#32),
   TRef.unary φ.c_41 φ.v159 (broadcastInDim S128x16384x4 ![] bcast_S_S128x16384x4),
   TRef.binary φ.v155 φ.v159 φ.v160 Host.shrui,
   TRef.binary φ.v158 φ.v160 φ.v161 ori,
   TRef.binary φ.v156 φ.v161 φ.v162 xori,
   TRef.binary φ.v156 φ.v162 φ.v163 addi,
   TRef.nullary φ.c_42 (constantI S_ 32 6#32),
   TRef.unary φ.c_42 φ.v164 (broadcastInDim S128x16384x4 ![] bcast_S_S128x16384x4),
   TRef.binary φ.v162 φ.v164 φ.v165 Host.shli,
   TRef.nullary φ.c_43 (constantI S_ 32 26#32),
   TRef.unary φ.c_43 φ.v166 (broadcastInDim S128x16384x4 ![] bcast_S_S128x16384x4),
   TRef.binary φ.v162 φ.v166 φ.v167 Host.shrui,
   TRef.binary φ.v165 φ.v167 φ.v168 ori,
   TRef.binary φ.v163 φ.v168 φ.v169 xori,
   TRef.unary φ.v1 φ.v170 (broadcastInDim S128x16384x4 ![] bcast_S_S128x16384x4),
   TRef.binary φ.v163 φ.v170 φ.v171 addi,
   TRef.unary arg0 φ.v172 (broadcastInDim S128x16384x4 ![] bcast_S_S128x16384x4),
   TRef.binary φ.v169 φ.v172 φ.v173 addi,
   TRef.nullary φ.c_44 (constantI S_ 32 5#32),
   TRef.unary φ.c_44 φ.v174 (broadcastInDim S128x16384x4 ![] bcast_S_S128x16384x4),
   TRef.binary φ.v173 φ.v174 φ.v175 addi]

/-- The operations of the mixing rounds, calls in place. -/
def mixOps (arg0 arg1 : TRef sig ⟨S_, .i32⟩) (arg2 arg3 : TRef sig ⟨S128x16384x4, .i32⟩) (φ : fn_threefry2x32.Bufs) : List (HloOp τ sig (Elt F)) :=
  mixPart0Ops arg0 arg1 arg2 arg3 φ ++ (mixPart1Ops arg0 arg1 arg2 arg3 φ ++ (mixPart2Ops arg0 arg1 arg2 arg3 φ ++ (mixPart3Ops arg0 arg1 arg2 arg3 φ)))

/-- The operations of stretch 1 of the uniform draw. -/
def uniformOps1 (arg0 : TRef sig ⟨S2, .i32⟩) (arg1 arg2 : TRef sig ⟨S_, .f32⟩) (φ : fn_uniform.Bufs) : List (HloOp τ sig (Elt F)) :=
  [TRef.unary arg1 φ.v0 id,
   TRef.unary arg2 φ.v1 (broadcastInDim S1x1x1 ![] bcast_S_S1x1x1),
   TRef.unary φ.v0 φ.v2 (broadcastInDim S1x1x1 ![] bcast_S_S1x1x1),
   TRef.unary arg0 φ.v3 (extractStridedSlice S1 ![0] · slices_S2_S1_0),
   TRef.reshape φ.v3 φ.v4 (rfl : (.i32 : EltTy) = .i32) shapeCasts_S1_S_,
   TRef.unary arg0 φ.v5 (extractStridedSlice S1 ![1] · slices_S2_S1_1),
   TRef.reshape φ.v5 φ.v6 (rfl : (.i32 : EltTy) = .i32) shapeCasts_S1_S_,
   TRef.nullary φ.v7 (iotaInDim S128x16384x4 64 0),
   TRef.nullary φ.v8 (iotaInDim S128x16384x4 64 1),
   TRef.nullary φ.v9 (iotaInDim S128x16384x4 64 2),
   TRef.nullary φ.c (constantI S_ 64 65536#64),
   TRef.unary φ.c φ.v10 (broadcastInDim S128x16384x4 ![] bcast_S_S128x16384x4),
   TRef.binary φ.v10 φ.v7 φ.v11 muli,
   TRef.nullary φ.c_0 (constantI S_ 64 4#64),
   TRef.unary φ.c_0 φ.v12 (broadcastInDim S128x16384x4 ![] bcast_S_S128x16384x4),
   TRef.binary φ.v12 φ.v8 φ.v13 muli,
   TRef.nullary φ.c_1 (constantI S_ 64 1#64),
   TRef.unary φ.c_1 φ.v14 (broadcastInDim S128x16384x4 ![] bcast_S_S128x16384x4),
   TRef.binary φ.v14 φ.v9 φ.v15 muli,
   TRef.binary φ.v11 φ.v13 φ.v16 addi,
   TRef.binary φ.v16 φ.v15 φ.v17 addi,
   TRef.nullary φ.c_2 (constantI S_ 64 32#64),
   TRef.unary φ.c_2 φ.v18 (broadcastInDim S128x16384x4 ![] bcast_S_S128x16384x4),
   TRef.binary φ.v17 φ.v18 φ.v19 Host.shrui,
   TRef.unary φ.v17 φ.v20 (trunci 32 · natLt_32_64),
   TRef.unary φ.v19 φ.v21 (trunci 32 · natLt_32_64)]

/-- The operations of stretch 2 of the uniform draw. -/
def uniformOps2 (arg0 : TRef sig ⟨S2, .i32⟩) (arg1 arg2 : TRef sig ⟨S_, .f32⟩) (φ : fn_uniform.Bufs) : List (HloOp τ sig (Elt F)) :=
  [TRef.binary φ.call0.v171 φ.call0.v175 φ.v23 xori,
   TRef.nullary φ.c_3 (constantI S_ 32 9#32),
   TRef.unary φ.c_3 φ.v24 (broadcastInDim S128x16384x4 ![] bcast_S_S128x16384x4),
   TRef.binary φ.v23 φ.v24 φ.v25 Host.shrui,
   TRef.nullary φ.c_4 (constantI S_ 32 1065353216#32),
   TRef.unary φ.c_4 φ.v26 (broadcastInDim S128x16384x4 ![] bcast_S_S128x16384x4),
   TRef.binary φ.v25 φ.v26 φ.v27 ori,
   TRef.unary φ.v27 φ.v28 (bitcastToFloat .f32),
   TRef.nullary φ.cst (constant S_ .f32 0x3F800000#32),
   TRef.unary φ.cst φ.v29 (broadcastInDim S128x16384x4 ![] bcast_S_S128x16384x4),
   TRef.binary φ.v28 φ.v29 φ.v30 subf,
   TRef.binary φ.v2 φ.v1 φ.v31 subf,
   TRef.unary φ.v31 φ.v32 (broadcastInDim S128x16384x4 ![0, 1, 2] bcast_S1x1x1_S128x16384x4_0_1_2),
   TRef.binary φ.v30 φ.v32 φ.v33 mulf,
   TRef.unary φ.v1 φ.v34 (broadcastInDim S128x16384x4 ![0, 1, 2] bcast_S1x1x1_S128x16384x4_0_1_2),
   TRef.binary φ.v33 φ.v34 φ.v35 addf,
   TRef.unary φ.v1 φ.v36 (broadcastInDim S128x16384x4 ![0, 1, 2] bcast_S1x1x1_S128x16384x4_0_1_2),
   TRef.binary φ.v36 φ.v35 φ.v37 maximumf]

/-- The operations of the uniform draw, calls in place. -/
def uniformOps (arg0 : TRef sig ⟨S2, .i32⟩) (arg1 arg2 : TRef sig ⟨S_, .f32⟩) (φ : fn_uniform.Bufs) : List (HloOp τ sig (Elt F)) :=
  uniformOps1 arg0 arg1 arg2 φ ++ (mixOps φ.v4 φ.v6 φ.v21 φ.v20 φ.call0 ++ (uniformOps2 arg0 arg1 arg2 φ))

/-- The operations of stretch 1 of the Gumbel draw. -/
def gumbelOps1 (arg0 : TRef sig ⟨S2, .i32⟩) (φ : fn_gumbel.Bufs) : List (HloOp τ sig (Elt F)) :=
  [TRef.nullary φ.cst (constant S_ .f32 0x3F800000#32),
   TRef.nullary φ.cst_0 (constant S_ .f32 0x00800000#32)]

/-- The operations of stretch 2 of the Gumbel draw. -/
def gumbelOps2 (arg0 : TRef sig ⟨S2, .i32⟩) (φ : fn_gumbel.Bufs) : List (HloOp τ sig (Elt F)) :=
  [TRef.unary φ.call0.v37 φ.v1 Host.log,
   TRef.unary φ.v1 φ.v2 Host.negf,
   TRef.unary φ.v2 φ.v3 Host.log,
   TRef.unary φ.v3 φ.v4 Host.negf]

/-- The operations of the Gumbel draw, calls in place. -/
def gumbelOps (arg0 : TRef sig ⟨S2, .i32⟩) (φ : fn_gumbel.Bufs) : List (HloOp τ sig (Elt F)) :=
  gumbelOps1 arg0 φ ++ (uniformOps arg0 φ.cst φ.cst_0 φ.call0 ++ (gumbelOps2 arg0 φ))

/-- The operations of the position of the greatest. -/
def argmaxOps (arg0 : TRef sig ⟨S128x16384x4, .f32⟩) (φ : fn_argmax.Bufs) : List (HloOp τ sig (Elt F)) :=
  [TRef.nullary φ.v0 (iotaInDim S128x16384x4 32 2),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S128x16384x4_S128x16384_d2 h_S_ j).1),
   TRef.quaternary arg0 φ.v0 φ.cst φ.c φ.v1_1 (fun x y u v j => (Host.argReduce reducer_argmax_f32_i32 x y u v reducesTo_S128x16384x4_S128x16384_d2 h_S_ j).2)]

/-- The operations of the one-hot rows. -/
def oneHotOps (arg0 : TRef sig ⟨S16384x128, .i32⟩) (φ : fn_one_hot.Bufs) : List (HloOp τ sig (Elt F)) :=
  [TRef.unary arg0 φ.v0 (broadcastInDim S16384x128x1 ![0, 1] bcast_S16384x128_S16384x128x1_0_1),
   TRef.nullary φ.v1 (iotaInDim S1x1x4 32 2),
   TRef.unary φ.v0 φ.v2 (broadcastInDim S16384x128x4 ![0, 1, 2] bcast_S16384x128x1_S16384x128x4_0_1_2),
   TRef.unary φ.v1 φ.v3 (broadcastInDim S16384x128x4 ![0, 1, 2] bcast_S1x1x4_S16384x128x4_0_1_2),
   TRef.binary φ.v2 φ.v3 φ.v4 (cmpi .eq),
   TRef.unary φ.v4 φ.v5 (uitofp .f32)]

/-- The operations of stretch 1 of the program. -/
def mainOps1 : List (HloOp τ sig (Elt F)) :=
  [binary main_arg0 main_arg4 main_v0 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
   unary main_arg5 main_v1 (broadcastInDim S1x128 ![1] bcast_S128_S1x128_1 : (⟨S128, .f32⟩ : BufTy).Contents (Elt F) → (⟨S1x128, .f32⟩ : BufTy).Contents (Elt F)),
   unary main_v1 main_v2 (broadcastInDim S16384x128 ![0, 1] bcast_S1x128_S16384x128_0_1 : (⟨S1x128, .f32⟩ : BufTy).Contents (Elt F) → (⟨S16384x128, .f32⟩ : BufTy).Contents (Elt F)),
   binary main_v0 main_v2 main_v3 (addf : (⟨S16384x128, .f32⟩ : BufTy).Contents (Elt F) → (⟨S16384x128, .f32⟩ : BufTy).Contents (Elt F) → (⟨S16384x128, .f32⟩ : BufTy).Contents (Elt F))]

/-- The operations of stretch 2 of the program. -/
def mainOps2 : List (HloOp τ sig (Elt F)) :=
  [binary main_arg1 main_arg6 main_v5 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
   unary main_arg7 main_v6 (broadcastInDim S1x128 ![1] bcast_S128_S1x128_1 : (⟨S128, .f32⟩ : BufTy).Contents (Elt F) → (⟨S1x128, .f32⟩ : BufTy).Contents (Elt F)),
   unary main_v6 main_v7 (broadcastInDim S16384x128 ![0, 1] bcast_S1x128_S16384x128_0_1 : (⟨S1x128, .f32⟩ : BufTy).Contents (Elt F) → (⟨S16384x128, .f32⟩ : BufTy).Contents (Elt F)),
   binary main_v5 main_v7 main_v8 (addf : (⟨S16384x128, .f32⟩ : BufTy).Contents (Elt F) → (⟨S16384x128, .f32⟩ : BufTy).Contents (Elt F) → (⟨S16384x128, .f32⟩ : BufTy).Contents (Elt F))]

/-- The operations of stretch 3 of the program. -/
def mainOps3 : List (HloOp τ sig (Elt F)) :=
  [binary main_arg2 main_arg8 main_v10 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
   unary main_arg9 main_v11 (broadcastInDim S1x128 ![1] bcast_S128_S1x128_1 : (⟨S128, .f32⟩ : BufTy).Contents (Elt F) → (⟨S1x128, .f32⟩ : BufTy).Contents (Elt F)),
   unary main_v11 main_v12 (broadcastInDim S16384x128 ![0, 1] bcast_S1x128_S16384x128_0_1 : (⟨S1x128, .f32⟩ : BufTy).Contents (Elt F) → (⟨S16384x128, .f32⟩ : BufTy).Contents (Elt F)),
   binary main_v10 main_v12 main_v13 (addf : (⟨S16384x128, .f32⟩ : BufTy).Contents (Elt F) → (⟨S16384x128, .f32⟩ : BufTy).Contents (Elt F) → (⟨S16384x128, .f32⟩ : BufTy).Contents (Elt F))]

/-- The operations of stretch 4 of the program. -/
def mainOps4 : List (HloOp τ sig (Elt F)) :=
  [binary main_arg3 main_arg10 main_v15 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
   unary main_arg11 main_v16 (broadcastInDim S1x128 ![1] bcast_S128_S1x128_1 : (⟨S128, .f32⟩ : BufTy).Contents (Elt F) → (⟨S1x128, .f32⟩ : BufTy).Contents (Elt F)),
   unary main_v16 main_v17 (broadcastInDim S16384x128 ![0, 1] bcast_S1x128_S16384x128_0_1 : (⟨S1x128, .f32⟩ : BufTy).Contents (Elt F) → (⟨S16384x128, .f32⟩ : BufTy).Contents (Elt F)),
   binary main_v15 main_v17 main_v18 (addf : (⟨S16384x128, .f32⟩ : BufTy).Contents (Elt F) → (⟨S16384x128, .f32⟩ : BufTy).Contents (Elt F) → (⟨S16384x128, .f32⟩ : BufTy).Contents (Elt F))]

/-- The operations of stretch 5 of the program. -/
def mainOps5 : List (HloOp τ sig (Elt F)) :=
  [unary main_v4 main_v20 (broadcastInDim S16384x128x1 ![0, 1] bcast_S16384x128_S16384x128x1_0_1 : (⟨S16384x128, .f32⟩ : BufTy).Contents (Elt F) → (⟨S16384x128x1, .f32⟩ : BufTy).Contents (Elt F)),
   unary main_v9 main_v21 (broadcastInDim S16384x128x1 ![0, 1] bcast_S16384x128_S16384x128x1_0_1 : (⟨S16384x128, .f32⟩ : BufTy).Contents (Elt F) → (⟨S16384x128x1, .f32⟩ : BufTy).Contents (Elt F)),
   unary main_v14 main_v22 (broadcastInDim S16384x128x1 ![0, 1] bcast_S16384x128_S16384x128x1_0_1 : (⟨S16384x128, .f32⟩ : BufTy).Contents (Elt F) → (⟨S16384x128x1, .f32⟩ : BufTy).Contents (Elt F)),
   unary main_v19 main_v23 (broadcastInDim S16384x128x1 ![0, 1] bcast_S16384x128_S16384x128x1_0_1 : (⟨S16384x128, .f32⟩ : BufTy).Contents (Elt F) → (⟨S16384x128x1, .f32⟩ : BufTy).Contents (Elt F)),
   nary ![main_v20, main_v21, main_v22, main_v23] main_v24 (fun u => (concatenate S16384x128x4 2 [⟨S16384x128x1, (u 0 : (⟨S16384x128x1, .f32⟩ : BufTy).Contents (Elt F))⟩, ⟨S16384x128x1, (u 1 : (⟨S16384x128x1, .f32⟩ : BufTy).Contents (Elt F))⟩, ⟨S16384x128x1, (u 2 : (⟨S16384x128x1, .f32⟩ : BufTy).Contents (Elt F))⟩, ⟨S16384x128x1, (u 3 : (⟨S16384x128x1, .f32⟩ : BufTy).Contents (Elt F))⟩] concatenates_S16384x128x1_S16384x128x1_S16384x128x1_S16384x128x1_S16384x128x4_d2 : (⟨S16384x128x4, .f32⟩ : BufTy).Contents (Elt F))),
   nullary main_cst (constant S_ .f32 0x3F800000#32),
   unary main_cst main_v25 (broadcastInDim S16384x4 ![] bcast_S_S16384x4 : (⟨S_, .f32⟩ : BufTy).Contents (Elt F) → (⟨S16384x4, .f32⟩ : BufTy).Contents (Elt F)),
   nullary main_cst_0 (constant S_ .f32 0x3F800000#32),
   unary main_cst_0 main_v26 (broadcastInDim S16384x4 ![] bcast_S_S16384x4 : (⟨S_, .f32⟩ : BufTy).Contents (Elt F) → (⟨S16384x4, .f32⟩ : BufTy).Contents (Elt F)),
   binary main_v26 main_v25 main_v27 (mulf : (⟨S16384x4, .f32⟩ : BufTy).Contents (Elt F) → (⟨S16384x4, .f32⟩ : BufTy).Contents (Elt F) → (⟨S16384x4, .f32⟩ : BufTy).Contents (Elt F)),
   nullary main_cst_1 (constant S_ .f32 0x00000000#32),
   binary main_v27 main_cst_1 main_v28 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
   unary main_v28 main_v29 (broadcastInDim S16384x1 ![0] bcast_S16384_S16384x1_0 : (⟨S16384, .f32⟩ : BufTy).Contents (Elt F) → (⟨S16384x1, .f32⟩ : BufTy).Contents (Elt F)),
   unary main_v29 main_v30 (broadcastInDim S16384x4 ![0, 1] bcast_S16384x1_S16384x4_0_1 : (⟨S16384x1, .f32⟩ : BufTy).Contents (Elt F) → (⟨S16384x4, .f32⟩ : BufTy).Contents (Elt F)),
   binary main_v27 main_v30 main_v31 (Host.divf : (⟨S16384x4, .f32⟩ : BufTy).Contents (Elt F) → (⟨S16384x4, .f32⟩ : BufTy).Contents (Elt F) → (⟨S16384x4, .f32⟩ : BufTy).Contents (Elt F)),
   unary main_v31 main_v32 (Host.log : (⟨S16384x4, .f32⟩ : BufTy).Contents (Elt F) → (⟨S16384x4, .f32⟩ : BufTy).Contents (Elt F)),
   nullary main_c (constantI S_ 32 42#32),
   nullary main_c_2 (constantI S_ 32 32#32),
   binary main_c main_c_2 main_v33 (Host.shrui : (⟨S_, .i32⟩ : BufTy).Contents (Elt F) → (⟨S_, .i32⟩ : BufTy).Contents (Elt F) → (⟨S_, .i32⟩ : BufTy).Contents (Elt F)),
   unary main_v33 main_v34 (id : (⟨S_, .i32⟩ : BufTy).Contents (Elt F) → (⟨S_, .i32⟩ : BufTy).Contents (Elt F)),
   unary main_v34 main_v35 (broadcastInDim S1 ![] bcast_S_S1 : (⟨S_, .i32⟩ : BufTy).Contents (Elt F) → (⟨S1, .i32⟩ : BufTy).Contents (Elt F)),
   nullary main_c_3 (constantI S_ 32 4294967295#32),
   binary main_c main_c_3 main_v36 (andi : (⟨S_, .i32⟩ : BufTy).Contents (Elt F) → (⟨S_, .i32⟩ : BufTy).Contents (Elt F) → (⟨S_, .i32⟩ : BufTy).Contents (Elt F)),
   unary main_v36 main_v37 (id : (⟨S_, .i32⟩ : BufTy).Contents (Elt F) → (⟨S_, .i32⟩ : BufTy).Contents (Elt F)),
   unary main_v37 main_v38 (broadcastInDim S1 ![] bcast_S_S1 : (⟨S_, .i32⟩ : BufTy).Contents (Elt F) → (⟨S1, .i32⟩ : BufTy).Contents (Elt F)),
   binary main_v35 main_v38 main_v39 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

/-- The operations of stretch 6 of the program. -/
def mainOps6 : List (HloOp τ sig (Elt F)) :=
  [unary main_v32 main_v41 (broadcastInDim S1x16384x4 ![1, 2] bcast_S16384x4_S1x16384x4_1_2 : (⟨S16384x4, .f32⟩ : BufTy).Contents (Elt F) → (⟨S1x16384x4, .f32⟩ : BufTy).Contents (Elt F)),
   unary main_v41 main_v42 (broadcastInDim S128x16384x4 ![0, 1, 2] bcast_S1x16384x4_S128x16384x4_0_1_2 : (⟨S1x16384x4, .f32⟩ : BufTy).Contents (Elt F) → (⟨S128x16384x4, .f32⟩ : BufTy).Contents (Elt F)),
   binary main_v40 main_v42 main_v43 (addf : (⟨S128x16384x4, .f32⟩ : BufTy).Contents (Elt F) → (⟨S128x16384x4, .f32⟩ : BufTy).Contents (Elt F) → (⟨S128x16384x4, .f32⟩ : BufTy).Contents (Elt F))]

/-- The operations of stretch 7 of the program. -/
def mainOps7 : List (HloOp τ sig (Elt F)) :=
  [unary main_v44 main_v45 ((transpose S16384x128 [1, 0] · transposes_S128x16384_S16384x128_1_0) : (⟨S128x16384, .i32⟩ : BufTy).Contents (Elt F) → (⟨S16384x128, .i32⟩ : BufTy).Contents (Elt F))]

/-- The operations of stretch 8 of the program. -/
def mainOps8 : List (HloOp τ sig (Elt F)) :=
  [binary main_v24 main_v46 main_v47 (mulf : (⟨S16384x128x4, .f32⟩ : BufTy).Contents (Elt F) → (⟨S16384x128x4, .f32⟩ : BufTy).Contents (Elt F) → (⟨S16384x128x4, .f32⟩ : BufTy).Contents (Elt F)),
   nullary main_cst_4 (constant S_ .f32 0x00000000#32),
   binary main_v47 main_cst_4 main_v48 ((fun x v => Host.reduceAdd x v reducesTo_S16384x128x4_S16384x128_d2 h_S_) : (⟨S16384x128x4, .f32⟩ : BufTy).Contents (Elt F) → (⟨S_, .f32⟩ : BufTy).Contents (Elt F) → (⟨S16384x128, .f32⟩ : BufTy).Contents (Elt F))]

/-- The operations of the program, calls in place. -/
def mainOps : List (HloOp τ sig (Elt F)) :=
  mainOps1 ++ (reluOps (.of main_v3) main_call0 ++ (mainOps2 ++ (reluOps (.of main_v8) main_call1 ++ (mainOps3 ++ (reluOps (.of main_v13) main_call2 ++ (mainOps4 ++ (reluOps (.of main_v18) main_call3 ++ (mainOps5 ++ (gumbelOps (.of main_v39) main_call4 ++ (mainOps6 ++ (argmaxOps (.of main_v43) main_call5 ++ (mainOps7 ++ (oneHotOps (.of main_v45) main_call6 ++ (mainOps8))))))))))))))

/-- A property of two lists' members holds of their concatenation's. -/
theorem forall_append {α : Type*} {p : α → Prop} {l₁ l₂ : List α} (h₁ : l₁.Forall p) (h₂ : l₂.Forall p) :
    (l₁ ++ l₂).Forall p :=
  List.forall_append.mpr ⟨h₁, h₂⟩

/-- The program is the line. -/
theorem main_eq (c : Dev nD) : main (F := F) c = seq mainOps := by chain_rfl

theorem reluOps_sub (arg0 : TRef sig ⟨S16384x128, .f32⟩) (φ : fn_relu.Bufs) :
    (reluOps arg0 φ : List (HloOp τ sig (Elt F))).Forall fun op => op.bufs ⊆ tcRefs τ sig :=
  ⟨nullary_bufs_sub .., unary_bufs_sub .., binary_bufs_sub ..⟩

theorem mixPart0Ops_sub (arg0 arg1 : TRef sig ⟨S_, .i32⟩) (arg2 arg3 : TRef sig ⟨S128x16384x4, .i32⟩) (φ : fn_threefry2x32.Bufs) :
    (mixPart0Ops arg0 arg1 arg2 arg3 φ : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem mixPart1Ops_sub (arg0 arg1 : TRef sig ⟨S_, .i32⟩) (arg2 arg3 : TRef sig ⟨S128x16384x4, .i32⟩) (φ : fn_threefry2x32.Bufs) :
    (mixPart1Ops arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

theorem mixPart2Ops_sub (arg0 arg1 : TRef sig ⟨S_, .i32⟩) (arg2 arg3 : TRef sig ⟨S128x16384x4, .i32⟩) (φ : fn_threefry2x32.Bufs) :
    (mixPart2Ops arg0 arg1 arg2 arg3 φ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

theorem mixPart3Ops_sub (arg0 arg1 : TRef sig ⟨S_, .i32⟩) (arg2 arg3 : TRef sig ⟨S128x16384x4, .i32⟩) (φ : fn_threefry2x32.Bufs) :
    (mixPart3Ops arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem mixOps_sub (arg0 arg1 : TRef sig ⟨S_, .i32⟩) (arg2 arg3 : TRef sig ⟨S128x16384x4, .i32⟩) (φ : fn_threefry2x32.Bufs) :
    (mixOps arg0 arg1 arg2 arg3 φ : List (HloOp τ sig (Elt F))).Forall fun op => op.bufs ⊆ tcRefs τ sig :=
  forall_append (mixPart0Ops_sub arg0 arg1 arg2 arg3 φ) (forall_append (mixPart1Ops_sub arg0 arg1 arg2 arg3 φ) (forall_append (mixPart2Ops_sub arg0 arg1 arg2 arg3 φ) (mixPart3Ops_sub arg0 arg1 arg2 arg3 φ)))

theorem uniformOps1_sub (arg0 : TRef sig ⟨S2, .i32⟩) (arg1 arg2 : TRef sig ⟨S_, .f32⟩) (φ : fn_uniform.Bufs) :
    (uniformOps1 arg0 arg1 arg2 φ : List (HloOp τ sig (Elt F))).Forall fun op => op.bufs ⊆ tcRefs τ sig :=
  ⟨unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub ..⟩

theorem uniformOps2_sub (arg0 : TRef sig ⟨S2, .i32⟩) (arg1 arg2 : TRef sig ⟨S_, .f32⟩) (φ : fn_uniform.Bufs) :
    (uniformOps2 arg0 arg1 arg2 φ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

theorem uniformOps_sub (arg0 : TRef sig ⟨S2, .i32⟩) (arg1 arg2 : TRef sig ⟨S_, .f32⟩) (φ : fn_uniform.Bufs) :
    (uniformOps arg0 arg1 arg2 φ : List (HloOp τ sig (Elt F))).Forall fun op => op.bufs ⊆ tcRefs τ sig :=
  forall_append (uniformOps1_sub arg0 arg1 arg2 φ) (forall_append (mixOps_sub φ.v4 φ.v6 φ.v21 φ.v20 φ.call0) (uniformOps2_sub arg0 arg1 arg2 φ))

theorem gumbelOps1_sub (arg0 : TRef sig ⟨S2, .i32⟩) (φ : fn_gumbel.Bufs) :
    (gumbelOps1 arg0 φ : List (HloOp τ sig (Elt F))).Forall fun op => op.bufs ⊆ tcRefs τ sig :=
  ⟨nullary_bufs_sub .., nullary_bufs_sub ..⟩

theorem gumbelOps2_sub (arg0 : TRef sig ⟨S2, .i32⟩) (φ : fn_gumbel.Bufs) :
    (gumbelOps2 arg0 φ : List (HloOp τ sig (Elt F))).Forall fun op => op.bufs ⊆ tcRefs τ sig :=
  ⟨unary_bufs_sub .., unary_bufs_sub .., unary_bufs_sub .., unary_bufs_sub ..⟩

theorem gumbelOps_sub (arg0 : TRef sig ⟨S2, .i32⟩) (φ : fn_gumbel.Bufs) :
    (gumbelOps arg0 φ : List (HloOp τ sig (Elt F))).Forall fun op => op.bufs ⊆ tcRefs τ sig :=
  forall_append (gumbelOps1_sub arg0 φ) (forall_append (uniformOps_sub arg0 φ.cst φ.cst_0 φ.call0) (gumbelOps2_sub arg0 φ))

theorem argmaxOps_sub (arg0 : TRef sig ⟨S128x16384x4, .f32⟩) (φ : fn_argmax.Bufs) :
    (argmaxOps arg0 φ : List (HloOp τ sig (Elt F))).Forall fun op => op.bufs ⊆ tcRefs τ sig :=
  ⟨nullary_bufs_sub .., nullary_bufs_sub .., nullary_bufs_sub .., quaternary_bufs_sub .., quaternary_bufs_sub ..⟩

theorem oneHotOps_sub (arg0 : TRef sig ⟨S16384x128, .i32⟩) (φ : fn_one_hot.Bufs) :
    (oneHotOps arg0 φ : List (HloOp τ sig (Elt F))).Forall fun op => op.bufs ⊆ tcRefs τ sig :=
  ⟨unary_bufs_sub .., nullary_bufs_sub .., unary_bufs_sub .., unary_bufs_sub .., binary_bufs_sub .., unary_bufs_sub ..⟩

theorem mainOps1_sub :
    (mainOps1 : List (HloOp τ sig (Elt F))).Forall fun op => op.bufs ⊆ tcRefs τ sig :=
  ⟨binary_bufs_sub .., unary_bufs_sub .., unary_bufs_sub .., binary_bufs_sub ..⟩

theorem mainOps2_sub :
    (mainOps2 : List (HloOp τ sig (Elt F))).Forall fun op => op.bufs ⊆ tcRefs τ sig :=
  ⟨binary_bufs_sub .., unary_bufs_sub .., unary_bufs_sub .., binary_bufs_sub ..⟩

theorem mainOps3_sub :
    (mainOps3 : List (HloOp τ sig (Elt F))).Forall fun op => op.bufs ⊆ tcRefs τ sig :=
  ⟨binary_bufs_sub .., unary_bufs_sub .., unary_bufs_sub .., binary_bufs_sub ..⟩

theorem mainOps4_sub :
    (mainOps4 : List (HloOp τ sig (Elt F))).Forall fun op => op.bufs ⊆ tcRefs τ sig :=
  ⟨binary_bufs_sub .., unary_bufs_sub .., unary_bufs_sub .., binary_bufs_sub ..⟩

theorem mainOps5_sub :
    (mainOps5 : List (HloOp τ sig (Elt F))).Forall fun op => op.bufs ⊆ tcRefs τ sig :=
  ⟨unary_bufs_sub .., unary_bufs_sub .., unary_bufs_sub .., unary_bufs_sub .., nary_bufs_sub .., nullary_bufs_sub .., unary_bufs_sub .., nullary_bufs_sub .., unary_bufs_sub .., binary_bufs_sub .., nullary_bufs_sub .., binary_bufs_sub .., unary_bufs_sub .., unary_bufs_sub .., binary_bufs_sub .., unary_bufs_sub .., nullary_bufs_sub .., nullary_bufs_sub .., binary_bufs_sub .., unary_bufs_sub .., unary_bufs_sub .., nullary_bufs_sub .., binary_bufs_sub .., unary_bufs_sub .., unary_bufs_sub .., binary_bufs_sub ..⟩

theorem mainOps6_sub :
    (mainOps6 : List (HloOp τ sig (Elt F))).Forall fun op => op.bufs ⊆ tcRefs τ sig :=
  ⟨unary_bufs_sub .., unary_bufs_sub .., binary_bufs_sub ..⟩

theorem mainOps7_sub :
    (mainOps7 : List (HloOp τ sig (Elt F))).Forall fun op => op.bufs ⊆ tcRefs τ sig :=
  unary_bufs_sub ..

theorem mainOps8_sub :
    (mainOps8 : List (HloOp τ sig (Elt F))).Forall fun op => op.bufs ⊆ tcRefs τ sig :=
  ⟨binary_bufs_sub .., nullary_bufs_sub .., binary_bufs_sub ..⟩

/-- `mainOps` names device buffers only. -/
theorem mainOps_sub :
    (mainOps : List (HloOp τ sig (Elt F))).Forall fun op => op.bufs ⊆ tcRefs τ sig :=
  forall_append (mainOps1_sub) (forall_append (reluOps_sub (.of main_v3) main_call0) (forall_append (mainOps2_sub) (forall_append (reluOps_sub (.of main_v8) main_call1) (forall_append (mainOps3_sub) (forall_append (reluOps_sub (.of main_v13) main_call2) (forall_append (mainOps4_sub) (forall_append (reluOps_sub (.of main_v18) main_call3) (forall_append (mainOps5_sub) (forall_append (gumbelOps_sub (.of main_v39) main_call4) (forall_append (mainOps6_sub) (forall_append (argmaxOps_sub (.of main_v43) main_call5) (forall_append (mainOps7_sub) (forall_append (oneHotOps_sub (.of main_v45) main_call6) (mainOps8_sub))))))))))))))

/-- No operation of the line leaves a choice open. -/
theorem fresh_all : (mainOps : List (HloOp τ sig (Elt F))).map HloOp.fresh = List.replicate 344 ∅ := by chain_rfl

theorem scopedRefs_eq : (Finset.univ.filter fun b : Ref sig .tc => b.isScoped) = ∅ := by decide
theorem scopedSems_eq : (Finset.univ.filter fun sm : SemLoc sig => sm.isScoped .tc) = ∅ := by decide

/-- No operation of the line leaves a choice open, taken one by one. -/
theorem fresh_of_mem (op : HloOp τ sig (Elt F)) (h : op ∈ mainOps) : op.fresh = ∅ := by
  have h' : op.fresh ∈ (mainOps : List (HloOp τ sig (Elt F))).map HloOp.fresh := List.mem_map_of_mem h
  rw [fresh_all] at h'
  exact List.eq_of_mem_replicate h'

end Cert.ReferenceIdeal.Line

end
-- ==== Proof.RefRun.lean ====
module

public import proofs.«01_k».proof.Proof.RefOps

/-! The reference's run: what its buffers hold at the end, and that its arguments keep their contents. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The tensor value of number `k`: the arguments are 0 to 11, and operation `k` writes number `12 + k`. -/
abbrev r (k : ℕ) (h : k < 356 := by decide) : Ref sig .tc := ⟨.hbm, ⟨k, h⟩, rfl⟩

/-- The line's operations write the values in order. -/
theorem writes_eq : (mainOps : List (HloOp τ sig (Elt F))).map HloOp.writes
    = ((List.finRange 344).map fun k => r (12 + k.val) (by omega)).map fun w => {Proc.devRef (τ := τ) .tc w} := by
  chain_rfl

/-- Running two stretches of a line in turn. -/
theorem after_join (l₁ l₂ : List (HloOp τ sig (Elt F))) (V : Valuation τ sig (Elt F)) :
    after (l₁ ++ l₂) V = after l₂ (after l₁ V) := by
  induction l₁ generalizing V with
  | nil => rfl
  | cons op l ih => exact ih _

/-- A value numbered below the `k`-th operation's is not written from the `k`-th operation on. -/
theorem kept (V : Valuation τ sig (Elt F)) (k n : ℕ) (h : n < 356) (hn : n < 12 + k) :
    after (mainOps.drop k) V (Proc.devRef .tc (r n h)) = V (Proc.devRef .tc (r n h)) := by
  refine after_of_writes_sub (W := ((List.finRange 344).drop k).map fun j => r (12 + j.val) (by omega)) _ V
    (forall_writes_sub_of_map ?_) ?_
  · rw [List.map_drop, writes_eq, ← List.map_drop, ← List.map_drop]
  · intro hm
    obtain ⟨j, hj, hjr⟩ := List.mem_map.mp hm
    obtain ⟨i, hi, rfl⟩ := List.mem_iff_getElem.mp hj
    have he : 12 + (((List.finRange 344).drop k)[i]).val = n := congrArg (fun x : Ref sig .tc => x.idx.val) hjr
    simp only [List.getElem_drop, List.getElem_finRange, Fin.val_cast] at he
    omega

/-- The contents after the first `k` operations. -/
def upto (V : Valuation τ sig (Elt F)) (k : ℕ) : Valuation τ sig (Elt F) := after (mainOps.take k) V

/-- What the line leaves. -/
def last (V : Valuation τ sig (Elt F)) : Valuation τ sig (Elt F) := after mainOps V

/-- What the first `k` operations leave of a value they have written is what the line leaves of it. -/
theorem upto_eq (V : Valuation τ sig (Elt F)) (k n : ℕ) (h : n < 356 := by decide) (hn : n < 12 + k := by decide) :
    upto V k (Proc.devRef .tc (r n h)) = last V (Proc.devRef .tc (r n h)) := by
  have e : last V = after (mainOps.drop k) (upto V k) := by
    rw [upto, ← after_join, List.take_append_drop]; rfl
  rw [e, kept _ k n h hn]

/-- The line read off the stretch of `s` operations that begins at operation `k`. -/
theorem last_eq (V : Valuation τ sig (Elt F)) (k s n : ℕ) (h : n < 356 := by decide) (hn : n < 12 + (k + s) := by decide) :
    last V (Proc.devRef .tc (r n h)) = after ((mainOps.drop k).take s) (upto V k) (Proc.devRef .tc (r n h)) := by
  rw [← upto_eq V (k + s) n h hn, upto, upto, ← after_join, List.take_add]

/-- The line writes no argument. -/
theorem arg_eq (V : Valuation τ sig (Elt F)) (n : ℕ) (h : n < 356) (hn : n < 12) :
    last V (Proc.devRef .tc (r n h)) = V (Proc.devRef .tc (r n h)) :=
  kept V 0 n h hn

/-- The reference's run ends with every tensor buffer at what the line leaves. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b)
        = last (launchContents m d) (Proc.devRef .tc b) :=
  run_seq scopedRefs_eq scopedSems_eq defs main (fun _ => mainOps) main_eq (fun _ => mainOps_sub) m ρ
    fun _ => fresh_of_mem

end Cert.ReferenceIdeal.Line

end
-- ==== Proof.Frames.lean ====
module

public import proofs.«01_k».proof.Defs
public import proofs.«01_k».proof.Proof.Whole
public import proofs.«01_k».proof.Proof.RefRun
public import proofs.«01_k».proof.Proof.Gen.Kernel

/-! The frames: each program ends, keeps its arguments, and leaves every semaphore at zero. -/

@[expose] public section

open Idealize.ShloMosaic Idealize.SL.Sem

namespace Cert.Proof

section

open Cert.KernelIdeal

/-- The kernel's frame over any float values. -/
abbrev FrameAt (F : FTy → Type) [FloatOps F] : Prop :=
  ∀ (m : (ℓ : Loc nD τ sig) → Buf (Elt F) ℓ) (g : Dev nD → PrngReg), True →
    θ_run (defs (F := F)) (threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)

/-- It holds: the run ends with the arguments as they were and no semaphore raised. -/
theorem frame_at {F : FTy → Type} [FloatOps F] [∀ e, Nonempty (Elt F e)] : FrameAt F := fun m ρ _ =>
  (θ_run defs _ _).mono
    (fun r h => ⟨fun c => by
      repeat' apply And.intro
      all_goals exact Run.args_kept m h c _ (by decide), h.2⟩)
    (Run.run_main (F := F) m ρ)

end

/-- The kernel at its own floats. -/
theorem frame_kernel : Cert.quiescent_Kernel := by
  have e : Cert.quiescent_Kernel = FrameAt Bits := by chain_rfl
  exact e.mpr frame_at

/-- The kernel at the extended reals. -/
theorem frame_ideal : Cert.quiescent_KernelIdeal := frame_at

/-- The reference at the extended reals. -/
theorem frame_reference : Cert.quiescent_ReferenceIdeal := fun m ρ _ =>
  (θ_run Cert.ReferenceIdeal.defs _ _).mono
    (fun r h => ⟨fun c => by
      repeat' apply And.intro
      all_goals exact (h c _).trans (Cert.ReferenceIdeal.Line.arg_eq _ _ (by decide) (by decide)),
      Idealize.ShloMosaic.sem_eq_zero_of_no_sems (by decide) r.2⟩)
    (Cert.ReferenceIdeal.Line.run (F := Ideal) m ρ)

end Cert.Proof

end
-- ==== Proof.BlockRead.lean ====
module

public import proofs.«01_k».proof.Proof.Region1
public import proofs.«01_k».proof.Proof.Region2
public import Idealize.ShloMosaic.Lib.Pointwise.Index

/-! The blocks of the two TensorCore kernels as parts of the arrays they are read from: block `t` of rows of a feature
array, the whole of a weight array or of a bias row. -/

@[expose] public section

set_option maxRecDepth 16384

noncomputable section

namespace Cert.KernelIdeal.Run

open Cert.KernelIdeal Cert.KernelIdeal.Gen Cert.KernelIdeal.Bodies

open Idealize.ShloMosaic Idealize.ShloMosaic.TcCoe
open Idealize.ShloMosaic.Pipeline (Window)

variable {F : FTy → Type} [FloatOps F]
variable (V : (c : Dev nD) → (b : Ref sig .tc) → Buf (Elt F) ((c : Thread nD τ).loc b)) (c : Dev nD)

/-- Row `q` of block `t` of 1024 rows is a row of the array. -/
theorem row1_lt (t : Fin cfg1.N) (q : Fin 1024) : t.val * 1024 + q.val < 16384 := by
  have h : t.val < 12 := t.isLt
  omega

/-- Row `q` of block `t` of 2048 rows is a row of the array of choices. -/
theorem pick2_lt (t : Fin cfg2.N) (q : Fin 2048) : t.val * 2048 + q.val < 4096 := by
  have h : t.val < 2 := t.isLt
  omega

/-- Row `q` of block `t + 6` of 2048 rows is a row of the array. -/
theorem row2_lt (t : Fin cfg2.N) (q : Fin 2048) : (t.val + 6) * 2048 + q.val < 16384 := by
  have h : t.val < 2 := t.isLt
  omega

/-- The block index of window 0 of kernel 1 at grid point `t`. -/
theorem at1_0 : ∀ t : Fin grid1.N, win1_0.index t 0 = t.val ∧ win1_0.index t 1 = 0 := by decide +kernel

/-- An element of window 0 of kernel 1's block `t`, as one of main_arg0. -/
theorem read1_0 (t : Fin cfg1.N) (q : Fin 1024) (k : Fin 128) :
    (blk1 V c 0 t : FVec F S1024x128 .f32) (ix2 q k) = (V c main_arg0 : FVec F S16384x128 .f32) (ix2 ⟨t.val * 1024 + q.val, row1_lt t q⟩ k) := by
  show (V c main_arg0 : FVec F S16384x128 .f32) ((win1_0.rect t).emb (ix2 q k)) = _
  refine congrArg (V c main_arg0 : FVec F S16384x128 .f32) (funext fun a => Fin.ext ?_)
  rw [Window.rect_emb_val win1_0 t _ _ rfl]
  match a with
  | ⟨0, _⟩ => exact (congrArg (fun n => n * 1024 + q.val) (at1_0 t).1).trans (by rfl)
  | ⟨1, _⟩ => exact (congrArg (fun n => n * 128 + k.val) (at1_0 t).2).trans (by show 0 * 128 + k.val = k.val; omega)

/-- The block index of window 1 of kernel 1 at grid point `t`. -/
theorem at1_1 : ∀ t : Fin grid1.N, win1_1.index t 0 = t.val ∧ win1_1.index t 1 = 0 := by decide +kernel

/-- An element of window 1 of kernel 1's block `t`, as one of main_arg1. -/
theorem read1_1 (t : Fin cfg1.N) (q : Fin 1024) (k : Fin 128) :
    (blk1 V c 1 t : FVec F S1024x128 .f32) (ix2 q k) = (V c main_arg1 : FVec F S16384x128 .f32) (ix2 ⟨t.val * 1024 + q.val, row1_lt t q⟩ k) := by
  show (V c main_arg1 : FVec F S16384x128 .f32) ((win1_1.rect t).emb (ix2 q k)) = _
  refine congrArg (V c main_arg1 : FVec F S16384x128 .f32) (funext fun a => Fin.ext ?_)
  rw [Window.rect_emb_val win1_1 t _ _ rfl]
  match a with
  | ⟨0, _⟩ => exact (congrArg (fun n => n * 1024 + q.val) (at1_1 t).1).trans (by rfl)
  | ⟨1, _⟩ => exact (congrArg (fun n => n * 128 + k.val) (at1_1 t).2).trans (by show 0 * 128 + k.val = k.val; omega)

/-- The block index of window 2 of kernel 1 at grid point `t`. -/
theorem at1_2 : ∀ t : Fin grid1.N, win1_2.index t 0 = t.val ∧ win1_2.index t 1 = 0 := by decide +kernel

/-- An element of window 2 of kernel 1's block `t`, as one of main_arg2. -/
theorem read1_2 (t : Fin cfg1.N) (q : Fin 1024) (k : Fin 128) :
    (blk1 V c 2 t : FVec F S1024x128 .f32) (ix2 q k) = (V c main_arg2 : FVec F S16384x128 .f32) (ix2 ⟨t.val * 1024 + q.val, row1_lt t q⟩ k) := by
  show (V c main_arg2 : FVec F S16384x128 .f32) ((win1_2.rect t).emb (ix2 q k)) = _
  refine congrArg (V c main_arg2 : FVec F S16384x128 .f32) (funext fun a => Fin.ext ?_)
  rw [Window.rect_emb_val win1_2 t _ _ rfl]
  match a with
  | ⟨0, _⟩ => exact (congrArg (fun n => n * 1024 + q.val) (at1_2 t).1).trans (by rfl)
  | ⟨1, _⟩ => exact (congrArg (fun n => n * 128 + k.val) (at1_2 t).2).trans (by show 0 * 128 + k.val = k.val; omega)

/-- The block index of window 3 of kernel 1 at grid point `t`. -/
theorem at1_3 : ∀ t : Fin grid1.N, win1_3.index t 0 = t.val ∧ win1_3.index t 1 = 0 := by decide +kernel

/-- An element of window 3 of kernel 1's block `t`, as one of main_arg3. -/
theorem read1_3 (t : Fin cfg1.N) (q : Fin 1024) (k : Fin 128) :
    (blk1 V c 3 t : FVec F S1024x128 .f32) (ix2 q k) = (V c main_arg3 : FVec F S16384x128 .f32) (ix2 ⟨t.val * 1024 + q.val, row1_lt t q⟩ k) := by
  show (V c main_arg3 : FVec F S16384x128 .f32) ((win1_3.rect t).emb (ix2 q k)) = _
  refine congrArg (V c main_arg3 : FVec F S16384x128 .f32) (funext fun a => Fin.ext ?_)
  rw [Window.rect_emb_val win1_3 t _ _ rfl]
  match a with
  | ⟨0, _⟩ => exact (congrArg (fun n => n * 1024 + q.val) (at1_3 t).1).trans (by rfl)
  | ⟨1, _⟩ => exact (congrArg (fun n => n * 128 + k.val) (at1_3 t).2).trans (by show 0 * 128 + k.val = k.val; omega)

/-- The block index of window 4 of kernel 1 at grid point `t`. -/
theorem at1_4 : ∀ t : Fin grid1.N, win1_4.index t 0 = 0 ∧ win1_4.index t 1 = 0 := by decide +kernel

/-- An element of window 4 of kernel 1's block `t`, as one of main_arg4. -/
theorem read1_4 (t : Fin cfg1.N) (q : Fin 128) (k : Fin 128) :
    (blk1 V c 4 t : FVec F S128x128 .f32) (ix2 q k) = (V c main_arg4 : FVec F S128x128 .f32) (ix2 q k) := by
  show (V c main_arg4 : FVec F S128x128 .f32) ((win1_4.rect t).emb (ix2 q k)) = _
  refine congrArg (V c main_arg4 : FVec F S128x128 .f32) (funext fun a => Fin.ext ?_)
  rw [Window.rect_emb_val win1_4 t _ _ rfl]
  match a with
  | ⟨0, _⟩ => exact (congrArg (fun n => n * 128 + q.val) (at1_4 t).1).trans (by show 0 * _ + q.val = q.val; omega)
  | ⟨1, _⟩ => exact (congrArg (fun n => n * 128 + k.val) (at1_4 t).2).trans (by show 0 * 128 + k.val = k.val; omega)

/-- The block index of window 5 of kernel 1 at grid point `t`. -/
theorem at1_5 : ∀ t : Fin grid1.N, win1_5.index t 0 = 0 ∧ win1_5.index t 1 = 0 := by decide +kernel

/-- An element of window 5 of kernel 1's block `t`, as one of main_arg6. -/
theorem read1_5 (t : Fin cfg1.N) (q : Fin 128) (k : Fin 128) :
    (blk1 V c 5 t : FVec F S128x128 .f32) (ix2 q k) = (V c main_arg6 : FVec F S128x128 .f32) (ix2 q k) := by
  show (V c main_arg6 : FVec F S128x128 .f32) ((win1_5.rect t).emb (ix2 q k)) = _
  refine congrArg (V c main_arg6 : FVec F S128x128 .f32) (funext fun a => Fin.ext ?_)
  rw [Window.rect_emb_val win1_5 t _ _ rfl]
  match a with
  | ⟨0, _⟩ => exact (congrArg (fun n => n * 128 + q.val) (at1_5 t).1).trans (by show 0 * _ + q.val = q.val; omega)
  | ⟨1, _⟩ => exact (congrArg (fun n => n * 128 + k.val) (at1_5 t).2).trans (by show 0 * 128 + k.val = k.val; omega)

/-- The block index of window 6 of kernel 1 at grid point `t`. -/
theorem at1_6 : ∀ t : Fin grid1.N, win1_6.index t 0 = 0 ∧ win1_6.index t 1 = 0 := by decide +kernel

/-- An element of window 6 of kernel 1's block `t`, as one of main_arg8. -/
theorem read1_6 (t : Fin cfg1.N) (q : Fin 128) (k : Fin 128) :
    (blk1 V c 6 t : FVec F S128x128 .f32) (ix2 q k) = (V c main_arg8 : FVec F S128x128 .f32) (ix2 q k) := by
  show (V c main_arg8 : FVec F S128x128 .f32) ((win1_6.rect t).emb (ix2 q k)) = _
  refine congrArg (V c main_arg8 : FVec F S128x128 .f32) (funext fun a => Fin.ext ?_)
  rw [Window.rect_emb_val win1_6 t _ _ rfl]
  match a with
  | ⟨0, _⟩ => exact (congrArg (fun n => n * 128 + q.val) (at1_6 t).1).trans (by show 0 * _ + q.val = q.val; omega)
  | ⟨1, _⟩ => exact (congrArg (fun n => n * 128 + k.val) (at1_6 t).2).trans (by show 0 * 128 + k.val = k.val; omega)

/-- The block index of window 7 of kernel 1 at grid point `t`. -/
theorem at1_7 : ∀ t : Fin grid1.N, win1_7.index t 0 = 0 ∧ win1_7.index t 1 = 0 := by decide +kernel

/-- An element of window 7 of kernel 1's block `t`, as one of main_arg10. -/
theorem read1_7 (t : Fin cfg1.N) (q : Fin 128) (k : Fin 128) :
    (blk1 V c 7 t : FVec F S128x128 .f32) (ix2 q k) = (V c main_arg10 : FVec F S128x128 .f32) (ix2 q k) := by
  show (V c main_arg10 : FVec F S128x128 .f32) ((win1_7.rect t).emb (ix2 q k)) = _
  refine congrArg (V c main_arg10 : FVec F S128x128 .f32) (funext fun a => Fin.ext ?_)
  rw [Window.rect_emb_val win1_7 t _ _ rfl]
  match a with
  | ⟨0, _⟩ => exact (congrArg (fun n => n * 128 + q.val) (at1_7 t).1).trans (by show 0 * _ + q.val = q.val; omega)
  | ⟨1, _⟩ => exact (congrArg (fun n => n * 128 + k.val) (at1_7 t).2).trans (by show 0 * 128 + k.val = k.val; omega)

/-- The block index of window 8 of kernel 1 at grid point `t`. -/
theorem at1_8 : ∀ t : Fin grid1.N, win1_8.index t 0 = 0 ∧ win1_8.index t 1 = 0 := by decide +kernel

/-- An element of window 8 of kernel 1's block `t`, as one of main_v0. -/
theorem read1_8 (t : Fin cfg1.N) (q : Fin 1) (k : Fin 128) :
    (blk1 V c 8 t : FVec F S1x128 .f32) (ix2 q k) = (V c main_v0 : FVec F S1x128 .f32) (ix2 q k) := by
  show (V c main_v0 : FVec F S1x128 .f32) ((win1_8.rect t).emb (ix2 q k)) = _
  refine congrArg (V c main_v0 : FVec F S1x128 .f32) (funext fun a => Fin.ext ?_)
  rw [Window.rect_emb_val win1_8 t _ _ rfl]
  match a with
  | ⟨0, _⟩ => exact (congrArg (fun n => n * 1 + q.val) (at1_8 t).1).trans (by show 0 * _ + q.val = q.val; omega)
  | ⟨1, _⟩ => exact (congrArg (fun n => n * 128 + k.val) (at1_8 t).2).trans (by show 0 * 128 + k.val = k.val; omega)

/-- The block index of window 9 of kernel 1 at grid point `t`. -/
theorem at1_9 : ∀ t : Fin grid1.N, win1_9.index t 0 = 0 ∧ win1_9.index t 1 = 0 := by decide +kernel

/-- An element of window 9 of kernel 1's block `t`, as one of main_v1. -/
theorem read1_9 (t : Fin cfg1.N) (q : Fin 1) (k : Fin 128) :
    (blk1 V c 9 t : FVec F S1x128 .f32) (ix2 q k) = (V c main_v1 : FVec F S1x128 .f32) (ix2 q k) := by
  show (V c main_v1 : FVec F S1x128 .f32) ((win1_9.rect t).emb (ix2 q k)) = _
  refine congrArg (V c main_v1 : FVec F S1x128 .f32) (funext fun a => Fin.ext ?_)
  rw [Window.rect_emb_val win1_9 t _ _ rfl]
  match a with
  | ⟨0, _⟩ => exact (congrArg (fun n => n * 1 + q.val) (at1_9 t).1).trans (by show 0 * _ + q.val = q.val; omega)
  | ⟨1, _⟩ => exact (congrArg (fun n => n * 128 + k.val) (at1_9 t).2).trans (by show 0 * 128 + k.val = k.val; omega)

/-- The block index of window 10 of kernel 1 at grid point `t`. -/
theorem at1_10 : ∀ t : Fin grid1.N, win1_10.index t 0 = 0 ∧ win1_10.index t 1 = 0 := by decide +kernel

/-- An element of window 10 of kernel 1's block `t`, as one of main_v2. -/
theorem read1_10 (t : Fin cfg1.N) (q : Fin 1) (k : Fin 128) :
    (blk1 V c 10 t : FVec F S1x128 .f32) (ix2 q k) = (V c main_v2 : FVec F S1x128 .f32) (ix2 q k) := by
  show (V c main_v2 : FVec F S1x128 .f32) ((win1_10.rect t).emb (ix2 q k)) = _
  refine congrArg (V c main_v2 : FVec F S1x128 .f32) (funext fun a => Fin.ext ?_)
  rw [Window.rect_emb_val win1_10 t _ _ rfl]
  match a with
  | ⟨0, _⟩ => exact (congrArg (fun n => n * 1 + q.val) (at1_10 t).1).trans (by show 0 * _ + q.val = q.val; omega)
  | ⟨1, _⟩ => exact (congrArg (fun n => n * 128 + k.val) (at1_10 t).2).trans (by show 0 * 128 + k.val = k.val; omega)

/-- The block index of window 11 of kernel 1 at grid point `t`. -/
theorem at1_11 : ∀ t : Fin grid1.N, win1_11.index t 0 = 0 ∧ win1_11.index t 1 = 0 := by decide +kernel

/-- An element of window 11 of kernel 1's block `t`, as one of main_v3. -/
theorem read1_11 (t : Fin cfg1.N) (q : Fin 1) (k : Fin 128) :
    (blk1 V c 11 t : FVec F S1x128 .f32) (ix2 q k) = (V c main_v3 : FVec F S1x128 .f32) (ix2 q k) := by
  show (V c main_v3 : FVec F S1x128 .f32) ((win1_11.rect t).emb (ix2 q k)) = _
  refine congrArg (V c main_v3 : FVec F S1x128 .f32) (funext fun a => Fin.ext ?_)
  rw [Window.rect_emb_val win1_11 t _ _ rfl]
  match a with
  | ⟨0, _⟩ => exact (congrArg (fun n => n * 1 + q.val) (at1_11 t).1).trans (by show 0 * _ + q.val = q.val; omega)
  | ⟨1, _⟩ => exact (congrArg (fun n => n * 128 + k.val) (at1_11 t).2).trans (by show 0 * 128 + k.val = k.val; omega)

/-- The block index of window 0 of kernel 2 at grid point `t`. -/
theorem at2_0 : ∀ t : Fin grid2.N, win2_0.index t 0 = t.val ∧ win2_0.index t 1 = 0 := by decide +kernel

/-- An element of window 0 of kernel 2's block `t`, as one of main_v4. -/
theorem read2_0 (t : Fin cfg2.N) (q : Fin 2048) (k : Fin 128) :
    (blk2 V c 0 t : IVec S2048x128 32) (ix2 q k) = (V c main_v4 : IVec S4096x128 32) (ix2 ⟨t.val * 2048 + q.val, pick2_lt t q⟩ k) := by
  show (V c main_v4 : IVec S4096x128 32) ((win2_0.rect t).emb (ix2 q k)) = _
  refine congrArg (V c main_v4 : IVec S4096x128 32) (funext fun a => Fin.ext ?_)
  rw [Window.rect_emb_val win2_0 t _ _ rfl]
  match a with
  | ⟨0, _⟩ => exact (congrArg (fun n => n * 2048 + q.val) (at2_0 t).1).trans (by rfl)
  | ⟨1, _⟩ => exact (congrArg (fun n => n * 128 + k.val) (at2_0 t).2).trans (by show 0 * 128 + k.val = k.val; omega)

/-- The block index of window 1 of kernel 2 at grid point `t`. -/
theorem at2_1 : ∀ t : Fin grid2.N, win2_1.index t 0 = t.val + 6 ∧ win2_1.index t 1 = 0 := by decide +kernel

/-- An element of window 1 of kernel 2's block `t`, as one of main_arg0. -/
theorem read2_1 (t : Fin cfg2.N) (q : Fin 2048) (k : Fin 128) :
    (blk2 V c 1 t : FVec F S2048x128 .f32) (ix2 q k) = (V c main_arg0 : FVec F S16384x128 .f32) (ix2 ⟨(t.val + 6) * 2048 + q.val, row2_lt t q⟩ k) := by
  show (V c main_arg0 : FVec F S16384x128 .f32) ((win2_1.rect t).emb (ix2 q k)) = _
  refine congrArg (V c main_arg0 : FVec F S16384x128 .f32) (funext fun a => Fin.ext ?_)
  rw [Window.rect_emb_val win2_1 t _ _ rfl]
  match a with
  | ⟨0, _⟩ => exact (congrArg (fun n => n * 2048 + q.val) (at2_1 t).1).trans (by rfl)
  | ⟨1, _⟩ => exact (congrArg (fun n => n * 128 + k.val) (at2_1 t).2).trans (by show 0 * 128 + k.val = k.val; omega)

/-- The block index of window 2 of kernel 2 at grid point `t`. -/
theorem at2_2 : ∀ t : Fin grid2.N, win2_2.index t 0 = t.val + 6 ∧ win2_2.index t 1 = 0 := by decide +kernel

/-- An element of window 2 of kernel 2's block `t`, as one of main_arg1. -/
theorem read2_2 (t : Fin cfg2.N) (q : Fin 2048) (k : Fin 128) :
    (blk2 V c 2 t : FVec F S2048x128 .f32) (ix2 q k) = (V c main_arg1 : FVec F S16384x128 .f32) (ix2 ⟨(t.val + 6) * 2048 + q.val, row2_lt t q⟩ k) := by
  show (V c main_arg1 : FVec F S16384x128 .f32) ((win2_2.rect t).emb (ix2 q k)) = _
  refine congrArg (V c main_arg1 : FVec F S16384x128 .f32) (funext fun a => Fin.ext ?_)
  rw [Window.rect_emb_val win2_2 t _ _ rfl]
  match a with
  | ⟨0, _⟩ => exact (congrArg (fun n => n * 2048 + q.val) (at2_2 t).1).trans (by rfl)
  | ⟨1, _⟩ => exact (congrArg (fun n => n * 128 + k.val) (at2_2 t).2).trans (by show 0 * 128 + k.val = k.val; omega)

/-- The block index of window 3 of kernel 2 at grid point `t`. -/
theorem at2_3 : ∀ t : Fin grid2.N, win2_3.index t 0 = t.val + 6 ∧ win2_3.index t 1 = 0 := by decide +kernel

/-- An element of window 3 of kernel 2's block `t`, as one of main_arg2. -/
theorem read2_3 (t : Fin cfg2.N) (q : Fin 2048) (k : Fin 128) :
    (blk2 V c 3 t : FVec F S2048x128 .f32) (ix2 q k) = (V c main_arg2 : FVec F S16384x128 .f32) (ix2 ⟨(t.val + 6) * 2048 + q.val, row2_lt t q⟩ k) := by
  show (V c main_arg2 : FVec F S16384x128 .f32) ((win2_3.rect t).emb (ix2 q k)) = _
  refine congrArg (V c main_arg2 : FVec F S16384x128 .f32) (funext fun a => Fin.ext ?_)
  rw [Window.rect_emb_val win2_3 t _ _ rfl]
  match a with
  | ⟨0, _⟩ => exact (congrArg (fun n => n * 2048 + q.val) (at2_3 t).1).trans (by rfl)
  | ⟨1, _⟩ => exact (congrArg (fun n => n * 128 + k.val) (at2_3 t).2).trans (by show 0 * 128 + k.val = k.val; omega)

/-- The block index of window 4 of kernel 2 at grid point `t`. -/
theorem at2_4 : ∀ t : Fin grid2.N, win2_4.index t 0 = t.val + 6 ∧ win2_4.index t 1 = 0 := by decide +kernel

/-- An element of window 4 of kernel 2's block `t`, as one of main_arg3. -/
theorem read2_4 (t : Fin cfg2.N) (q : Fin 2048) (k : Fin 128) :
    (blk2 V c 4 t : FVec F S2048x128 .f32) (ix2 q k) = (V c main_arg3 : FVec F S16384x128 .f32) (ix2 ⟨(t.val + 6) * 2048 + q.val, row2_lt t q⟩ k) := by
  show (V c main_arg3 : FVec F S16384x128 .f32) ((win2_4.rect t).emb (ix2 q k)) = _
  refine congrArg (V c main_arg3 : FVec F S16384x128 .f32) (funext fun a => Fin.ext ?_)
  rw [Window.rect_emb_val win2_4 t _ _ rfl]
  match a with
  | ⟨0, _⟩ => exact (congrArg (fun n => n * 2048 + q.val) (at2_4 t).1).trans (by rfl)
  | ⟨1, _⟩ => exact (congrArg (fun n => n * 128 + k.val) (at2_4 t).2).trans (by show 0 * 128 + k.val = k.val; omega)

/-- The block index of window 5 of kernel 2 at grid point `t`. -/
theorem at2_5 : ∀ t : Fin grid2.N, win2_5.index t 0 = 0 ∧ win2_5.index t 1 = 0 := by decide +kernel

/-- An element of window 5 of kernel 2's block `t`, as one of main_arg4. -/
theorem read2_5 (t : Fin cfg2.N) (q : Fin 128) (k : Fin 128) :
    (blk2 V c 5 t : FVec F S128x128 .f32) (ix2 q k) = (V c main_arg4 : FVec F S128x128 .f32) (ix2 q k) := by
  show (V c main_arg4 : FVec F S128x128 .f32) ((win2_5.rect t).emb (ix2 q k)) = _
  refine congrArg (V c main_arg4 : FVec F S128x128 .f32) (funext fun a => Fin.ext ?_)
  rw [Window.rect_emb_val win2_5 t _ _ rfl]
  match a with
  | ⟨0, _⟩ => exact (congrArg (fun n => n * 128 + q.val) (at2_5 t).1).trans (by show 0 * _ + q.val = q.val; omega)
  | ⟨1, _⟩ => exact (congrArg (fun n => n * 128 + k.val) (at2_5 t).2).trans (by show 0 * 128 + k.val = k.val; omega)

/-- The block index of window 6 of kernel 2 at grid point `t`. -/
theorem at2_6 : ∀ t : Fin grid2.N, win2_6.index t 0 = 0 ∧ win2_6.index t 1 = 0 := by decide +kernel

/-- An element of window 6 of kernel 2's block `t`, as one of main_arg6. -/
theorem read2_6 (t : Fin cfg2.N) (q : Fin 128) (k : Fin 128) :
    (blk2 V c 6 t : FVec F S128x128 .f32) (ix2 q k) = (V c main_arg6 : FVec F S128x128 .f32) (ix2 q k) := by
  show (V c main_arg6 : FVec F S128x128 .f32) ((win2_6.rect t).emb (ix2 q k)) = _
  refine congrArg (V c main_arg6 : FVec F S128x128 .f32) (funext fun a => Fin.ext ?_)
  rw [Window.rect_emb_val win2_6 t _ _ rfl]
  match a with
  | ⟨0, _⟩ => exact (congrArg (fun n => n * 128 + q.val) (at2_6 t).1).trans (by show 0 * _ + q.val = q.val; omega)
  | ⟨1, _⟩ => exact (congrArg (fun n => n * 128 + k.val) (at2_6 t).2).trans (by show 0 * 128 + k.val = k.val; omega)

/-- The block index of window 7 of kernel 2 at grid point `t`. -/
theorem at2_7 : ∀ t : Fin grid2.N, win2_7.index t 0 = 0 ∧ win2_7.index t 1 = 0 := by decide +kernel

/-- An element of window 7 of kernel 2's block `t`, as one of main_arg8. -/
theorem read2_7 (t : Fin cfg2.N) (q : Fin 128) (k : Fin 128) :
    (blk2 V c 7 t : FVec F S128x128 .f32) (ix2 q k) = (V c main_arg8 : FVec F S128x128 .f32) (ix2 q k) := by
  show (V c main_arg8 : FVec F S128x128 .f32) ((win2_7.rect t).emb (ix2 q k)) = _
  refine congrArg (V c main_arg8 : FVec F S128x128 .f32) (funext fun a => Fin.ext ?_)
  rw [Window.rect_emb_val win2_7 t _ _ rfl]
  match a with
  | ⟨0, _⟩ => exact (congrArg (fun n => n * 128 + q.val) (at2_7 t).1).trans (by show 0 * _ + q.val = q.val; omega)
  | ⟨1, _⟩ => exact (congrArg (fun n => n * 128 + k.val) (at2_7 t).2).trans (by show 0 * 128 + k.val = k.val; omega)

/-- The block index of window 8 of kernel 2 at grid point `t`. -/
theorem at2_8 : ∀ t : Fin grid2.N, win2_8.index t 0 = 0 ∧ win2_8.index t 1 = 0 := by decide +kernel

/-- An element of window 8 of kernel 2's block `t`, as one of main_arg10. -/
theorem read2_8 (t : Fin cfg2.N) (q : Fin 128) (k : Fin 128) :
    (blk2 V c 8 t : FVec F S128x128 .f32) (ix2 q k) = (V c main_arg10 : FVec F S128x128 .f32) (ix2 q k) := by
  show (V c main_arg10 : FVec F S128x128 .f32) ((win2_8.rect t).emb (ix2 q k)) = _
  refine congrArg (V c main_arg10 : FVec F S128x128 .f32) (funext fun a => Fin.ext ?_)
  rw [Window.rect_emb_val win2_8 t _ _ rfl]
  match a with
  | ⟨0, _⟩ => exact (congrArg (fun n => n * 128 + q.val) (at2_8 t).1).trans (by show 0 * _ + q.val = q.val; omega)
  | ⟨1, _⟩ => exact (congrArg (fun n => n * 128 + k.val) (at2_8 t).2).trans (by show 0 * 128 + k.val = k.val; omega)

/-- The block index of window 9 of kernel 2 at grid point `t`. -/
theorem at2_9 : ∀ t : Fin grid2.N, win2_9.index t 0 = 0 ∧ win2_9.index t 1 = 0 := by decide +kernel

/-- An element of window 9 of kernel 2's block `t`, as one of main_v0. -/
theorem read2_9 (t : Fin cfg2.N) (q : Fin 1) (k : Fin 128) :
    (blk2 V c 9 t : FVec F S1x128 .f32) (ix2 q k) = (V c main_v0 : FVec F S1x128 .f32) (ix2 q k) := by
  show (V c main_v0 : FVec F S1x128 .f32) ((win2_9.rect t).emb (ix2 q k)) = _
  refine congrArg (V c main_v0 : FVec F S1x128 .f32) (funext fun a => Fin.ext ?_)
  rw [Window.rect_emb_val win2_9 t _ _ rfl]
  match a with
  | ⟨0, _⟩ => exact (congrArg (fun n => n * 1 + q.val) (at2_9 t).1).trans (by show 0 * _ + q.val = q.val; omega)
  | ⟨1, _⟩ => exact (congrArg (fun n => n * 128 + k.val) (at2_9 t).2).trans (by show 0 * 128 + k.val = k.val; omega)

/-- The block index of window 10 of kernel 2 at grid point `t`. -/
theorem at2_10 : ∀ t : Fin grid2.N, win2_10.index t 0 = 0 ∧ win2_10.index t 1 = 0 := by decide +kernel

/-- An element of window 10 of kernel 2's block `t`, as one of main_v1. -/
theorem read2_10 (t : Fin cfg2.N) (q : Fin 1) (k : Fin 128) :
    (blk2 V c 10 t : FVec F S1x128 .f32) (ix2 q k) = (V c main_v1 : FVec F S1x128 .f32) (ix2 q k) := by
  show (V c main_v1 : FVec F S1x128 .f32) ((win2_10.rect t).emb (ix2 q k)) = _
  refine congrArg (V c main_v1 : FVec F S1x128 .f32) (funext fun a => Fin.ext ?_)
  rw [Window.rect_emb_val win2_10 t _ _ rfl]
  match a with
  | ⟨0, _⟩ => exact (congrArg (fun n => n * 1 + q.val) (at2_10 t).1).trans (by show 0 * _ + q.val = q.val; omega)
  | ⟨1, _⟩ => exact (congrArg (fun n => n * 128 + k.val) (at2_10 t).2).trans (by show 0 * 128 + k.val = k.val; omega)

/-- The block index of window 11 of kernel 2 at grid point `t`. -/
theorem at2_11 : ∀ t : Fin grid2.N, win2_11.index t 0 = 0 ∧ win2_11.index t 1 = 0 := by decide +kernel

/-- An element of window 11 of kernel 2's block `t`, as one of main_v2. -/
theorem read2_11 (t : Fin cfg2.N) (q : Fin 1) (k : Fin 128) :
    (blk2 V c 11 t : FVec F S1x128 .f32) (ix2 q k) = (V c main_v2 : FVec F S1x128 .f32) (ix2 q k) := by
  show (V c main_v2 : FVec F S1x128 .f32) ((win2_11.rect t).emb (ix2 q k)) = _
  refine congrArg (V c main_v2 : FVec F S1x128 .f32) (funext fun a => Fin.ext ?_)
  rw [Window.rect_emb_val win2_11 t _ _ rfl]
  match a with
  | ⟨0, _⟩ => exact (congrArg (fun n => n * 1 + q.val) (at2_11 t).1).trans (by show 0 * _ + q.val = q.val; omega)
  | ⟨1, _⟩ => exact (congrArg (fun n => n * 128 + k.val) (at2_11 t).2).trans (by show 0 * 128 + k.val = k.val; omega)

/-- The block index of window 12 of kernel 2 at grid point `t`. -/
theorem at2_12 : ∀ t : Fin grid2.N, win2_12.index t 0 = 0 ∧ win2_12.index t 1 = 0 := by decide +kernel

/-- An element of window 12 of kernel 2's block `t`, as one of main_v3. -/
theorem read2_12 (t : Fin cfg2.N) (q : Fin 1) (k : Fin 128) :
    (blk2 V c 12 t : FVec F S1x128 .f32) (ix2 q k) = (V c main_v3 : FVec F S1x128 .f32) (ix2 q k) := by
  show (V c main_v3 : FVec F S1x128 .f32) ((win2_12.rect t).emb (ix2 q k)) = _
  refine congrArg (V c main_v3 : FVec F S1x128 .f32) (funext fun a => Fin.ext ?_)
  rw [Window.rect_emb_val win2_12 t _ _ rfl]
  match a with
  | ⟨0, _⟩ => exact (congrArg (fun n => n * 1 + q.val) (at2_12 t).1).trans (by show 0 * _ + q.val = q.val; omega)
  | ⟨1, _⟩ => exact (congrArg (fun n => n * 128 + k.val) (at2_12 t).2).trans (by show 0 * 128 + k.val = k.val; omega)

/-- The block index of window 12 of kernel 1 at grid point `t`. -/
theorem at1_12 : ∀ t : Fin grid1.N, win1_12.index t 0 = t.val ∧ win1_12.index t 1 = 0 := by decide +kernel

/-- An element of an array's part under window 12 of kernel 1 at grid point `t`. -/
theorem read1_12 (G : FVec F S16384x128 .f32) (t : Fin cfg1.N) (q : Fin 1024) (k : Fin 128) :
    (((cfg1.win 12).blk t).view.read (Elt F) G : FVec F S1024x128 .f32) (ix2 q k) = G (ix2 ⟨t.val * 1024 + q.val, row1_lt t q⟩ k) := by
  show G ((win1_12.rect t).emb (ix2 q k)) = _
  refine congrArg G (funext fun a => Fin.ext ?_)
  rw [Window.rect_emb_val win1_12 t _ _ rfl]
  match a with
  | ⟨0, _⟩ => exact (congrArg (fun n => n * 1024 + q.val) (at1_12 t).1).trans (by rfl)
  | ⟨1, _⟩ => exact (congrArg (fun n => n * 128 + k.val) (at1_12 t).2).trans (by show 0 * 128 + k.val = k.val; omega)

/-- The block index of window 13 of kernel 2 at grid point `t`. -/
theorem at2_13 : ∀ t : Fin grid2.N, win2_13.index t 0 = t.val + 6 ∧ win2_13.index t 1 = 0 := by decide +kernel

/-- An element of an array's part under window 13 of kernel 2 at grid point `t`. -/
theorem read2_13 (G : FVec F S16384x128 .f32) (t : Fin cfg2.N) (q : Fin 2048) (k : Fin 128) :
    (((cfg2.win 13).blk t).view.read (Elt F) G : FVec F S2048x128 .f32) (ix2 q k) = G (ix2 ⟨(t.val + 6) * 2048 + q.val, row2_lt t q⟩ k) := by
  show G ((win2_13.rect t).emb (ix2 q k)) = _
  refine congrArg G (funext fun a => Fin.ext ?_)
  rw [Window.rect_emb_val win2_13 t _ _ rfl]
  match a with
  | ⟨0, _⟩ => exact (congrArg (fun n => n * 2048 + q.val) (at2_13 t).1).trans (by rfl)
  | ⟨1, _⟩ => exact (congrArg (fun n => n * 128 + k.val) (at2_13 t).2).trans (by show 0 * 128 + k.val = k.val; omega)

end Cert.KernelIdeal.Run

end
-- ==== Proof.Choice.lean ====
module

public import proofs.«01_k».proof.Proof.Word
public import Mathlib.Data.Prod.Lex
public import Mathlib.Data.EReal.Basic

/-! The kernel's chain of strict comparisons picks the first of the greatest mantissas, and a left fold that keeps the
greater of two pairs ends at the greatest pair. -/

@[expose] public section

namespace Cert.Noise

open Idealize.ShloMosaic

/-- A mantissa has 23 bits. -/
theorem mant_lt (x : BitVec 32) : (mant x).toNat < 2 ^ 23 := by
  have h : mant x = bits x >>> 9 := rfl
  rw [h, BitVec.toNat_ushiftRight, Nat.shiftRight_eq_div_pow]
  have := (bits x).isLt
  omega

/-- The four mantissas at a counter base, by number. -/
def mants (x : BitVec 32) (j : Fin 4) : ℕ := (mj x (BitVec.ofNat 32 j.val)).toNat

theorem mants_lt (x : BitVec 32) (j : Fin 4) : mants x j < 2 ^ 23 := mant_lt _

/-- A selection by a strict signed comparison of two 23-bit words is one by their numbers. -/
theorem select_sgt {α : Type} {u v : BitVec 32} (hu : u.toNat < 2 ^ 23) (hv : v.toNat < 2 ^ 23) (a b : α) :
    Scalar.select (IntOp.cmpi .sgt u v) a b = if v.toNat < u.toNat then a else b := by
  have e : IntOp.cmpi .sgt u v = BitVec.ofBool (v.slt u) := rfl
  have s : v.slt u = decide (v.toNat < u.toNat) := by
    rw [BitVec.slt_eq_decide, BitVec.toInt_eq_toNat_of_lt (by omega), BitVec.toInt_eq_toNat_of_lt (by omega)]
    simp only [Nat.cast_lt]
  rw [e, s]
  by_cases h : v.toNat < u.toNat <;> simp [Scalar.select, h]

/-- The chain of three strict comparisons over four 23-bit words: it takes the first of the greatest. -/
theorem chain_spec (w : Fin 4 → BitVec 32) (hw : ∀ j, (w j).toNat < 2 ^ 23) (y1 y2 : BitVec 32)
    (h1 : y1 = Scalar.select (IntOp.cmpi .sgt (w 1) (w 0)) (w 1) (w 0))
    (h2 : y2 = Scalar.select (IntOp.cmpi .sgt (w 2) y1) (w 2) y1) :
    ∃ c : Fin 4,
      (∀ (α : Type) (e : Fin 4 → α), Scalar.select (IntOp.cmpi .sgt (w 3) y2) (e 3)
        (Scalar.select (IntOp.cmpi .sgt (w 2) y1) (e 2) (Scalar.select (IntOp.cmpi .sgt (w 1) (w 0)) (e 1) (e 0))) = e c)
      ∧ ∀ j, (w j).toNat < (w c).toNat ∨ ((w j).toNat = (w c).toNat ∧ c ≤ j) := by
  rw [select_sgt (hw 1) (hw 0)] at h1
  have b1 : y1.toNat < 2 ^ 23 := by rw [h1]; split <;> apply hw
  rw [select_sgt (hw 2) b1] at h2
  have b2 : y2.toNat < 2 ^ 23 := by rw [h2]; split <;> first | apply hw | exact b1
  have n1 : y1.toNat = if (w 0).toNat < (w 1).toNat then (w 1).toNat else (w 0).toNat := by rw [h1]; split <;> rfl
  have n2 : y2.toNat = if y1.toNat < (w 2).toNat then (w 2).toNat else y1.toNat := by rw [h2]; split <;> rfl
  simp only [select_sgt (hw 3) b2, select_sgt (hw 2) b1, select_sgt (hw 1) (hw 0)]
  clear h1 h2 b1 b2 hw
  generalize y1.toNat = m1 at *
  generalize y2.toNat = m2 at *
  have key : ∀ c : Fin 4, ((w 0).toNat < (w c).toNat ∨ ((w 0).toNat = (w c).toNat ∧ c.val ≤ 0)) →
      ((w 1).toNat < (w c).toNat ∨ ((w 1).toNat = (w c).toNat ∧ c.val ≤ 1)) →
      ((w 2).toNat < (w c).toNat ∨ ((w 2).toNat = (w c).toNat ∧ c.val ≤ 2)) →
      ((w 3).toNat < (w c).toNat ∨ ((w 3).toNat = (w c).toNat ∧ c.val ≤ 3)) →
      ∀ j, (w j).toNat < (w c).toNat ∨ ((w j).toNat = (w c).toNat ∧ c ≤ j) := fun c g0 g1 g2 g3 j => by
    fin_cases j <;> assumption
  have v1 : (1 : Fin 4).val = 1 := rfl
  have v2 : (2 : Fin 4).val = 2 := rfl
  have v3 : (3 : Fin 4).val = 3 := rfl
  by_cases c3 : m2 < (w 3).toNat
  · refine ⟨3, fun α e => if_pos c3, key 3 ?_ ?_ ?_ ?_⟩ <;> split at n1 <;> split at n2 <;> omega
  by_cases c2 : m1 < (w 2).toNat
  · refine ⟨2, fun α e => by rw [if_neg c3, if_pos c2], key 2 ?_ ?_ ?_ ?_⟩ <;> rw [if_pos c2] at n2 <;>
      split at n1 <;> omega
  by_cases c1 : (w 0).toNat < (w 1).toNat
  · refine ⟨1, fun α e => by rw [if_neg c3, if_neg c2, if_pos c1], key 1 ?_ ?_ ?_ ?_⟩ <;>
      rw [if_neg c2] at n2 <;> rw [if_pos c1] at n1 <;> omega
  · refine ⟨0, fun α e => by rw [if_neg c3, if_neg c2, if_neg c1], key 0 ?_ ?_ ?_ ?_⟩ <;>
      rw [if_neg c2] at n2 <;> rw [if_neg c1] at n1 <;> omega

/-- The pick is one of its four values, at a place whose mantissa is greatest, the first of equals. -/
theorem pick_spec (x : BitVec 32) : ∃ c : Fin 4,
    (∀ (α : Type) (e : Fin 4 → α), pick x (e 0) (e 1) (e 2) (e 3) = e c)
    ∧ ∀ j, mants x j < mants x c ∨ (mants x j = mants x c ∧ c ≤ j) := by
  have h := chain_spec ![mj x 0#32, mj x 1#32, mj x 2#32, mj x 3#32]
    (fun j => by fin_cases j <;> exact mant_lt _) (best1 x) (best2 x) (by unfold best1; rfl) (by unfold best2; rfl)
  obtain ⟨c, hp, hm⟩ := h
  refine ⟨c, fun α e => hp α e, fun j => ?_⟩
  have e : ∀ j : Fin 4, (![mj x 0#32, mj x 1#32, mj x 2#32, mj x 3#32] j).toNat = mants x j := fun j => by
    fin_cases j <;> rfl
  rw [← e, ← e]
  exact hm j

/-- A pair's rank: by its value, and of equal values by its word, the smaller higher. -/
noncomputable def rank (p : EReal × BitVec 32) : Lex (EReal × ℤ) := toLex (p.1, -p.2.toInt)

/-- A left fold that keeps the higher of two pairs ends at one of them, as high as each. -/
theorem foldl_rank {f : EReal × BitVec 32 → EReal × BitVec 32 → EReal × BitVec 32}
    (hf : ∀ a b, f a b = if rank b < rank a then a else b) (l : List (EReal × BitVec 32)) (p : EReal × BitVec 32) :
    l.foldl f p ∈ p :: l ∧ ∀ q ∈ p :: l, rank q ≤ rank (l.foldl f p) := by
  induction l generalizing p with
  | nil => exact ⟨List.mem_singleton.mpr rfl, fun q h => by rw [List.mem_singleton.mp h]; exact le_rfl⟩
  | cons a l ih =>
    obtain ⟨hm, hr⟩ := ih (f p a)
    have h0 := hr _ List.mem_cons_self
    refine ⟨?_, fun q hq => ?_⟩
    · rcases List.mem_cons.mp hm with h | h
      · rw [List.foldl_cons, h, hf]
        split
        · exact List.mem_cons_self
        · exact List.mem_cons_of_mem _ List.mem_cons_self
      · exact List.mem_cons_of_mem _ (List.mem_cons_of_mem _ h)
    · have hp : rank p ≤ rank (f p a) ∧ rank a ≤ rank (f p a) := by
        rw [hf]
        split
        · rename_i h; exact ⟨le_rfl, h.le⟩
        · rename_i h; exact ⟨not_lt.mp h, le_rfl⟩
      rcases List.mem_cons.mp hq with rfl | hq
      · exact hp.1.trans h0
      rcases List.mem_cons.mp hq with rfl | hq
      · exact hp.2.trans h0
      · exact hr q (List.mem_cons_of_mem _ hq)

end Cert.Noise

end
-- ==== Proof.BlockValue.lean ====
module

public import proofs.«01_k».proof.Proof.Setup
public import proofs.«01_k».proof.Proof.Choice
public import Idealize.ShloMosaic.PureOps.Ideal.Laws
public import Idealize.ShloMosaic.Lib.IdealHost
public import Idealize.ShloMosaic.Lib.Pointwise

/-! What the two TensorCore bodies leave in their blocks, element by element, over the extended reals. -/

@[expose] public section

set_option maxRecDepth 16384

noncomputable section

namespace Cert.KernelIdeal.Bodies

open Cert.KernelIdeal Cert.KernelIdeal.Gen Idealize.ShloMosaic

/-- One element of a dense layer: a row times a column, the bias added, clipped at zero. -/
def cell (x w : Fin 128 → EReal) (v : EReal) : EReal := max ((∑ k : Fin 128, x k * w k) + v) 0

/-- A layer's block in the first kernel. -/
theorem pay1_at (x : FVec Ideal S1024x128 .f32) (w : FVec Ideal S128x128 .f32) (v : FVec Ideal S1x128 .f32) (q : Fin 1024)
    (e : Fin 128) : k1_pay2 (F := Ideal) x w v (ix2 q e) = cell (fun k => x (ix2 q k)) (fun k => w (ix2 k e)) (v (ix2 0 e)) := by
  unfold k1_pay2 cell
  pointwise

/-- A layer's block in the second kernel. -/
theorem pay2_at (x : FVec Ideal S2048x128 .f32) (w : FVec Ideal S128x128 .f32) (v : FVec Ideal S1x128 .f32) (q : Fin 2048)
    (e : Fin 128) : k2_pay2 (F := Ideal) x w v (ix2 q e) = cell (fun k => x (ix2 q k)) (fun k => w (ix2 k e)) (v (ix2 0 e)) := by
  unfold k2_pay2 cell
  pointwise

/-- The first kernel's counter words. -/
theorem lane_at (t : ℕ) (ht : t < 12) (q : Fin 1024) (e : Fin 128) :
    k1_pay7 (BitVec.ofNat 32 t) (ix2 q e) = Noise.word (t * 1024 + q.val) e.val := by
  unfold k1_pay7
  pointwise
  have s1 : IntOp.shli .vector (BitVec.ofNat 32 e.val) 16#32 = BitVec.ofNat 32 e.val <<< 16 := rfl
  have s2 : ∀ a : BitVec 32, IntOp.shli .vector a 2#32 = a <<< 2 := fun _ => rfl
  rw [s1, s2]
  have hq := q.isLt
  have he := e.isLt
  apply BitVec.eq_of_toNat_eq
  simp only [IntOp.addi, Scalar.muli, IntOp.muli, Noise.word, BitVec.toNat_add, BitVec.toNat_mul, BitVec.toNat_shiftLeft,
    BitVec.toNat_ofNat, Nat.shiftLeft_eq]
  omega

/-- A chain of selections by the chosen number is the pick. -/
theorem select_choice (x : BitVec 32) (f : Fin 4 → EReal) (z : BitVec 32) (hz : z = Noise.pick x 0#32 1#32 2#32 3#32) :
    Scalar.select (IntOp.cmpi .eq z 3#32) (f 3) (Scalar.select (IntOp.cmpi .eq z 2#32) (f 2)
      (Scalar.select (IntOp.cmpi .eq z 1#32) (f 1) (f 0))) = Noise.pick x (f 0) (f 1) (f 2) (f 3) := by
  obtain ⟨c, hp, -⟩ := Noise.pick_spec x
  have hz' : z = (![0#32, 1#32, 2#32, 3#32] : Fin 4 → BitVec 32) c := hz.trans (hp (BitVec 32) ![0#32, 1#32, 2#32, 3#32])
  rw [hp EReal f, hz']
  have q : ∀ a b : Fin 4, IntOp.cmpi .eq (![0#32, 1#32, 2#32, 3#32] a) (![0#32, 1#32, 2#32, 3#32] b) = if a = b then 1#1 else 0#1 := by
    decide
  have q3 := q c 3
  have q2 := q c 2
  have q1 := q c 1
  have e3 : (![0#32, 1#32, 2#32, 3#32] : Fin 4 → BitVec 32) 3 = 3#32 := rfl
  have e2 : (![0#32, 1#32, 2#32, 3#32] : Fin 4 → BitVec 32) 2 = 2#32 := rfl
  have e1 : (![0#32, 1#32, 2#32, 3#32] : Fin 4 → BitVec 32) 1 = 1#32 := rfl
  rw [e3] at q3
  rw [e2] at q2
  rw [e1] at q1
  rw [q3, q2, q1]
  fin_cases c <;> rfl

/-- What the second kernel leaves in a block whose choices are the picks. -/
theorem selOut_at (z : IVec S2048x128 32) (x0 x1 x2 x3 : FVec Ideal S2048x128 .f32) (w0 w1 w2 w3 : FVec Ideal S128x128 .f32)
    (v0 v1 v2 v3 : FVec Ideal S1x128 .f32) (q : Fin 2048) (e : Fin 128) (x : BitVec 32)
    (hz : z (ix2 q e) = Noise.pick x 0#32 1#32 2#32 3#32) :
    selOut (F := Ideal) z x0 x1 x2 x3 w0 w1 w2 w3 v0 v1 v2 v3 (ix2 q e)
      = Noise.pick x (cell (fun k => x0 (ix2 q k)) (fun k => w0 (ix2 k e)) (v0 (ix2 0 e)))
          (cell (fun k => x1 (ix2 q k)) (fun k => w1 (ix2 k e)) (v1 (ix2 0 e)))
          (cell (fun k => x2 (ix2 q k)) (fun k => w2 (ix2 k e)) (v2 (ix2 0 e)))
          (cell (fun k => x3 (ix2 q k)) (fun k => w3 (ix2 k e)) (v3 (ix2 0 e))) := by
  have hc : shapeCast S2048x128 z shapeCasts_S2048x128_S2048x128 (ix2 q e) = Noise.pick x 0#32 1#32 2#32 3#32 := by
    rw [← hz]
    pointwise
  rw [← pay2_at, ← pay2_at, ← pay2_at, ← pay2_at]
  exact select_choice x ![k2_pay2 (F := Ideal) x0 w0 v0 (ix2 q e), k2_pay2 (F := Ideal) x1 w1 v1 (ix2 q e),
    k2_pay2 (F := Ideal) x2 w2 v2 (ix2 q e), k2_pay2 (F := Ideal) x3 w3 v3 (ix2 q e)] _ hc

/-- What the first kernel leaves in block `t`. -/
theorem mainOut_at (i : grid1.Coords) (x0 x1 x2 x3 : FVec Ideal S1024x128 .f32) (w0 w1 w2 w3 : FVec Ideal S128x128 .f32)
    (v0 v1 v2 v3 : FVec Ideal S1x128 .f32) (q : Fin 1024) (e : Fin 128) :
    mainOut (F := Ideal) i x0 x1 x2 x3 w0 w1 w2 w3 v0 v1 v2 v3 (ix2 q e)
      = Noise.pick (Noise.word ((i 0).val * 1024 + q.val) e.val)
          (cell (fun k => x0 (ix2 q k)) (fun k => w0 (ix2 k e)) (v0 (ix2 0 e)))
          (cell (fun k => x1 (ix2 q k)) (fun k => w1 (ix2 k e)) (v1 (ix2 0 e)))
          (cell (fun k => x2 (ix2 q k)) (fun k => w2 (ix2 k e)) (v2 (ix2 0 e)))
          (cell (fun k => x3 (ix2 q k)) (fun k => w3 (ix2 k e)) (v3 (ix2 0 e))) := by
  rw [← lane_at (i 0).val (i 0).isLt, ← pay1_at, ← pay1_at, ← pay1_at, ← pay1_at]
  rfl

end Cert.KernelIdeal.Bodies

end
-- ==== Proof.KernelValue.lean ====
module

public import proofs.«01_k».proof.Proof.BlockRead
public import proofs.«01_k».proof.Proof.BlockValue
public import proofs.«01_k».proof.Proof.Contents

/-! The kernel's result over the extended reals: the first TensorCore kernel fills the rows below 12288, the second the rest,
each element with the layer of the branch picked there. -/

@[expose] public section

set_option maxRecDepth 16384

noncomputable section

namespace Cert.KernelIdeal.Run

open Cert.KernelIdeal Cert.KernelIdeal.Gen Cert.KernelIdeal.Bodies

open Idealize.ShloMosaic Idealize.ShloMosaic.TcCoe
open Idealize.ShloMosaic.Pipeline (Window Dat)

/-- The pick of four layers, element by element, the biases as rows. -/
def picked (x0 x1 x2 x3 : FVec Ideal S16384x128 .f32) (w0 w1 w2 w3 : FVec Ideal S128x128 .f32) (v0 v1 v2 v3 : FVec Ideal S1x128 .f32) :
    FVec Ideal S16384x128 .f32 := fun i =>
  Noise.pick (Noise.word (i 0).val (i 1).val)
    (cell (fun k => x0 (ix2 (i 0) k)) (fun k => w0 (ix2 k (i 1))) (v0 (ix2 0 (i 1))))
    (cell (fun k => x1 (ix2 (i 0) k)) (fun k => w1 (ix2 k (i 1))) (v1 (ix2 0 (i 1))))
    (cell (fun k => x2 (ix2 (i 0) k)) (fun k => w2 (ix2 k (i 1))) (v2 (ix2 0 (i 1))))
    (cell (fun k => x3 (ix2 (i 0) k)) (fun k => w3 (ix2 k (i 1))) (v3 (ix2 0 (i 1))))

section Regions

variable (V : (c : Dev nD) → (b : Ref sig .tc) → Buf (Elt Ideal) ((c : Thread nD τ).loc b)) (c : Dev nD)

/-- The same of the arrays the two kernels read. -/
def whole : FVec Ideal S16384x128 .f32 :=
  picked (V c main_arg0) (V c main_arg1) (V c main_arg2) (V c main_arg3) (V c main_arg4) (V c main_arg6) (V c main_arg8)
    (V c main_arg10) (V c main_v0) (V c main_v1) (V c main_v2) (V c main_v3)

/-- The one coordinate of a grid point of the first kernel. -/
theorem coord1 : ∀ t : Fin grid1.N, (grid1.coords t 0).val = t.val := by decide +kernel

/-- Block `t` of the first kernel. -/
theorem put1_at (t : Fin cfg1.N) (q : Fin 1024) (e : Fin 128) :
    put1 V c t (ix2 q e) = whole V c (ix2 ⟨t.val * 1024 + q.val, row1_lt t q⟩ e) := by
  refine (mainOut_at (grid1.coords t) _ _ _ _ _ _ _ _ _ _ _ _ q e).trans ?_
  simp only [read1_0, read1_1, read1_2, read1_3, read1_4, read1_5, read1_6, read1_7, read1_8, read1_9, read1_10, read1_11]
  rw [coord1 t]
  rfl

/-- Where the result block of the first kernel begins and how far it reaches. -/
theorem span1 : ∀ t : Fin grid1.N, win1_12.index t 0 * win1_12.size 0 = t.val * 1024 ∧ win1_12.xsize (grid1.coords t) 0 = 1024
    ∧ win1_12.index t 1 * win1_12.size 1 = 0 ∧ win1_12.xsize (grid1.coords t) 1 = 128 := by decide +kernel

/-- Block `t` of the first kernel is block `t` of the whole pick. -/
theorem flushed1 (t : Fin cfg1.N) :
    (dat1 V c).flushed 12 t = ((cfg1.win 12).blk t).view.read (Elt Ideal) (whole V c) := by
  show (cfg1.win 12).cut (grid1.coords t) ((dat1 V c).after 12 t) = _
  rw [after1_12]
  refine funext fun (y : S1024x128.Idx) => ?_
  obtain ⟨q, e, rfl⟩ : ∃ (q : Fin 1024) (e : Fin 128), y = ix2 q e := ⟨y 0, y 1, by funext k; fin_cases k <;> rfl⟩
  exact (put1_at V c t q e).trans (read1_12 (whole V c) t q e).symm

/-- The rows of block `t` of the first kernel. -/
theorem mem1 (t : Fin cfg1.N) (i : S16384x128.Idx) :
    i ∈ ((cfg1.win 12).blk t).view.set ↔ t.val * 1024 ≤ (i 0 : Nat) ∧ (i 0 : Nat) < t.val * 1024 + 1024 := by
  show i ∈ ((View.whole main_v5).slice (win1_12.rect t)).set ↔ _
  rw [View.set_slice_whole, Rect.mem_set_unit]
  have h1 : (i 1 : Nat) < 128 := (i 1).isLt
  have e := span1 t
  refine ⟨fun h => ?_, fun h a => ?_⟩
  · have : win1_12.index t 0 * win1_12.size 0 ≤ (i 0 : Nat) ∧ (i 0 : Nat) < win1_12.index t 0 * win1_12.size 0 + win1_12.xsize (grid1.coords t) 0 := h 0
    rw [e.1, e.2.1] at this; exact this
  · match a with
    | ⟨0, _⟩ => show win1_12.index t 0 * win1_12.size 0 ≤ (i 0 : Nat) ∧ (i 0 : Nat) < win1_12.index t 0 * win1_12.size 0 + win1_12.xsize (grid1.coords t) 0
                rw [e.1, e.2.1]; exact h
    | ⟨1, _⟩ => show win1_12.index t 1 * win1_12.size 1 ≤ (i 1 : Nat) ∧ (i 1 : Nat) < win1_12.index t 1 * win1_12.size 1 + win1_12.xsize (grid1.coords t) 1
                rw [e.2.2.1, e.2.2.2]; omega

/-- The first kernel's array below row 12288. -/
theorem arr1 (i : S16384x128.Idx) (h : (i 0 : Nat) < 12288) : (dat1 V c).arrAt 12 cfg1.N i = whole V c i := by
  refine ((dat1 V c).arrAt_eq_piecewise 12 (whole V c) (fun t _ => flushed1 V c t) i).trans (if_pos ?_)
  have hN : cfg1.N = 12 := N_1
  refine ⟨⟨(i 0 : Nat) / 1024, by omega⟩, flush1_12 _, (mem1 _ i).mpr ?_⟩
  dsimp only
  omega

variable (hz : (V c main_v4 : IVec S4096x128 32) = chosen c)

include hz in
/-- Block `t` of the second kernel. -/
theorem put2_at (t : Fin cfg2.N) (q : Fin 2048) (e : Fin 128) :
    put2 V c t (ix2 q e) = whole V c (ix2 ⟨(t.val + 6) * 2048 + q.val, row2_lt t q⟩ e) := by
  have hc : (blk2 V c 0 t : IVec S2048x128 32) (ix2 q e)
      = Noise.pick (Noise.word ((t.val + 6) * 2048 + q.val) e.val) 0#32 1#32 2#32 3#32 := by
    rw [read2_0, hz]
    show Noise.choice (12288 + (t.val * 2048 + q.val)) e.val = _
    rw [show 12288 + (t.val * 2048 + q.val) = (t.val + 6) * 2048 + q.val by omega]
    rfl
  refine (selOut_at _ _ _ _ _ _ _ _ _ _ _ _ _ q e _ hc).trans ?_
  simp only [read2_1, read2_2, read2_3, read2_4, read2_5, read2_6, read2_7, read2_8, read2_9, read2_10, read2_11, read2_12]
  rfl

/-- Where the result block of the second kernel begins and how far it reaches. -/
theorem span2 : ∀ t : Fin grid2.N, win2_13.index t 0 * win2_13.size 0 = (t.val + 6) * 2048 ∧ win2_13.xsize (grid2.coords t) 0 = 2048
    ∧ win2_13.index t 1 * win2_13.size 1 = 0 ∧ win2_13.xsize (grid2.coords t) 1 = 128 := by decide +kernel

include hz in
/-- Block `t` of the second kernel is block `t` of the whole pick. -/
theorem flushed2 (t : Fin cfg2.N) :
    (dat2 V c).flushed 13 t = ((cfg2.win 13).blk t).view.read (Elt Ideal) (whole V c) := by
  show (cfg2.win 13).cut (grid2.coords t) ((dat2 V c).after 13 t) = _
  rw [after2_13]
  refine funext fun (y : S2048x128.Idx) => ?_
  obtain ⟨q, e, rfl⟩ : ∃ (q : Fin 2048) (e : Fin 128), y = ix2 q e := ⟨y 0, y 1, by funext k; fin_cases k <;> rfl⟩
  exact (put2_at V c hz t q e).trans (read2_13 (whole V c) t q e).symm

/-- The rows of block `t` of the second kernel. -/
theorem mem2 (t : Fin cfg2.N) (i : S16384x128.Idx) :
    i ∈ ((cfg2.win 13).blk t).view.set ↔ (t.val + 6) * 2048 ≤ (i 0 : Nat) ∧ (i 0 : Nat) < (t.val + 6) * 2048 + 2048 := by
  show i ∈ ((View.whole main_v6).slice (win2_13.rect t)).set ↔ _
  rw [View.set_slice_whole, Rect.mem_set_unit]
  have h1 : (i 1 : Nat) < 128 := (i 1).isLt
  have e := span2 t
  refine ⟨fun h => ?_, fun h a => ?_⟩
  · have : win2_13.index t 0 * win2_13.size 0 ≤ (i 0 : Nat) ∧ (i 0 : Nat) < win2_13.index t 0 * win2_13.size 0 + win2_13.xsize (grid2.coords t) 0 := h 0
    rw [e.1, e.2.1] at this; exact this
  · match a with
    | ⟨0, _⟩ => show win2_13.index t 0 * win2_13.size 0 ≤ (i 0 : Nat) ∧ (i 0 : Nat) < win2_13.index t 0 * win2_13.size 0 + win2_13.xsize (grid2.coords t) 0
                rw [e.1, e.2.1]; exact h
    | ⟨1, _⟩ => show win2_13.index t 1 * win2_13.size 1 ≤ (i 1 : Nat) ∧ (i 1 : Nat) < win2_13.index t 1 * win2_13.size 1 + win2_13.xsize (grid2.coords t) 1
                rw [e.2.2.1, e.2.2.2]; omega

include hz in
/-- The second kernel's array from row 12288 on. -/
theorem arr2_hi (i : S16384x128.Idx) (h : 12288 ≤ (i 0 : Nat)) : (dat2 V c).arrAt 13 cfg2.N i = whole V c i := by
  refine ((dat2 V c).arrAt_eq_piecewise 13 (whole V c) (fun t _ => flushed2 V c hz t) i).trans (if_pos ?_)
  have hN : cfg2.N = 2 := N_2
  have h0 : (i 0 : Nat) < 16384 := (i 0).isLt
  refine ⟨⟨(i 0 : Nat) / 2048 - 6, by omega⟩, flush2_13 _, (mem2 _ i).mpr ?_⟩
  dsimp only
  omega

include hz in
/-- The second kernel's array below row 12288: as it was. -/
theorem arr2_lo (i : S16384x128.Idx) (h : (i 0 : Nat) < 12288) :
    (dat2 V c).arrAt 13 cfg2.N i = (V c main_v6 : FVec Ideal S16384x128 .f32) i := by
  refine ((dat2 V c).arrAt_eq_piecewise 13 (whole V c) (fun t _ => flushed2 V c hz t) i).trans ((if_neg ?_).trans ?_)
  · rintro ⟨t, -, ht⟩
    have := (mem2 t i).mp ht
    omega
  · exact congrFun (A_eq2 V c 13) i

end Regions

variable (m : (ℓ : Loc nD τ sig) → Buf (Elt Ideal) ℓ) (c : Dev nD)

/-- A bias as the row the reshapes make of it. -/
def row (v : FVec Ideal S128 .f32) : FVec Ideal S1x128 .f32 := shapeCast S1x128 v shapeCasts_S128_S1x128

/-- A bias row read at a column. -/
theorem row_at (v : FVec Ideal S128 .f32) (e : Fin 128) : row v (ix2 0 e) = v (ix1 e) := by
  unfold row
  pointwise

/-- The pick of four layers of the arguments. -/
def answer : FVec Ideal S16384x128 .f32 :=
  picked (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg8)) (m ((c : Thread nD τ).loc main_arg10)) (row (m ((c : Thread nD τ).loc main_arg5)))
    (row (m ((c : Thread nD τ).loc main_arg7))) (row (m ((c : Thread nD τ).loc main_arg9)))
    (row (m ((c : Thread nD τ).loc main_arg11)))

/-- The rows that the reshapes make of the biases. -/
theorem W1_v0 : W1 m c (Proc.devRef .tc main_v0) = row (m ((c : Thread nD τ).loc main_arg5)) := by chain_rfl
theorem W1_v1 : W1 m c (Proc.devRef .tc main_v1) = row (m ((c : Thread nD τ).loc main_arg7)) := by chain_rfl
theorem W1_v2 : W1 m c (Proc.devRef .tc main_v2) = row (m ((c : Thread nD τ).loc main_arg9)) := by chain_rfl
theorem W1_v3 : W1 m c (Proc.devRef .tc main_v3) = row (m ((c : Thread nD τ).loc main_arg11)) := by chain_rfl

/-- What neither the SparseCore call nor the first kernel nor the copy writes. -/
abbrev biases : List (Ref sig .tc) := [main_v0, main_v1, main_v2, main_v3]
theorem biases₀ : ∀ a ∈ biases, Proc.devRef (τ := τ) .tc a ≠ Proc.devRef .tc main_v4 := by decide +kernel
theorem biases₁ : ∀ a ∈ biases, a ∉ writes₁ := by decide +kernel
theorem biases_in1 : ∀ a ∈ biases, ∀ w : Fin cfg1.W, Pipeline.arrRef spec1 w = a → (cfg1.win w).isOut = false := by decide +kernel
/-- The bias rows stay as the reshapes left them. -/
theorem W2_biases : ∀ a ∈ biases, W2 m c (Proc.devRef .tc a) = W1 m c (Proc.devRef .tc a) :=
  fun a ha => W2_of m c a (biases₀ a ha)
theorem W4_biases : ∀ a ∈ biases, W4 m c (Proc.devRef .tc a) = W1 m c (Proc.devRef .tc a) :=
  fun a ha => (W4_of m c a (biases₁ a ha)).trans ((W3_of m c a (biases_in1 a ha)).trans (W2_biases m c a ha))

/-- The first kernel reads the arguments and the bias rows. -/
theorem whole2 : whole (V2 m) c = answer m c := by
  unfold whole answer
  rw [← W1_v0, ← W1_v1, ← W1_v2, ← W1_v3]
  simp only [← W2_biases m c main_v0 (by decide), ← W2_biases m c main_v1 (by decide), ← W2_biases m c main_v2 (by decide),
    ← W2_biases m c main_v3 (by decide)]
  simp only [← W2_args m c main_arg0 (by decide), ← W2_args m c main_arg1 (by decide), ← W2_args m c main_arg2 (by decide),
    ← W2_args m c main_arg3 (by decide), ← W2_args m c main_arg4 (by decide), ← W2_args m c main_arg6 (by decide),
    ← W2_args m c main_arg8 (by decide), ← W2_args m c main_arg10 (by decide)]

/-- So does the second. -/
theorem whole4 : whole (V4 m) c = answer m c := by
  unfold whole answer
  rw [← W1_v0, ← W1_v1, ← W1_v2, ← W1_v3]
  simp only [← W4_biases m c main_v0 (by decide), ← W4_biases m c main_v1 (by decide), ← W4_biases m c main_v2 (by decide),
    ← W4_biases m c main_v3 (by decide)]
  simp only [← W4_args m c main_arg0 (by decide), ← W4_args m c main_arg1 (by decide), ← W4_args m c main_arg2 (by decide),
    ← W4_args m c main_arg3 (by decide), ← W4_args m c main_arg4 (by decide), ← W4_args m c main_arg6 (by decide),
    ← W4_args m c main_arg8 (by decide), ← W4_args m c main_arg10 (by decide)]

/-- The second kernel reads the choices the SparseCores made. -/
theorem V4_v4 : V4 m c main_v4 = chosen c :=
  (W4_of m c main_v4 (by decide)).trans ((W3_of_ne m c main_v4 (by decide +kernel)).trans (W2_v4 m c))

/-- The copy. -/
theorem W4_v6 : W4 m c (Proc.devRef .tc main_v6) = W3 m c (Proc.devRef .tc main_v5) := by chain_rfl

/-- The kernel's result is the pick of the four layers of its arguments. -/
theorem W5_answer : W5 m c (Proc.devRef .tc main_v6) = answer m c := by
  refine (W5_arr m c 13).trans (funext fun (i : S16384x128.Idx) => ?_)
  by_cases h : (i 0 : Nat) < 12288
  · refine (arr2_lo (V4 m) c (V4_v4 m c) i h).trans ((congrFun (W4_v6 m c) i).trans ?_)
    refine (congrFun (W3_arr m c 12) i).trans ((arr1 (V2 m) c i h).trans (congrFun (whole2 m c) i))
  · exact (arr2_hi (V4 m) c (V4_v4 m c) i (not_lt.mp h)).trans (congrFun (whole4 m c) i)

end Cert.KernelIdeal.Run

end
-- ==== Proof.RefMix.lean ====
module

public import proofs.«01_k».proof.Proof.RefRun
public import proofs.«01_k».proof.Proof.Word

/-! The reference's mixing rounds, read lane by lane: word `n` of the theorems below is the tensor value of number `n`
at one lane, as a function of the lane's counter word (value 92), where the key is (0, 42) and the counter's first
word zero. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- A lane of a tensor of words, one word per draw. -/
abbrev wd (x : S128x16384x4.Idx → BitVec 32) (i : S128x16384x4.Idx) : BitVec 32 := x i
/-- A scalar word. -/
abbrev sc (x : S_.Idx → BitVec 32) (e : S_.Idx) : BitVec 32 := x e
/-- A scalar word spread over the draws. -/
abbrev bc (x : S_.Idx → BitVec 32) (i : S128x16384x4.Idx) : BitVec 32 :=
  broadcastInDim S128x16384x4 ![] bcast_S_S128x16384x4 x i

theorem bc_of {x : S_.Idx → BitVec 32} {w : BitVec 32} (h : ∀ e, sc x e = w) {i : S128x16384x4.Idx} : bc x i = w := h _

/-- The key's first word is zero. -/
def Key0 (V : Valuation τ sig (Elt F)) : Prop := ∀ e, sc (last V (Proc.devRef .tc (r 72))) e = 0#32
/-- The key's second word is 42. -/
def Key1 (V : Valuation τ sig (Elt F)) : Prop := ∀ e, sc (last V (Proc.devRef .tc (r 74))) e = 42#32
/-- The counter's first word is zero. -/
def High (V : Valuation τ sig (Elt F)) : Prop := ∀ i, wd (last V (Proc.devRef .tc (r 93))) i = 0#32

/-- The third key word is the first two mixed with a constant. -/
theorem key2 (V : Valuation τ sig (Elt F)) (k0 : Key0 V) (k1 : Key1 V) (e : S_.Idx) : sc (last V (Proc.devRef .tc (r 96))) e = 466689008#32 := by
  have h : ∀ U : Valuation τ sig (Elt F), sc (after ((mainOps.drop 82).take 3) U (Proc.devRef .tc (r 96))) e
      = IntOp.xori (IntOp.xori (sc (U (Proc.devRef .tc (r 72))) e) (sc (U (Proc.devRef .tc (r 74))) e)) 466688986#32 := fun U => by chain_rfl
  rw [last_eq V 82 3 96, h, upto_eq V 82 72, upto_eq V 82 74, k0 e, k1 e]
  rfl

theorem w98 (V : Valuation τ sig (Elt F)) (k0 : Key0 V) (k1 : Key1 V) (hi : High V) (i : S128x16384x4.Idx) : wd (last V (Proc.devRef .tc (r 98))) i = Noise.a0 := by
  have h : ∀ U : Valuation τ sig (Elt F), wd (after ((mainOps.drop 85).take 2) U (Proc.devRef .tc (r 98))) i
      = IntOp.addi (wd (U (Proc.devRef .tc (r 93))) i) (bc (U (Proc.devRef .tc (r 72))) i) := fun U => by chain_rfl
  rw [last_eq V 85 2 98, h, upto_eq V 85 93, upto_eq V 85 72, hi i, bc_of k0]
  rfl

theorem w100 (V : Valuation τ sig (Elt F)) (k0 : Key0 V) (k1 : Key1 V) (hi : High V) (i : S128x16384x4.Idx) : wd (last V (Proc.devRef .tc (r 100))) i = Noise.b0 (wd (last V (Proc.devRef .tc (r 92))) i) := by
  have h : ∀ U : Valuation τ sig (Elt F), wd (after ((mainOps.drop 87).take 2) U (Proc.devRef .tc (r 100))) i
      = IntOp.addi (wd (U (Proc.devRef .tc (r 92))) i) (bc (U (Proc.devRef .tc (r 74))) i) := fun U => by chain_rfl
  rw [last_eq V 87 2 100, h, upto_eq V 87 92, upto_eq V 87 74, bc_of k1]
  rfl

theorem w101 (V : Valuation τ sig (Elt F)) (k0 : Key0 V) (k1 : Key1 V) (hi : High V) (i : S128x16384x4.Idx) : wd (last V (Proc.devRef .tc (r 101))) i = Noise.a1 (wd (last V (Proc.devRef .tc (r 92))) i) := by
  have h : ∀ U : Valuation τ sig (Elt F), wd (after ((mainOps.drop 89).take 1) U (Proc.devRef .tc (r 101))) i
      = IntOp.addi (wd (U (Proc.devRef .tc (r 98))) i) (wd (U (Proc.devRef .tc (r 100))) i) := fun U => by chain_rfl
  rw [last_eq V 89 1 101, h, upto_eq V 89 98, upto_eq V 89 100, w98 V k0 k1 hi, w100 V k0 k1 hi]
  rfl

theorem w109 (V : Valuation τ sig (Elt F)) (k0 : Key0 V) (k1 : Key1 V) (hi : High V) (i : S128x16384x4.Idx) : wd (last V (Proc.devRef .tc (r 109))) i = Noise.b1 (wd (last V (Proc.devRef .tc (r 92))) i) := by
  have h : ∀ U : Valuation τ sig (Elt F), wd (after ((mainOps.drop 90).take 8) U (Proc.devRef .tc (r 109))) i
      = IntOp.xori (wd (U (Proc.devRef .tc (r 101))) i) (Noise.rot 13#32 19#32 (wd (U (Proc.devRef .tc (r 100))) i)) := fun U => by chain_rfl
  rw [last_eq V 90 8 109, h, upto_eq V 90 101, upto_eq V 90 100, w101 V k0 k1 hi, w100 V k0 k1 hi]
  rfl

theorem w110 (V : Valuation τ sig (Elt F)) (k0 : Key0 V) (k1 : Key1 V) (hi : High V) (i : S128x16384x4.Idx) : wd (last V (Proc.devRef .tc (r 110))) i = Noise.a2 (wd (last V (Proc.devRef .tc (r 92))) i) := by
  have h : ∀ U : Valuation τ sig (Elt F), wd (after ((mainOps.drop 98).take 1) U (Proc.devRef .tc (r 110))) i
      = IntOp.addi (wd (U (Proc.devRef .tc (r 101))) i) (wd (U (Proc.devRef .tc (r 109))) i) := fun U => by chain_rfl
  rw [last_eq V 98 1 110, h, upto_eq V 98 101, upto_eq V 98 109, w101 V k0 k1 hi, w109 V k0 k1 hi]
  rfl

theorem w118 (V : Valuation τ sig (Elt F)) (k0 : Key0 V) (k1 : Key1 V) (hi : High V) (i : S128x16384x4.Idx) : wd (last V (Proc.devRef .tc (r 118))) i = Noise.b2 (wd (last V (Proc.devRef .tc (r 92))) i) := by
  have h : ∀ U : Valuation τ sig (Elt F), wd (after ((mainOps.drop 99).take 8) U (Proc.devRef .tc (r 118))) i
      = IntOp.xori (wd (U (Proc.devRef .tc (r 110))) i) (Noise.rot 15#32 17#32 (wd (U (Proc.devRef .tc (r 109))) i)) := fun U => by chain_rfl
  rw [last_eq V 99 8 118, h, upto_eq V 99 110, upto_eq V 99 109, w110 V k0 k1 hi, w109 V k0 k1 hi]
  rfl

theorem w119 (V : Valuation τ sig (Elt F)) (k0 : Key0 V) (k1 : Key1 V) (hi : High V) (i : S128x16384x4.Idx) : wd (last V (Proc.devRef .tc (r 119))) i = Noise.a3 (wd (last V (Proc.devRef .tc (r 92))) i) := by
  have h : ∀ U : Valuation τ sig (Elt F), wd (after ((mainOps.drop 107).take 1) U (Proc.devRef .tc (r 119))) i
      = IntOp.addi (wd (U (Proc.devRef .tc (r 110))) i) (wd (U (Proc.devRef .tc (r 118))) i) := fun U => by chain_rfl
  rw [last_eq V 107 1 119, h, upto_eq V 107 110, upto_eq V 107 118, w110 V k0 k1 hi, w118 V k0 k1 hi]
  rfl

theorem w127 (V : Valuation τ sig (Elt F)) (k0 : Key0 V) (k1 : Key1 V) (hi : High V) (i : S128x16384x4.Idx) : wd (last V (Proc.devRef .tc (r 127))) i = Noise.b3 (wd (last V (Proc.devRef .tc (r 92))) i) := by
  have h : ∀ U : Valuation τ sig (Elt F), wd (after ((mainOps.drop 108).take 8) U (Proc.devRef .tc (r 127))) i
      = IntOp.xori (wd (U (Proc.devRef .tc (r 119))) i) (Noise.rot 26#32 6#32 (wd (U (Proc.devRef .tc (r 118))) i)) := fun U => by chain_rfl
  rw [last_eq V 108 8 127, h, upto_eq V 108 119, upto_eq V 108 118, w119 V k0 k1 hi, w118 V k0 k1 hi]
  rfl

theorem w128 (V : Valuation τ sig (Elt F)) (k0 : Key0 V) (k1 : Key1 V) (hi : High V) (i : S128x16384x4.Idx) : wd (last V (Proc.devRef .tc (r 128))) i = Noise.a4 (wd (last V (Proc.devRef .tc (r 92))) i) := by
  have h : ∀ U : Valuation τ sig (Elt F), wd (after ((mainOps.drop 116).take 1) U (Proc.devRef .tc (r 128))) i
      = IntOp.addi (wd (U (Proc.devRef .tc (r 119))) i) (wd (U (Proc.devRef .tc (r 127))) i) := fun U => by chain_rfl
  rw [last_eq V 116 1 128, h, upto_eq V 116 119, upto_eq V 116 127, w119 V k0 k1 hi, w127 V k0 k1 hi]
  rfl

theorem w136 (V : Valuation τ sig (Elt F)) (k0 : Key0 V) (k1 : Key1 V) (hi : High V) (i : S128x16384x4.Idx) : wd (last V (Proc.devRef .tc (r 136))) i = Noise.b4 (wd (last V (Proc.devRef .tc (r 92))) i) := by
  have h : ∀ U : Valuation τ sig (Elt F), wd (after ((mainOps.drop 117).take 8) U (Proc.devRef .tc (r 136))) i
      = IntOp.xori (wd (U (Proc.devRef .tc (r 128))) i) (Noise.rot 6#32 26#32 (wd (U (Proc.devRef .tc (r 127))) i)) := fun U => by chain_rfl
  rw [last_eq V 117 8 136, h, upto_eq V 117 128, upto_eq V 117 127, w128 V k0 k1 hi, w127 V k0 k1 hi]
  rfl

theorem w138 (V : Valuation τ sig (Elt F)) (k0 : Key0 V) (k1 : Key1 V) (hi : High V) (i : S128x16384x4.Idx) : wd (last V (Proc.devRef .tc (r 138))) i = Noise.c4 (wd (last V (Proc.devRef .tc (r 92))) i) := by
  have h : ∀ U : Valuation τ sig (Elt F), wd (after ((mainOps.drop 125).take 2) U (Proc.devRef .tc (r 138))) i
      = IntOp.addi (wd (U (Proc.devRef .tc (r 128))) i) (bc (U (Proc.devRef .tc (r 74))) i) := fun U => by chain_rfl
  rw [last_eq V 125 2 138, h, upto_eq V 125 128, upto_eq V 125 74, w128 V k0 k1 hi, bc_of k1]
  rfl

theorem w143 (V : Valuation τ sig (Elt F)) (k0 : Key0 V) (k1 : Key1 V) (hi : High V) (i : S128x16384x4.Idx) : wd (last V (Proc.devRef .tc (r 143))) i = Noise.d4 (wd (last V (Proc.devRef .tc (r 92))) i) := by
  have h : ∀ U : Valuation τ sig (Elt F), wd (after ((mainOps.drop 127).take 5) U (Proc.devRef .tc (r 143))) i
      = IntOp.addi (IntOp.addi (wd (U (Proc.devRef .tc (r 136))) i) (bc (U (Proc.devRef .tc (r 96))) i)) 1#32 := fun U => by chain_rfl
  rw [last_eq V 127 5 143, h, upto_eq V 127 136, upto_eq V 127 96, w136 V k0 k1 hi, bc_of (key2 V k0 k1)]
  exact BitVec.add_assoc _ _ _

theorem w144 (V : Valuation τ sig (Elt F)) (k0 : Key0 V) (k1 : Key1 V) (hi : High V) (i : S128x16384x4.Idx) : wd (last V (Proc.devRef .tc (r 144))) i = Noise.a5 (wd (last V (Proc.devRef .tc (r 92))) i) := by
  have h : ∀ U : Valuation τ sig (Elt F), wd (after ((mainOps.drop 132).take 1) U (Proc.devRef .tc (r 144))) i
      = IntOp.addi (wd (U (Proc.devRef .tc (r 138))) i) (wd (U (Proc.devRef .tc (r 143))) i) := fun U => by chain_rfl
  rw [last_eq V 132 1 144, h, upto_eq V 132 138, upto_eq V 132 143, w138 V k0 k1 hi, w143 V k0 k1 hi]
  rfl

theorem w152 (V : Valuation τ sig (Elt F)) (k0 : Key0 V) (k1 : Key1 V) (hi : High V) (i : S128x16384x4.Idx) : wd (last V (Proc.devRef .tc (r 152))) i = Noise.b5 (wd (last V (Proc.devRef .tc (r 92))) i) := by
  have h : ∀ U : Valuation τ sig (Elt F), wd (after ((mainOps.drop 133).take 8) U (Proc.devRef .tc (r 152))) i
      = IntOp.xori (wd (U (Proc.devRef .tc (r 144))) i) (Noise.rot 17#32 15#32 (wd (U (Proc.devRef .tc (r 143))) i)) := fun U => by chain_rfl
  rw [last_eq V 133 8 152, h, upto_eq V 133 144, upto_eq V 133 143, w144 V k0 k1 hi, w143 V k0 k1 hi]
  rfl

theorem w153 (V : Valuation τ sig (Elt F)) (k0 : Key0 V) (k1 : Key1 V) (hi : High V) (i : S128x16384x4.Idx) : wd (last V (Proc.devRef .tc (r 153))) i = Noise.a6 (wd (last V (Proc.devRef .tc (r 92))) i) := by
  have h : ∀ U : Valuation τ sig (Elt F), wd (after ((mainOps.drop 141).take 1) U (Proc.devRef .tc (r 153))) i
      = IntOp.addi (wd (U (Proc.devRef .tc (r 144))) i) (wd (U (Proc.devRef .tc (r 152))) i) := fun U => by chain_rfl
  rw [last_eq V 141 1 153, h, upto_eq V 141 144, upto_eq V 141 152, w144 V k0 k1 hi, w152 V k0 k1 hi]
  rfl

theorem w161 (V : Valuation τ sig (Elt F)) (k0 : Key0 V) (k1 : Key1 V) (hi : High V) (i : S128x16384x4.Idx) : wd (last V (Proc.devRef .tc (r 161))) i = Noise.b6 (wd (last V (Proc.devRef .tc (r 92))) i) := by
  have h : ∀ U : Valuation τ sig (Elt F), wd (after ((mainOps.drop 142).take 8) U (Proc.devRef .tc (r 161))) i
      = IntOp.xori (wd (U (Proc.devRef .tc (r 153))) i) (Noise.rot 29#32 3#32 (wd (U (Proc.devRef .tc (r 152))) i)) := fun U => by chain_rfl
  rw [last_eq V 142 8 161, h, upto_eq V 142 153, upto_eq V 142 152, w153 V k0 k1 hi, w152 V k0 k1 hi]
  rfl

theorem w162 (V : Valuation τ sig (Elt F)) (k0 : Key0 V) (k1 : Key1 V) (hi : High V) (i : S128x16384x4.Idx) : wd (last V (Proc.devRef .tc (r 162))) i = Noise.a7 (wd (last V (Proc.devRef .tc (r 92))) i) := by
  have h : ∀ U : Valuation τ sig (Elt F), wd (after ((mainOps.drop 150).take 1) U (Proc.devRef .tc (r 162))) i
      = IntOp.addi (wd (U (Proc.devRef .tc (r 153))) i) (wd (U (Proc.devRef .tc (r 161))) i) := fun U => by chain_rfl
  rw [last_eq V 150 1 162, h, upto_eq V 150 153, upto_eq V 150 161, w153 V k0 k1 hi, w161 V k0 k1 hi]
  rfl

theorem w170 (V : Valuation τ sig (Elt F)) (k0 : Key0 V) (k1 : Key1 V) (hi : High V) (i : S128x16384x4.Idx) : wd (last V (Proc.devRef .tc (r 170))) i = Noise.b7 (wd (last V (Proc.devRef .tc (r 92))) i) := by
  have h : ∀ U : Valuation τ sig (Elt F), wd (after ((mainOps.drop 151).take 8) U (Proc.devRef .tc (r 170))) i
      = IntOp.xori (wd (U (Proc.devRef .tc (r 162))) i) (Noise.rot 16#32 16#32 (wd (U (Proc.devRef .tc (r 161))) i)) := fun U => by chain_rfl
  rw [last_eq V 151 8 170, h, upto_eq V 151 162, upto_eq V 151 161, w162 V k0 k1 hi, w161 V k0 k1 hi]
  rfl

theorem w171 (V : Valuation τ sig (Elt F)) (k0 : Key0 V) (k1 : Key1 V) (hi : High V) (i : S128x16384x4.Idx) : wd (last V (Proc.devRef .tc (r 171))) i = Noise.a8 (wd (last V (Proc.devRef .tc (r 92))) i) := by
  have h : ∀ U : Valuation τ sig (Elt F), wd (after ((mainOps.drop 159).take 1) U (Proc.devRef .tc (r 171))) i
      = IntOp.addi (wd (U (Proc.devRef .tc (r 162))) i) (wd (U (Proc.devRef .tc (r 170))) i) := fun U => by chain_rfl
  rw [last_eq V 159 1 171, h, upto_eq V 159 162, upto_eq V 159 170, w162 V k0 k1 hi, w170 V k0 k1 hi]
  rfl

theorem w179 (V : Valuation τ sig (Elt F)) (k0 : Key0 V) (k1 : Key1 V) (hi : High V) (i : S128x16384x4.Idx) : wd (last V (Proc.devRef .tc (r 179))) i = Noise.b8 (wd (last V (Proc.devRef .tc (r 92))) i) := by
  have h : ∀ U : Valuation τ sig (Elt F), wd (after ((mainOps.drop 160).take 8) U (Proc.devRef .tc (r 179))) i
      = IntOp.xori (wd (U (Proc.devRef .tc (r 171))) i) (Noise.rot 24#32 8#32 (wd (U (Proc.devRef .tc (r 170))) i)) := fun U => by chain_rfl
  rw [last_eq V 160 8 179, h, upto_eq V 160 171, upto_eq V 160 170, w171 V k0 k1 hi, w170 V k0 k1 hi]
  rfl

theorem w181 (V : Valuation τ sig (Elt F)) (k0 : Key0 V) (k1 : Key1 V) (hi : High V) (i : S128x16384x4.Idx) : wd (last V (Proc.devRef .tc (r 181))) i = Noise.c8 (wd (last V (Proc.devRef .tc (r 92))) i) := by
  have h : ∀ U : Valuation τ sig (Elt F), wd (after ((mainOps.drop 168).take 2) U (Proc.devRef .tc (r 181))) i
      = IntOp.addi (wd (U (Proc.devRef .tc (r 171))) i) (bc (U (Proc.devRef .tc (r 96))) i) := fun U => by chain_rfl
  rw [last_eq V 168 2 181, h, upto_eq V 168 171, upto_eq V 168 96, w171 V k0 k1 hi, bc_of (key2 V k0 k1)]
  rfl

theorem w186 (V : Valuation τ sig (Elt F)) (k0 : Key0 V) (k1 : Key1 V) (hi : High V) (i : S128x16384x4.Idx) : wd (last V (Proc.devRef .tc (r 186))) i = Noise.d8 (wd (last V (Proc.devRef .tc (r 92))) i) := by
  have h : ∀ U : Valuation τ sig (Elt F), wd (after ((mainOps.drop 170).take 5) U (Proc.devRef .tc (r 186))) i
      = IntOp.addi (IntOp.addi (wd (U (Proc.devRef .tc (r 179))) i) (bc (U (Proc.devRef .tc (r 72))) i)) 2#32 := fun U => by chain_rfl
  rw [last_eq V 170 5 186, h, upto_eq V 170 179, upto_eq V 170 72, w179 V k0 k1 hi, bc_of k0]
  exact BitVec.add_assoc _ _ _

theorem w187 (V : Valuation τ sig (Elt F)) (k0 : Key0 V) (k1 : Key1 V) (hi : High V) (i : S128x16384x4.Idx) : wd (last V (Proc.devRef .tc (r 187))) i = Noise.a9 (wd (last V (Proc.devRef .tc (r 92))) i) := by
  have h : ∀ U : Valuation τ sig (Elt F), wd (after ((mainOps.drop 175).take 1) U (Proc.devRef .tc (r 187))) i
      = IntOp.addi (wd (U (Proc.devRef .tc (r 181))) i) (wd (U (Proc.devRef .tc (r 186))) i) := fun U => by chain_rfl
  rw [last_eq V 175 1 187, h, upto_eq V 175 181, upto_eq V 175 186, w181 V k0 k1 hi, w186 V k0 k1 hi]
  rfl

theorem w195 (V : Valuation τ sig (Elt F)) (k0 : Key0 V) (k1 : Key1 V) (hi : High V) (i : S128x16384x4.Idx) : wd (last V (Proc.devRef .tc (r 195))) i = Noise.b9 (wd (last V (Proc.devRef .tc (r 92))) i) := by
  have h : ∀ U : Valuation τ sig (Elt F), wd (after ((mainOps.drop 176).take 8) U (Proc.devRef .tc (r 195))) i
      = IntOp.xori (wd (U (Proc.devRef .tc (r 187))) i) (Noise.rot 13#32 19#32 (wd (U (Proc.devRef .tc (r 186))) i)) := fun U => by chain_rfl
  rw [last_eq V 176 8 195, h, upto_eq V 176 187, upto_eq V 176 186, w187 V k0 k1 hi, w186 V k0 k1 hi]
  rfl

theorem w196 (V : Valuation τ sig (Elt F)) (k0 : Key0 V) (k1 : Key1 V) (hi : High V) (i : S128x16384x4.Idx) : wd (last V (Proc.devRef .tc (r 196))) i = Noise.a10 (wd (last V (Proc.devRef .tc (r 92))) i) := by
  have h : ∀ U : Valuation τ sig (Elt F), wd (after ((mainOps.drop 184).take 1) U (Proc.devRef .tc (r 196))) i
      = IntOp.addi (wd (U (Proc.devRef .tc (r 187))) i) (wd (U (Proc.devRef .tc (r 195))) i) := fun U => by chain_rfl
  rw [last_eq V 184 1 196, h, upto_eq V 184 187, upto_eq V 184 195, w187 V k0 k1 hi, w195 V k0 k1 hi]
  rfl

theorem w204 (V : Valuation τ sig (Elt F)) (k0 : Key0 V) (k1 : Key1 V) (hi : High V) (i : S128x16384x4.Idx) : wd (last V (Proc.devRef .tc (r 204))) i = Noise.b10 (wd (last V (Proc.devRef .tc (r 92))) i) := by
  have h : ∀ U : Valuation τ sig (Elt F), wd (after ((mainOps.drop 185).take 8) U (Proc.devRef .tc (r 204))) i
      = IntOp.xori (wd (U (Proc.devRef .tc (r 196))) i) (Noise.rot 15#32 17#32 (wd (U (Proc.devRef .tc (r 195))) i)) := fun U => by chain_rfl
  rw [last_eq V 185 8 204, h, upto_eq V 185 196, upto_eq V 185 195, w196 V k0 k1 hi, w195 V k0 k1 hi]
  rfl

theorem w205 (V : Valuation τ sig (Elt F)) (k0 : Key0 V) (k1 : Key1 V) (hi : High V) (i : S128x16384x4.Idx) : wd (last V (Proc.devRef .tc (r 205))) i = Noise.a11 (wd (last V (Proc.devRef .tc (r 92))) i) := by
  have h : ∀ U : Valuation τ sig (Elt F), wd (after ((mainOps.drop 193).take 1) U (Proc.devRef .tc (r 205))) i
      = IntOp.addi (wd (U (Proc.devRef .tc (r 196))) i) (wd (U (Proc.devRef .tc (r 204))) i) := fun U => by chain_rfl
  rw [last_eq V 193 1 205, h, upto_eq V 193 196, upto_eq V 193 204, w196 V k0 k1 hi, w204 V k0 k1 hi]
  rfl

theorem w213 (V : Valuation τ sig (Elt F)) (k0 : Key0 V) (k1 : Key1 V) (hi : High V) (i : S128x16384x4.Idx) : wd (last V (Proc.devRef .tc (r 213))) i = Noise.b11 (wd (last V (Proc.devRef .tc (r 92))) i) := by
  have h : ∀ U : Valuation τ sig (Elt F), wd (after ((mainOps.drop 194).take 8) U (Proc.devRef .tc (r 213))) i
      = IntOp.xori (wd (U (Proc.devRef .tc (r 205))) i) (Noise.rot 26#32 6#32 (wd (U (Proc.devRef .tc (r 204))) i)) := fun U => by chain_rfl
  rw [last_eq V 194 8 213, h, upto_eq V 194 205, upto_eq V 194 204, w205 V k0 k1 hi, w204 V k0 k1 hi]
  rfl

theorem w214 (V : Valuation τ sig (Elt F)) (k0 : Key0 V) (k1 : Key1 V) (hi : High V) (i : S128x16384x4.Idx) : wd (last V (Proc.devRef .tc (r 214))) i = Noise.a12 (wd (last V (Proc.devRef .tc (r 92))) i) := by
  have h : ∀ U : Valuation τ sig (Elt F), wd (after ((mainOps.drop 202).take 1) U (Proc.devRef .tc (r 214))) i
      = IntOp.addi (wd (U (Proc.devRef .tc (r 205))) i) (wd (U (Proc.devRef .tc (r 213))) i) := fun U => by chain_rfl
  rw [last_eq V 202 1 214, h, upto_eq V 202 205, upto_eq V 202 213, w205 V k0 k1 hi, w213 V k0 k1 hi]
  rfl

theorem w222 (V : Valuation τ sig (Elt F)) (k0 : Key0 V) (k1 : Key1 V) (hi : High V) (i : S128x16384x4.Idx) : wd (last V (Proc.devRef .tc (r 222))) i = Noise.b12 (wd (last V (Proc.devRef .tc (r 92))) i) := by
  have h : ∀ U : Valuation τ sig (Elt F), wd (after ((mainOps.drop 203).take 8) U (Proc.devRef .tc (r 222))) i
      = IntOp.xori (wd (U (Proc.devRef .tc (r 214))) i) (Noise.rot 6#32 26#32 (wd (U (Proc.devRef .tc (r 213))) i)) := fun U => by chain_rfl
  rw [last_eq V 203 8 222, h, upto_eq V 203 214, upto_eq V 203 213, w214 V k0 k1 hi, w213 V k0 k1 hi]
  rfl

theorem w224 (V : Valuation τ sig (Elt F)) (k0 : Key0 V) (k1 : Key1 V) (hi : High V) (i : S128x16384x4.Idx) : wd (last V (Proc.devRef .tc (r 224))) i = Noise.c12 (wd (last V (Proc.devRef .tc (r 92))) i) := by
  have h : ∀ U : Valuation τ sig (Elt F), wd (after ((mainOps.drop 211).take 2) U (Proc.devRef .tc (r 224))) i
      = IntOp.addi (wd (U (Proc.devRef .tc (r 214))) i) (bc (U (Proc.devRef .tc (r 72))) i) := fun U => by chain_rfl
  rw [last_eq V 211 2 224, h, upto_eq V 211 214, upto_eq V 211 72, w214 V k0 k1 hi, bc_of k0]
  rfl

theorem w229 (V : Valuation τ sig (Elt F)) (k0 : Key0 V) (k1 : Key1 V) (hi : High V) (i : S128x16384x4.Idx) : wd (last V (Proc.devRef .tc (r 229))) i = Noise.d12 (wd (last V (Proc.devRef .tc (r 92))) i) := by
  have h : ∀ U : Valuation τ sig (Elt F), wd (after ((mainOps.drop 213).take 5) U (Proc.devRef .tc (r 229))) i
      = IntOp.addi (IntOp.addi (wd (U (Proc.devRef .tc (r 222))) i) (bc (U (Proc.devRef .tc (r 74))) i)) 3#32 := fun U => by chain_rfl
  rw [last_eq V 213 5 229, h, upto_eq V 213 222, upto_eq V 213 74, w222 V k0 k1 hi, bc_of k1]
  exact BitVec.add_assoc _ _ _

theorem w230 (V : Valuation τ sig (Elt F)) (k0 : Key0 V) (k1 : Key1 V) (hi : High V) (i : S128x16384x4.Idx) : wd (last V (Proc.devRef .tc (r 230))) i = Noise.a13 (wd (last V (Proc.devRef .tc (r 92))) i) := by
  have h : ∀ U : Valuation τ sig (Elt F), wd (after ((mainOps.drop 218).take 1) U (Proc.devRef .tc (r 230))) i
      = IntOp.addi (wd (U (Proc.devRef .tc (r 224))) i) (wd (U (Proc.devRef .tc (r 229))) i) := fun U => by chain_rfl
  rw [last_eq V 218 1 230, h, upto_eq V 218 224, upto_eq V 218 229, w224 V k0 k1 hi, w229 V k0 k1 hi]
  rfl

theorem w238 (V : Valuation τ sig (Elt F)) (k0 : Key0 V) (k1 : Key1 V) (hi : High V) (i : S128x16384x4.Idx) : wd (last V (Proc.devRef .tc (r 238))) i = Noise.b13 (wd (last V (Proc.devRef .tc (r 92))) i) := by
  have h : ∀ U : Valuation τ sig (Elt F), wd (after ((mainOps.drop 219).take 8) U (Proc.devRef .tc (r 238))) i
      = IntOp.xori (wd (U (Proc.devRef .tc (r 230))) i) (Noise.rot 17#32 15#32 (wd (U (Proc.devRef .tc (r 229))) i)) := fun U => by chain_rfl
  rw [last_eq V 219 8 238, h, upto_eq V 219 230, upto_eq V 219 229, w230 V k0 k1 hi, w229 V k0 k1 hi]
  rfl

theorem w239 (V : Valuation τ sig (Elt F)) (k0 : Key0 V) (k1 : Key1 V) (hi : High V) (i : S128x16384x4.Idx) : wd (last V (Proc.devRef .tc (r 239))) i = Noise.a14 (wd (last V (Proc.devRef .tc (r 92))) i) := by
  have h : ∀ U : Valuation τ sig (Elt F), wd (after ((mainOps.drop 227).take 1) U (Proc.devRef .tc (r 239))) i
      = IntOp.addi (wd (U (Proc.devRef .tc (r 230))) i) (wd (U (Proc.devRef .tc (r 238))) i) := fun U => by chain_rfl
  rw [last_eq V 227 1 239, h, upto_eq V 227 230, upto_eq V 227 238, w230 V k0 k1 hi, w238 V k0 k1 hi]
  rfl

theorem w247 (V : Valuation τ sig (Elt F)) (k0 : Key0 V) (k1 : Key1 V) (hi : High V) (i : S128x16384x4.Idx) : wd (last V (Proc.devRef .tc (r 247))) i = Noise.b14 (wd (last V (Proc.devRef .tc (r 92))) i) := by
  have h : ∀ U : Valuation τ sig (Elt F), wd (after ((mainOps.drop 228).take 8) U (Proc.devRef .tc (r 247))) i
      = IntOp.xori (wd (U (Proc.devRef .tc (r 239))) i) (Noise.rot 29#32 3#32 (wd (U (Proc.devRef .tc (r 238))) i)) := fun U => by chain_rfl
  rw [last_eq V 228 8 247, h, upto_eq V 228 239, upto_eq V 228 238, w239 V k0 k1 hi, w238 V k0 k1 hi]
  rfl

theorem w248 (V : Valuation τ sig (Elt F)) (k0 : Key0 V) (k1 : Key1 V) (hi : High V) (i : S128x16384x4.Idx) : wd (last V (Proc.devRef .tc (r 248))) i = Noise.a15 (wd (last V (Proc.devRef .tc (r 92))) i) := by
  have h : ∀ U : Valuation τ sig (Elt F), wd (after ((mainOps.drop 236).take 1) U (Proc.devRef .tc (r 248))) i
      = IntOp.addi (wd (U (Proc.devRef .tc (r 239))) i) (wd (U (Proc.devRef .tc (r 247))) i) := fun U => by chain_rfl
  rw [last_eq V 236 1 248, h, upto_eq V 236 239, upto_eq V 236 247, w239 V k0 k1 hi, w247 V k0 k1 hi]
  rfl

theorem w256 (V : Valuation τ sig (Elt F)) (k0 : Key0 V) (k1 : Key1 V) (hi : High V) (i : S128x16384x4.Idx) : wd (last V (Proc.devRef .tc (r 256))) i = Noise.b15 (wd (last V (Proc.devRef .tc (r 92))) i) := by
  have h : ∀ U : Valuation τ sig (Elt F), wd (after ((mainOps.drop 237).take 8) U (Proc.devRef .tc (r 256))) i
      = IntOp.xori (wd (U (Proc.devRef .tc (r 248))) i) (Noise.rot 16#32 16#32 (wd (U (Proc.devRef .tc (r 247))) i)) := fun U => by chain_rfl
  rw [last_eq V 237 8 256, h, upto_eq V 237 248, upto_eq V 237 247, w248 V k0 k1 hi, w247 V k0 k1 hi]
  rfl

theorem w257 (V : Valuation τ sig (Elt F)) (k0 : Key0 V) (k1 : Key1 V) (hi : High V) (i : S128x16384x4.Idx) : wd (last V (Proc.devRef .tc (r 257))) i = Noise.a16 (wd (last V (Proc.devRef .tc (r 92))) i) := by
  have h : ∀ U : Valuation τ sig (Elt F), wd (after ((mainOps.drop 245).take 1) U (Proc.devRef .tc (r 257))) i
      = IntOp.addi (wd (U (Proc.devRef .tc (r 248))) i) (wd (U (Proc.devRef .tc (r 256))) i) := fun U => by chain_rfl
  rw [last_eq V 245 1 257, h, upto_eq V 245 248, upto_eq V 245 256, w248 V k0 k1 hi, w256 V k0 k1 hi]
  rfl

theorem w265 (V : Valuation τ sig (Elt F)) (k0 : Key0 V) (k1 : Key1 V) (hi : High V) (i : S128x16384x4.Idx) : wd (last V (Proc.devRef .tc (r 265))) i = Noise.b16 (wd (last V (Proc.devRef .tc (r 92))) i) := by
  have h : ∀ U : Valuation τ sig (Elt F), wd (after ((mainOps.drop 246).take 8) U (Proc.devRef .tc (r 265))) i
      = IntOp.xori (wd (U (Proc.devRef .tc (r 257))) i) (Noise.rot 24#32 8#32 (wd (U (Proc.devRef .tc (r 256))) i)) := fun U => by chain_rfl
  rw [last_eq V 246 8 265, h, upto_eq V 246 257, upto_eq V 246 256, w257 V k0 k1 hi, w256 V k0 k1 hi]
  rfl

theorem w267 (V : Valuation τ sig (Elt F)) (k0 : Key0 V) (k1 : Key1 V) (hi : High V) (i : S128x16384x4.Idx) : wd (last V (Proc.devRef .tc (r 267))) i = Noise.c16 (wd (last V (Proc.devRef .tc (r 92))) i) := by
  have h : ∀ U : Valuation τ sig (Elt F), wd (after ((mainOps.drop 254).take 2) U (Proc.devRef .tc (r 267))) i
      = IntOp.addi (wd (U (Proc.devRef .tc (r 257))) i) (bc (U (Proc.devRef .tc (r 74))) i) := fun U => by chain_rfl
  rw [last_eq V 254 2 267, h, upto_eq V 254 257, upto_eq V 254 74, w257 V k0 k1 hi, bc_of k1]
  rfl

theorem w272 (V : Valuation τ sig (Elt F)) (k0 : Key0 V) (k1 : Key1 V) (hi : High V) (i : S128x16384x4.Idx) : wd (last V (Proc.devRef .tc (r 272))) i = Noise.d16 (wd (last V (Proc.devRef .tc (r 92))) i) := by
  have h : ∀ U : Valuation τ sig (Elt F), wd (after ((mainOps.drop 256).take 5) U (Proc.devRef .tc (r 272))) i
      = IntOp.addi (IntOp.addi (wd (U (Proc.devRef .tc (r 265))) i) (bc (U (Proc.devRef .tc (r 96))) i)) 4#32 := fun U => by chain_rfl
  rw [last_eq V 256 5 272, h, upto_eq V 256 265, upto_eq V 256 96, w265 V k0 k1 hi, bc_of (key2 V k0 k1)]
  exact BitVec.add_assoc _ _ _

theorem w273 (V : Valuation τ sig (Elt F)) (k0 : Key0 V) (k1 : Key1 V) (hi : High V) (i : S128x16384x4.Idx) : wd (last V (Proc.devRef .tc (r 273))) i = Noise.a17 (wd (last V (Proc.devRef .tc (r 92))) i) := by
  have h : ∀ U : Valuation τ sig (Elt F), wd (after ((mainOps.drop 261).take 1) U (Proc.devRef .tc (r 273))) i
      = IntOp.addi (wd (U (Proc.devRef .tc (r 267))) i) (wd (U (Proc.devRef .tc (r 272))) i) := fun U => by chain_rfl
  rw [last_eq V 261 1 273, h, upto_eq V 261 267, upto_eq V 261 272, w267 V k0 k1 hi, w272 V k0 k1 hi]
  rfl

theorem w281 (V : Valuation τ sig (Elt F)) (k0 : Key0 V) (k1 : Key1 V) (hi : High V) (i : S128x16384x4.Idx) : wd (last V (Proc.devRef .tc (r 281))) i = Noise.b17 (wd (last V (Proc.devRef .tc (r 92))) i) := by
  have h : ∀ U : Valuation τ sig (Elt F), wd (after ((mainOps.drop 262).take 8) U (Proc.devRef .tc (r 281))) i
      = IntOp.xori (wd (U (Proc.devRef .tc (r 273))) i) (Noise.rot 13#32 19#32 (wd (U (Proc.devRef .tc (r 272))) i)) := fun U => by chain_rfl
  rw [last_eq V 262 8 281, h, upto_eq V 262 273, upto_eq V 262 272, w273 V k0 k1 hi, w272 V k0 k1 hi]
  rfl

theorem w282 (V : Valuation τ sig (Elt F)) (k0 : Key0 V) (k1 : Key1 V) (hi : High V) (i : S128x16384x4.Idx) : wd (last V (Proc.devRef .tc (r 282))) i = Noise.a18 (wd (last V (Proc.devRef .tc (r 92))) i) := by
  have h : ∀ U : Valuation τ sig (Elt F), wd (after ((mainOps.drop 270).take 1) U (Proc.devRef .tc (r 282))) i
      = IntOp.addi (wd (U (Proc.devRef .tc (r 273))) i) (wd (U (Proc.devRef .tc (r 281))) i) := fun U => by chain_rfl
  rw [last_eq V 270 1 282, h, upto_eq V 270 273, upto_eq V 270 281, w273 V k0 k1 hi, w281 V k0 k1 hi]
  rfl

theorem w290 (V : Valuation τ sig (Elt F)) (k0 : Key0 V) (k1 : Key1 V) (hi : High V) (i : S128x16384x4.Idx) : wd (last V (Proc.devRef .tc (r 290))) i = Noise.b18 (wd (last V (Proc.devRef .tc (r 92))) i) := by
  have h : ∀ U : Valuation τ sig (Elt F), wd (after ((mainOps.drop 271).take 8) U (Proc.devRef .tc (r 290))) i
      = IntOp.xori (wd (U (Proc.devRef .tc (r 282))) i) (Noise.rot 15#32 17#32 (wd (U (Proc.devRef .tc (r 281))) i)) := fun U => by chain_rfl
  rw [last_eq V 271 8 290, h, upto_eq V 271 282, upto_eq V 271 281, w282 V k0 k1 hi, w281 V k0 k1 hi]
  rfl

theorem w291 (V : Valuation τ sig (Elt F)) (k0 : Key0 V) (k1 : Key1 V) (hi : High V) (i : S128x16384x4.Idx) : wd (last V (Proc.devRef .tc (r 291))) i = Noise.a19 (wd (last V (Proc.devRef .tc (r 92))) i) := by
  have h : ∀ U : Valuation τ sig (Elt F), wd (after ((mainOps.drop 279).take 1) U (Proc.devRef .tc (r 291))) i
      = IntOp.addi (wd (U (Proc.devRef .tc (r 282))) i) (wd (U (Proc.devRef .tc (r 290))) i) := fun U => by chain_rfl
  rw [last_eq V 279 1 291, h, upto_eq V 279 282, upto_eq V 279 290, w282 V k0 k1 hi, w290 V k0 k1 hi]
  rfl

theorem w299 (V : Valuation τ sig (Elt F)) (k0 : Key0 V) (k1 : Key1 V) (hi : High V) (i : S128x16384x4.Idx) : wd (last V (Proc.devRef .tc (r 299))) i = Noise.b19 (wd (last V (Proc.devRef .tc (r 92))) i) := by
  have h : ∀ U : Valuation τ sig (Elt F), wd (after ((mainOps.drop 280).take 8) U (Proc.devRef .tc (r 299))) i
      = IntOp.xori (wd (U (Proc.devRef .tc (r 291))) i) (Noise.rot 26#32 6#32 (wd (U (Proc.devRef .tc (r 290))) i)) := fun U => by chain_rfl
  rw [last_eq V 280 8 299, h, upto_eq V 280 291, upto_eq V 280 290, w291 V k0 k1 hi, w290 V k0 k1 hi]
  rfl

theorem w300 (V : Valuation τ sig (Elt F)) (k0 : Key0 V) (k1 : Key1 V) (hi : High V) (i : S128x16384x4.Idx) : wd (last V (Proc.devRef .tc (r 300))) i = Noise.a20 (wd (last V (Proc.devRef .tc (r 92))) i) := by
  have h : ∀ U : Valuation τ sig (Elt F), wd (after ((mainOps.drop 288).take 1) U (Proc.devRef .tc (r 300))) i
      = IntOp.addi (wd (U (Proc.devRef .tc (r 291))) i) (wd (U (Proc.devRef .tc (r 299))) i) := fun U => by chain_rfl
  rw [last_eq V 288 1 300, h, upto_eq V 288 291, upto_eq V 288 299, w291 V k0 k1 hi, w299 V k0 k1 hi]
  rfl

theorem w308 (V : Valuation τ sig (Elt F)) (k0 : Key0 V) (k1 : Key1 V) (hi : High V) (i : S128x16384x4.Idx) : wd (last V (Proc.devRef .tc (r 308))) i = Noise.b20 (wd (last V (Proc.devRef .tc (r 92))) i) := by
  have h : ∀ U : Valuation τ sig (Elt F), wd (after ((mainOps.drop 289).take 8) U (Proc.devRef .tc (r 308))) i
      = IntOp.xori (wd (U (Proc.devRef .tc (r 300))) i) (Noise.rot 6#32 26#32 (wd (U (Proc.devRef .tc (r 299))) i)) := fun U => by chain_rfl
  rw [last_eq V 289 8 308, h, upto_eq V 289 300, upto_eq V 289 299, w300 V k0 k1 hi, w299 V k0 k1 hi]
  rfl

theorem w310 (V : Valuation τ sig (Elt F)) (k0 : Key0 V) (k1 : Key1 V) (hi : High V) (i : S128x16384x4.Idx) : wd (last V (Proc.devRef .tc (r 310))) i = Noise.c20 (wd (last V (Proc.devRef .tc (r 92))) i) := by
  have h : ∀ U : Valuation τ sig (Elt F), wd (after ((mainOps.drop 297).take 2) U (Proc.devRef .tc (r 310))) i
      = IntOp.addi (wd (U (Proc.devRef .tc (r 300))) i) (bc (U (Proc.devRef .tc (r 96))) i) := fun U => by chain_rfl
  rw [last_eq V 297 2 310, h, upto_eq V 297 300, upto_eq V 297 96, w300 V k0 k1 hi, bc_of (key2 V k0 k1)]
  rfl

theorem w315 (V : Valuation τ sig (Elt F)) (k0 : Key0 V) (k1 : Key1 V) (hi : High V) (i : S128x16384x4.Idx) : wd (last V (Proc.devRef .tc (r 315))) i = Noise.d20 (wd (last V (Proc.devRef .tc (r 92))) i) := by
  have h : ∀ U : Valuation τ sig (Elt F), wd (after ((mainOps.drop 299).take 5) U (Proc.devRef .tc (r 315))) i
      = IntOp.addi (IntOp.addi (wd (U (Proc.devRef .tc (r 308))) i) (bc (U (Proc.devRef .tc (r 72))) i)) 5#32 := fun U => by chain_rfl
  rw [last_eq V 299 5 315, h, upto_eq V 299 308, upto_eq V 299 72, w308 V k0 k1 hi, bc_of k0]
  exact BitVec.add_assoc _ _ _

/-- The mixed word: the two last words exclusive-ored. -/
theorem w316 (V : Valuation τ sig (Elt F)) (k0 : Key0 V) (k1 : Key1 V) (hi : High V) (i : S128x16384x4.Idx) : wd (last V (Proc.devRef .tc (r 316))) i = Noise.bits (wd (last V (Proc.devRef .tc (r 92))) i) := by
  have h : ∀ U : Valuation τ sig (Elt F), wd (after ((mainOps.drop 304).take 1) U (Proc.devRef .tc (r 316))) i
      = IntOp.xori (wd (U (Proc.devRef .tc (r 310))) i) (wd (U (Proc.devRef .tc (r 315))) i) := fun U => by chain_rfl
  rw [last_eq V 304 1 316, h, upto_eq V 304 310, upto_eq V 304 315, w310 V k0 k1 hi, w315 V k0 k1 hi]
  rfl

end Cert.ReferenceIdeal.Line

end
-- ==== Proof.RefRead.lean ====
module

public import proofs.«01_k».proof.Proof.RefMix

/-! The reference read stretch by stretch: each named function is what one stretch of its line computes. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- One dense layer: the product with the weights, the bias added to every row, clipped at zero. -/
def layer (x : FVec F S16384x128 .f32) (w : FVec F S128x128 .f32) (b : FVec F S128 .f32) : FVec F S16384x128 .f32 :=
  maximumf
    (addf (Host.dotGeneral dot_S16384x128_S128x128_S16384x128_1_0_0_1_n_n none x w)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The four layers side by side on a last axis. -/
def stacked (y0 y1 y2 y3 : FVec F S16384x128 .f32) : FVec F S16384x128x4 .f32 :=
  concatenate S16384x128x4 2
    [⟨S16384x128x1, broadcastInDim S16384x128x1 ![0, 1] bcast_S16384x128_S16384x128x1_0_1 y0⟩,
     ⟨S16384x128x1, broadcastInDim S16384x128x1 ![0, 1] bcast_S16384x128_S16384x128x1_0_1 y1⟩,
     ⟨S16384x128x1, broadcastInDim S16384x128x1 ![0, 1] bcast_S16384x128_S16384x128x1_0_1 y2⟩,
     ⟨S16384x128x1, broadcastInDim S16384x128x1 ![0, 1] bcast_S16384x128_S16384x128x1_0_1 y3⟩]
    concatenates_S16384x128x1_S16384x128x1_S16384x128x1_S16384x128x1_S16384x128x4_d2

/-- The weights one, each multiplied by one. -/
def ones : FVec F S16384x4 .f32 :=
  mulf (broadcastInDim S16384x4 ![] bcast_S_S16384x4 (constant S_ .f32 0x3F800000#32))
    (broadcastInDim S16384x4 ![] bcast_S_S16384x4 (constant S_ .f32 0x3F800000#32))

/-- The logarithms of the weights divided by their sum. -/
def logits : FVec F S16384x4 .f32 :=
  Host.log (Host.divf ones
    (broadcastInDim S16384x4 ![0, 1] bcast_S16384x1_S16384x4_0_1
      (broadcastInDim S16384x1 ![0] bcast_S16384_S16384x1_0
        (Host.reduceAdd ones (constant S_ .f32 0x00000000#32) reducesTo_S16384x4_S16384_d1 h_S_))))

/-- The key: its two words joined. -/
def key : IVec S2 32 :=
  concatenate S2 0
    [⟨S1, broadcastInDim S1 ![] bcast_S_S1 (Host.shrui (constantI S_ 32 42#32) (constantI S_ 32 32#32))⟩,
     ⟨S1, broadcastInDim S1 ![] bcast_S_S1 (andi (constantI S_ 32 42#32) (constantI S_ 32 4294967295#32))⟩]
    concatenates_S1_S1_S2_d0

/-- The 64-bit position of a draw in its tensor. -/
def place : IVec S128x16384x4 64 :=
  addi (addi
    (muli (broadcastInDim S128x16384x4 ![] bcast_S_S128x16384x4 (constantI S_ 64 65536#64)) (iotaInDim S128x16384x4 64 0))
    (muli (broadcastInDim S128x16384x4 ![] bcast_S_S128x16384x4 (constantI S_ 64 4#64)) (iotaInDim S128x16384x4 64 1)))
    (muli (broadcastInDim S128x16384x4 ![] bcast_S_S128x16384x4 (constantI S_ 64 1#64)) (iotaInDim S128x16384x4 64 2))

/-- The uniform draws of the mixed words: the top 23 bits as the fraction of a number from one to two, less one,
    stretched to the range from `lo` to `hi`, and held at `lo` from below. -/
def draws (x : IVec S128x16384x4 32) (lo hi : FVec F S1x1x1 .f32) : FVec F S128x16384x4 .f32 :=
  maximumf (broadcastInDim S128x16384x4 ![0, 1, 2] bcast_S1x1x1_S128x16384x4_0_1_2 lo)
    (addf
      (mulf
        (subf
          (bitcastToFloat .f32 (ori
            (Host.shrui x (broadcastInDim S128x16384x4 ![] bcast_S_S128x16384x4 (constantI S_ 32 9#32)))
            (broadcastInDim S128x16384x4 ![] bcast_S_S128x16384x4 (constantI S_ 32 1065353216#32))))
          (broadcastInDim S128x16384x4 ![] bcast_S_S128x16384x4 (constant S_ .f32 0x3F800000#32)))
        (broadcastInDim S128x16384x4 ![0, 1, 2] bcast_S1x1x1_S128x16384x4_0_1_2 (subf hi lo)))
      (broadcastInDim S128x16384x4 ![0, 1, 2] bcast_S1x1x1_S128x16384x4_0_1_2 lo))

/-- The uniform draws turned into Gumbel draws and added to the logits. -/
def scores (u : FVec F S128x16384x4 .f32) (l : FVec F S16384x4 .f32) : FVec F S128x16384x4 .f32 :=
  addf (Host.negf (Host.log (Host.negf (Host.log u))))
    (broadcastInDim S128x16384x4 ![0, 1, 2] bcast_S1x16384x4_S128x16384x4_0_1_2
      (broadcastInDim S1x16384x4 ![1, 2] bcast_S16384x4_S1x16384x4_1_2 l))

/-- The place of the greatest score of each draw. -/
def places (s : FVec F S128x16384x4 .f32) : IVec S128x16384 32 :=
  fun j => (Host.argReduce reducer_argmax_f32_i32 s (iotaInDim S128x16384x4 32 2) (constant S_ .f32 0xFF800000#32)
    (constantI S_ 32 0#32) reducesTo_S128x16384x4_S128x16384_d2 h_S_ j).2

/-- One at the place chosen and zero elsewhere, on a last axis. -/
def hots (p : IVec S128x16384 32) : FVec F S16384x128x4 .f32 :=
  uitofp .f32 (cmpi .eq
    (broadcastInDim S16384x128x4 ![0, 1, 2] bcast_S16384x128x1_S16384x128x4_0_1_2
      (broadcastInDim S16384x128x1 ![0, 1] bcast_S16384x128_S16384x128x1_0_1
        (transpose S16384x128 [1, 0] p transposes_S128x16384_S16384x128_1_0)))
    (broadcastInDim S16384x128x4 ![0, 1, 2] bcast_S1x1x4_S16384x128x4_0_1_2 (iotaInDim S1x1x4 32 2)))

/-- The layers weighted by the one-hot rows and summed. -/
def mixed (y h : FVec F S16384x128x4 .f32) : FVec F S16384x128 .f32 :=
  Host.reduceAdd (mulf y h) (constant S_ .f32 0x00000000#32) reducesTo_S16384x128x4_S16384x128_d2 h_S_

variable (V : Valuation τ sig (Elt F))

theorem w18 : last V (Proc.devRef .tc (r 18)) = layer (last V (Proc.devRef .tc (r 0))) (last V (Proc.devRef .tc (r 4))) (last V (Proc.devRef .tc (r 5))) := by
  have h : ∀ U : Valuation τ sig (Elt F), after ((mainOps.drop 0).take 7) U (Proc.devRef .tc (r 18))
      = layer (U (Proc.devRef .tc (r 0))) (U (Proc.devRef .tc (r 4))) (U (Proc.devRef .tc (r 5))) := fun U => by chain_rfl
  rw [last_eq V 0 7 18, h, upto_eq V 0 0, upto_eq V 0 4, upto_eq V 0 5]

theorem w25 : last V (Proc.devRef .tc (r 25)) = layer (last V (Proc.devRef .tc (r 1))) (last V (Proc.devRef .tc (r 6))) (last V (Proc.devRef .tc (r 7))) := by
  have h : ∀ U : Valuation τ sig (Elt F), after ((mainOps.drop 7).take 7) U (Proc.devRef .tc (r 25))
      = layer (U (Proc.devRef .tc (r 1))) (U (Proc.devRef .tc (r 6))) (U (Proc.devRef .tc (r 7))) := fun U => by chain_rfl
  rw [last_eq V 7 7 25, h, upto_eq V 7 1, upto_eq V 7 6, upto_eq V 7 7]

theorem w32 : last V (Proc.devRef .tc (r 32)) = layer (last V (Proc.devRef .tc (r 2))) (last V (Proc.devRef .tc (r 8))) (last V (Proc.devRef .tc (r 9))) := by
  have h : ∀ U : Valuation τ sig (Elt F), after ((mainOps.drop 14).take 7) U (Proc.devRef .tc (r 32))
      = layer (U (Proc.devRef .tc (r 2))) (U (Proc.devRef .tc (r 8))) (U (Proc.devRef .tc (r 9))) := fun U => by chain_rfl
  rw [last_eq V 14 7 32, h, upto_eq V 14 2, upto_eq V 14 8, upto_eq V 14 9]

theorem w39 : last V (Proc.devRef .tc (r 39)) = layer (last V (Proc.devRef .tc (r 3))) (last V (Proc.devRef .tc (r 10))) (last V (Proc.devRef .tc (r 11))) := by
  have h : ∀ U : Valuation τ sig (Elt F), after ((mainOps.drop 21).take 7) U (Proc.devRef .tc (r 39))
      = layer (U (Proc.devRef .tc (r 3))) (U (Proc.devRef .tc (r 10))) (U (Proc.devRef .tc (r 11))) := fun U => by chain_rfl
  rw [last_eq V 21 7 39, h, upto_eq V 21 3, upto_eq V 21 10, upto_eq V 21 11]

theorem w44 : last V (Proc.devRef .tc (r 44)) = stacked (last V (Proc.devRef .tc (r 18))) (last V (Proc.devRef .tc (r 25))) (last V (Proc.devRef .tc (r 32))) (last V (Proc.devRef .tc (r 39))) := by
  have h : ∀ U : Valuation τ sig (Elt F), after ((mainOps.drop 28).take 5) U (Proc.devRef .tc (r 44))
      = stacked (U (Proc.devRef .tc (r 18))) (U (Proc.devRef .tc (r 25))) (U (Proc.devRef .tc (r 32))) (U (Proc.devRef .tc (r 39))) := fun U => by chain_rfl
  rw [last_eq V 28 5 44, h, upto_eq V 28 18, upto_eq V 28 25, upto_eq V 28 32, upto_eq V 28 39]

theorem w55 : last V (Proc.devRef .tc (r 55)) = logits := by
  have h : ∀ U : Valuation τ sig (Elt F), after ((mainOps.drop 33).take 11) U (Proc.devRef .tc (r 55)) = logits :=
    fun U => by chain_rfl
  rw [last_eq V 33 11 55, h]

theorem w72 : last V (Proc.devRef .tc (r 72)) = shapeCast S_ (extractStridedSlice S1 ![0] key slices_S2_S1_0) shapeCasts_S1_S_ := by
  have h : ∀ U : Valuation τ sig (Elt F), after ((mainOps.drop 44).take 17) U (Proc.devRef .tc (r 72))
      = shapeCast S_ (extractStridedSlice S1 ![0] key slices_S2_S1_0) shapeCasts_S1_S_ := fun U => by chain_rfl
  rw [last_eq V 44 17 72, h]

theorem w74 : last V (Proc.devRef .tc (r 74)) = shapeCast S_ (extractStridedSlice S1 ![1] key slices_S2_S1_1) shapeCasts_S1_S_ := by
  have h : ∀ U : Valuation τ sig (Elt F), after ((mainOps.drop 44).take 19) U (Proc.devRef .tc (r 74))
      = shapeCast S_ (extractStridedSlice S1 ![1] key slices_S2_S1_1) shapeCasts_S1_S_ := fun U => by chain_rfl
  rw [last_eq V 44 19 74, h]

theorem w69 : last V (Proc.devRef .tc (r 69)) = broadcastInDim S1x1x1 ![] bcast_S_S1x1x1 (constant S_ .f32 0x00800000#32 : FVec F S_ .f32) := by
  have h : ∀ U : Valuation τ sig (Elt F), after ((mainOps.drop 54).take 4) U (Proc.devRef .tc (r 69))
      = broadcastInDim S1x1x1 ![] bcast_S_S1x1x1 (constant S_ .f32 0x00800000#32 : FVec F S_ .f32) := fun U => by chain_rfl
  rw [last_eq V 54 4 69, h]

theorem w70 : last V (Proc.devRef .tc (r 70)) = broadcastInDim S1x1x1 ![] bcast_S_S1x1x1 (constant S_ .f32 0x3F800000#32 : FVec F S_ .f32) := by
  have h : ∀ U : Valuation τ sig (Elt F), after ((mainOps.drop 54).take 5) U (Proc.devRef .tc (r 70))
      = broadcastInDim S1x1x1 ![] bcast_S_S1x1x1 (constant S_ .f32 0x3F800000#32 : FVec F S_ .f32) := fun U => by chain_rfl
  rw [last_eq V 54 5 70, h]

theorem w92 : last V (Proc.devRef .tc (r 92)) = trunci 32 place natLt_32_64 := by
  have h : ∀ U : Valuation τ sig (Elt F), after ((mainOps.drop 63).take 18) U (Proc.devRef .tc (r 92))
      = trunci 32 place natLt_32_64 := fun U => by chain_rfl
  rw [last_eq V 63 18 92, h]

theorem w93 : last V (Proc.devRef .tc (r 93)) = trunci 32 (Host.shrui place
    (broadcastInDim S128x16384x4 ![] bcast_S_S128x16384x4 (constantI S_ 64 32#64))) natLt_32_64 := by
  have h : ∀ U : Valuation τ sig (Elt F), after ((mainOps.drop 63).take 19) U (Proc.devRef .tc (r 93))
      = trunci 32 (Host.shrui place
        (broadcastInDim S128x16384x4 ![] bcast_S_S128x16384x4 (constantI S_ 64 32#64))) natLt_32_64 := fun U => by chain_rfl
  rw [last_eq V 63 19 93, h]

theorem w333 : last V (Proc.devRef .tc (r 333)) = draws (last V (Proc.devRef .tc (r 316))) (last V (Proc.devRef .tc (r 69))) (last V (Proc.devRef .tc (r 70))) := by
  have h : ∀ U : Valuation τ sig (Elt F), after ((mainOps.drop 305).take 17) U (Proc.devRef .tc (r 333))
      = draws (U (Proc.devRef .tc (r 316))) (U (Proc.devRef .tc (r 69))) (U (Proc.devRef .tc (r 70))) := fun U => by chain_rfl
  rw [last_eq V 305 17 333, h, upto_eq V 305 316, upto_eq V 305 69, upto_eq V 305 70]

theorem w340 : last V (Proc.devRef .tc (r 340)) = scores (last V (Proc.devRef .tc (r 333))) (last V (Proc.devRef .tc (r 55))) := by
  have h : ∀ U : Valuation τ sig (Elt F), after ((mainOps.drop 322).take 7) U (Proc.devRef .tc (r 340))
      = scores (U (Proc.devRef .tc (r 333))) (U (Proc.devRef .tc (r 55))) := fun U => by chain_rfl
  rw [last_eq V 322 7 340, h, upto_eq V 322 333, upto_eq V 322 55]

theorem w345 : last V (Proc.devRef .tc (r 345)) = places (last V (Proc.devRef .tc (r 340))) := by
  have h : ∀ U : Valuation τ sig (Elt F), after ((mainOps.drop 329).take 5) U (Proc.devRef .tc (r 345))
      = places (U (Proc.devRef .tc (r 340))) := fun U => by chain_rfl
  rw [last_eq V 329 5 345, h, upto_eq V 329 340]

theorem w352 : last V (Proc.devRef .tc (r 352)) = hots (last V (Proc.devRef .tc (r 345))) := by
  have h : ∀ U : Valuation τ sig (Elt F), after ((mainOps.drop 334).take 7) U (Proc.devRef .tc (r 352))
      = hots (U (Proc.devRef .tc (r 345))) := fun U => by chain_rfl
  rw [last_eq V 334 7 352, h, upto_eq V 334 345]

theorem w355 : last V (Proc.devRef .tc (r 355)) = mixed (last V (Proc.devRef .tc (r 44))) (last V (Proc.devRef .tc (r 352))) := by
  have h : ∀ U : Valuation τ sig (Elt F), after ((mainOps.drop 341).take 3) U (Proc.devRef .tc (r 355))
      = mixed (U (Proc.devRef .tc (r 44))) (U (Proc.devRef .tc (r 352))) := fun U => by chain_rfl
  rw [last_eq V 341 3 355, h, upto_eq V 341 44, upto_eq V 341 352]

/-- What the reference leaves in its result. -/
theorem result : last V (Proc.devRef .tc (r 355))
    = mixed
        (stacked
          (layer (V (Proc.devRef .tc (r 0))) (V (Proc.devRef .tc (r 4))) (V (Proc.devRef .tc (r 5))))
          (layer (V (Proc.devRef .tc (r 1))) (V (Proc.devRef .tc (r 6))) (V (Proc.devRef .tc (r 7))))
          (layer (V (Proc.devRef .tc (r 2))) (V (Proc.devRef .tc (r 8))) (V (Proc.devRef .tc (r 9))))
          (layer (V (Proc.devRef .tc (r 3))) (V (Proc.devRef .tc (r 10))) (V (Proc.devRef .tc (r 11)))))
        (hots (places (scores
          (draws (last V (Proc.devRef .tc (r 316)))
            (broadcastInDim S1x1x1 ![] bcast_S_S1x1x1 (constant S_ .f32 0x00800000#32 : FVec F S_ .f32))
            (broadcastInDim S1x1x1 ![] bcast_S_S1x1x1 (constant S_ .f32 0x3F800000#32 : FVec F S_ .f32))) logits))) := by
  rw [w355, w44, w352, w345, w340, w333, w55, w69, w70, w18, w25, w32, w39]
  simp only [arg_eq V _ _ (by decide : 0 < 12), arg_eq V _ _ (by decide : 1 < 12), arg_eq V _ _ (by decide : 2 < 12),
    arg_eq V _ _ (by decide : 3 < 12), arg_eq V _ _ (by decide : 4 < 12), arg_eq V _ _ (by decide : 5 < 12),
    arg_eq V _ _ (by decide : 6 < 12), arg_eq V _ _ (by decide : 7 < 12), arg_eq V _ _ (by decide : 8 < 12),
    arg_eq V _ _ (by decide : 9 < 12), arg_eq V _ _ (by decide : 10 < 12), arg_eq V _ _ (by decide : 11 < 12)]

end Cert.ReferenceIdeal.Line

end
-- ==== Proof.RefDraw.lean ====
module

public import proofs.«01_k».proof.Proof.RefRead
public import proofs.«01_k».proof.Proof.Setup
public import Idealize.ShloMosaic.Lib.Pointwise

/-! The reference's random words: the key is (0, 42), and the counter of the draw for expert column `e`, row `b` and
branch `j` is `e · 65536 + b · 4 + j`. -/

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F] (V : Valuation τ sig (Elt F))

theorem key0 : Key0 V := fun e => by
  unfold sc
  rw [w72 V]
  unfold key
  pointwise
  decide

theorem key1 : Key1 V := fun e => by
  unfold sc
  rw [w74 V]
  unfold key
  pointwise
  decide

/-- The position of a draw as a number. -/
theorem place_toNat (e : Fin 128) (b : Fin 16384) (j : Fin 4) :
    (place (ix3 e b j)).toNat = e.val * 65536 + b.val * 4 + j.val := by
  unfold place
  pointwise
  simp only [IntOp.addi, IntOp.muli, BitVec.toNat_add, BitVec.toNat_mul, BitVec.toNat_ofNat]
  have := e.isLt; have := b.isLt; have := j.isLt
  omega

/-- The counter word of a draw. -/
theorem counter (e : Fin 128) (b : Fin 16384) (j : Fin 4) :
    wd (last V (Proc.devRef .tc (r 92))) (ix3 e b j) = IntOp.addi (Noise.word b.val e.val) (BitVec.ofNat 32 j.val) := by
  unfold wd
  rw [w92 V]
  have h := place_toNat e b j
  have := e.isLt; have := b.isLt; have := j.isLt
  apply BitVec.eq_of_toNat_eq
  simp only [trunci, Noise.word, IntOp.addi, BitVec.toNat_add, BitVec.toNat_ofNat, BitVec.toNat_setWidth, h]
  omega

theorem high : High V := fun i => by
  idx_vars i
  unfold wd
  rw [w93 V]
  have h := place_toNat i0 i1 i2
  have := i0.isLt; have := i1.isLt; have := i2.isLt
  have hs : Host.shrui place (broadcastInDim S128x16384x4 ![] bcast_S_S128x16384x4 (constantI S_ 64 32#64)) (ix3 i0 i1 i2)
      = place (ix3 i0 i1 i2) >>> 32 := rfl
  apply BitVec.eq_of_toNat_eq
  simp only [trunci, hs, BitVec.toNat_setWidth, BitVec.toNat_ushiftRight, h, Nat.shiftRight_eq_div_pow, BitVec.toNat_ofNat]
  omega

/-- The mixed word of a draw. -/
theorem mixed_word (e : Fin 128) (b : Fin 16384) (j : Fin 4) :
    wd (last V (Proc.devRef .tc (r 316))) (ix3 e b j)
      = Noise.bits (IntOp.addi (Noise.word b.val e.val) (BitVec.ofNat 32 j.val)) := by
  rw [w316 V (key0 V) (key1 V) (high V), counter]

end Cert.ReferenceIdeal.Line

end
-- ==== Proof.Gumbel.lean ====
module

public import proofs.«01_k».proof.Proof.RefRead
public import Idealize.ShloMosaic.PureOps.Ideal.Laws
public import Idealize.ShloMosaic.Lib.IdealHost
public import Mathlib.Analysis.SpecialFunctions.Log.Basic

/-! The score of a draw, as a real number: a strictly increasing function of the draw's mantissa. -/

@[expose] public section

noncomputable section

namespace Cert.Noise

open Idealize.ShloMosaic

/-- The smallest normal float, the least uniform draw. -/
def least : ℝ := (2 : ℝ) ^ (-126 : ℤ)

/-- The uniform draw of mantissa `m`. -/
def unif (m : ℕ) : ℝ := (m : ℝ) * (2 : ℝ) ^ (-23 : ℤ) * (1 - least) + least

/-- The score of mantissa `m`: the Gumbel draw plus the logit of one of four equal weights. -/
def score (m : ℕ) : ℝ := -Real.log (-Real.log (unif m)) + Real.log (1 / 4)

theorem least_pos : 0 < least := by unfold least; positivity
theorem least_lt : least < 1 := by unfold least; exact zpow_lt_one_of_neg₀ (by norm_num) (by norm_num)

theorem unif_ge (m : ℕ) : least ≤ unif m := by
  unfold unif
  have : 0 ≤ (m : ℝ) * (2 : ℝ) ^ (-23 : ℤ) * (1 - least) :=
    mul_nonneg (by positivity) (by linarith [least_lt])
  linarith

theorem unif_pos (m : ℕ) : 0 < unif m := lt_of_lt_of_le least_pos (unif_ge m)

theorem unif_lt {m : ℕ} (h : m < 2 ^ 23) : unif m < 1 := by
  unfold unif
  have h1 : (m : ℝ) * (2 : ℝ) ^ (-23 : ℤ) < 1 := by
    have : (m : ℝ) < 2 ^ 23 := by exact_mod_cast h
    rw [zpow_neg, ← div_eq_mul_inv, div_lt_one (by positivity)]
    exact_mod_cast this
  nlinarith [least_lt, least_pos]

theorem unif_strictMono : StrictMono unif := fun a b h => by
  unfold unif
  have h1 : (a : ℝ) < b := by exact_mod_cast h
  have h2 : (0 : ℝ) < (2 : ℝ) ^ (-23 : ℤ) := by positivity
  have h3 : 0 < 1 - least := by linarith [least_lt]
  have := mul_lt_mul_of_pos_right (mul_lt_mul_of_pos_right h1 h2) h3
  linarith

theorem neg_log_pos {m : ℕ} (h : m < 2 ^ 23) : 0 < -Real.log (unif m) := by
  have := Real.log_neg (unif_pos m) (unif_lt h)
  linarith

theorem score_lt {a b : ℕ} (hb : b < 2 ^ 23) (h : a < b) : score a < score b := by
  unfold score
  have h1 := Real.log_lt_log (unif_pos a) (unif_strictMono h)
  have h2 : -Real.log (unif b) < -Real.log (unif a) := by linarith
  have h3 := Real.log_lt_log (neg_log_pos hb) h2
  linarith

/-- The float word of a 23-bit mantissa under the exponent of one. -/
theorem ofBits_mant {w : BitVec 32} (h : w.toNat < 2 ^ 23) :
    Ideal.ofBits .f32 (w ||| 1065353216#32) = ((1 + (w.toNat : ℝ) * (2 : ℝ) ^ (-23 : ℤ) : ℝ) : EReal) := by
  have hor : w ||| 1065353216#32 = w + 1065353216#32 := by
    apply BitVec.eq_of_toNat_eq
    rw [BitVec.toNat_or, BitVec.toNat_add]
    have : w.toNat ||| (1065353216#32).toNat = 127 * 2 ^ 23 + w.toNat := by
      rw [Nat.or_comm, show (1065353216#32).toNat = 127 <<< 23 from rfl, ← Nat.shiftLeft_add_eq_or_of_lt h]
      rfl
    rw [this, show (1065353216#32).toNat = 127 * 2 ^ 23 from rfl]
    omega
  have ht : (w + 1065353216#32).toNat = 127 * 2 ^ 23 + w.toNat := by
    rw [BitVec.toNat_add, show (1065353216#32).toNat = 127 * 2 ^ 23 from rfl]; omega
  have hneg : ((w + 1065353216#32).extractLsb' (8 + 23) 1 == 1#1) = false := by
    rw [beq_eq_false_iff_ne]
    intro hc
    have := congrArg BitVec.toNat hc
    rw [BitVec.extractLsb'_toNat, ht, Nat.shiftRight_eq_div_pow] at this
    simp at this
    omega
  have hex : ((w + 1065353216#32).extractLsb' 23 8).toNat = 127 := by
    rw [BitVec.extractLsb'_toNat, ht, Nat.shiftRight_eq_div_pow]; omega
  have hfr : ((w + 1065353216#32).extractLsb' 0 23).toNat = w.toNat := by
    rw [BitVec.extractLsb'_toNat, ht, Nat.shiftRight_eq_div_pow]; omega
  rw [hor]
  show Ideal.ieee 8 23 (w + 1065353216#32) = _
  unfold Ideal.ieee
  simp only [hneg, hex, hfr]
  norm_num [-EReal.coe_mul, -EReal.coe_add]
  ring

/-- The smallest normal float's word. -/
theorem ofBits_least : Ideal.ofBits .f32 0x00800000#32 = ((least : ℝ) : EReal) := by
  simp [Ideal.ofBits, Ideal.ieee, least, -EReal.coe_mul]
  norm_num

end Cert.Noise

end
-- ==== Proof.RefScore.lean ====
module

public import proofs.«01_k».proof.Proof.RefDraw
public import proofs.«01_k».proof.Proof.Choice
public import proofs.«01_k».proof.Proof.Gumbel

/-! The reference's scores over the extended reals: each is the real score of its draw's mantissa. -/

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo

/-- The least draw, on an array of one element. -/
abbrev low : FVec Ideal S1x1x1 .f32 := broadcastInDim S1x1x1 ![] bcast_S_S1x1x1 (constant S_ .f32 0x00800000#32 : FVec Ideal S_ .f32)
/-- One, on an array of one element. -/
abbrev top : FVec Ideal S1x1x1 .f32 := broadcastInDim S1x1x1 ![] bcast_S_S1x1x1 (constant S_ .f32 0x3F800000#32 : FVec Ideal S_ .f32)

/-- The logarithm of a positive real. -/
theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

/-- Each logit is the logarithm of a quarter. -/
theorem logits_at (b : Fin 16384) (j : Fin 4) : (logits (F := Ideal)) (ix2 b j) = ((Real.log (1 / 4) : ℝ) : EReal) := by
  unfold logits ones
  pointwise
  have h4 : (∑ _x : Fin 4, (1 : EReal)) = ((4 : ℝ) : EReal) := by
    rw [Fin.sum_univ_four, ← EReal.coe_one, ← EReal.coe_add, ← EReal.coe_add, ← EReal.coe_add]
    norm_num
  have hd : Ideal.div 1 (∑ _x : Fin 4, (1 : EReal)) = ((1 / 4 : ℝ) : EReal) := by
    have n : ((4 : ℝ) : EReal) ≠ 0 := by exact_mod_cast (by norm_num : (4 : ℝ) ≠ 0)
    rw [h4, Ideal.div, if_neg n, one_mul, ← EReal.coe_inv]
    norm_num
  rw [hd, log_coe (by norm_num)]

/-- Each draw is the uniform one of its word's mantissa. -/
theorem draws_at (x : IVec S128x16384x4 32) (e : Fin 128) (b : Fin 16384) (j : Fin 4) (m : BitVec 32) (hm : m.toNat < 2 ^ 23)
    (hx : IntOp.shrui .host (x (ix3 e b j)) 9#32 = m) :
    draws x low top (ix3 e b j) = ((Noise.unif m.toNat : ℝ) : EReal) := by
  unfold draws
  pointwise
  rw [hx, show IntOp.ori m 1065353216#32 = m ||| 1065353216#32 from rfl, Noise.ofBits_mant hm, Noise.ofBits_least]
  rw [← EReal.coe_one, ← EReal.coe_sub, ← EReal.coe_sub, ← EReal.coe_mul, ← EReal.coe_add,
    show ((1 + (m.toNat : ℝ) * (2 : ℝ) ^ (-23 : ℤ) - 1) * (1 - Noise.least) + Noise.least) = Noise.unif m.toNat by
      unfold Noise.unif; ring]
  exact max_eq_right (by exact_mod_cast Noise.unif_ge _)

/-- Each score is the real one of its draw's mantissa. -/
theorem scores_at (u : FVec Ideal S128x16384x4 .f32) (e : Fin 128) (b : Fin 16384) (j : Fin 4) (m : ℕ) (hm : m < 2 ^ 23)
    (hu : u (ix3 e b j) = ((Noise.unif m : ℝ) : EReal)) :
    scores u logits (ix3 e b j) = ((Noise.score m : ℝ) : EReal) := by
  unfold scores
  pointwise
  rw [hu, logits_at, log_coe (Noise.unif_pos m), ← EReal.coe_neg, log_coe (Noise.neg_log_pos hm), ← EReal.coe_neg,
    ← EReal.coe_add]
  rfl

/-- The reducer keeps the pair of higher rank. -/
theorem reducer_rank (a b : EReal × BitVec 32) :
    (reducer_argmax_f32_i32 (F := Ideal) : EReal × BitVec 32 → EReal × BitVec 32 → EReal × BitVec 32) a b
      = if Noise.rank b < Noise.rank a then a else b := by
  obtain ⟨a1, a2⟩ := a
  obtain ⟨b1, b2⟩ := b
  have hl : Noise.rank (b1, b2) < Noise.rank (a1, a2) ↔ b1 < a1 ∨ (b1 = a1 ∧ a2.toInt < b2.toInt) := by
    unfold Noise.rank
    rw [Prod.Lex.toLex_lt_toLex]
    simp only [neg_lt_neg_iff]
  have hs : IntOp.cmpi .slt a2 b2 = BitVec.ofBool (decide (a2.toInt < b2.toInt)) := by
    show BitVec.ofBool (a2.slt b2) = _
    rw [BitVec.slt_eq_decide]
  have e : (reducer_argmax_f32_i32 (F := Ideal) : EReal × BitVec 32 → EReal × BitVec 32 → EReal × BitVec 32) (a1, a2) (b1, b2)
    = (Scalar.select (IntOp.ori (BitVec.ofBool (decide (b1 < a1))) (BitVec.ofBool (decide (a1 ≠ a1)))) a1 b1,
       Scalar.select (IntOp.ori (IntOp.ori (BitVec.ofBool (decide (b1 < a1))) (BitVec.ofBool (decide (a1 ≠ a1))))
         (IntOp.andi (BitVec.ofBool (decide (a1 = b1))) (IntOp.cmpi .slt a2 b2))) a2 b2) := rfl
  rw [e, hs]
  by_cases h : b1 < a1
  · rw [if_pos (hl.mpr (Or.inl h))]
    by_cases h2 : a2.toInt < b2.toInt <;> simp [h, h2, h.ne', Scalar.select, IntOp.ori, IntOp.andi]
  by_cases h1 : a1 = b1
  · subst h1
    by_cases h2 : a2.toInt < b2.toInt
    · rw [if_pos (hl.mpr (Or.inr ⟨rfl, h2⟩))]; simp [h2, Scalar.select, IntOp.ori, IntOp.andi]
    · rw [if_neg (fun c => by rcases hl.mp c with c | c; exact h c; exact h2 c.2)]
      simp [h2, Scalar.select, IntOp.ori, IntOp.andi]
  · rw [if_neg (fun c => by rcases hl.mp c with c | c; exact h c; exact h1 c.1.symm)]
    by_cases h2 : a2.toInt < b2.toInt <;> simp [h, h1, h2, Scalar.select, IntOp.ori, IntOp.andi]

/-- The draws that a place is chosen from are those of its row and column. -/
theorem drop_eq_iff (i : S128x16384x4.Idx) (e : Fin 128) (b : Fin 16384) :
    reducesTo_S128x16384x4_S128x16384_d2.drop i = ix2 e b ↔ i = ix3 e b (i 2) := by
  have d0 : ((reducesTo_S128x16384x4_S128x16384_d2.drop i) (0 : Fin 2)).val = (i 0).val :=
    Shape.ReducesTo.drop_apply_val_of_eq _ i 0 0
  have d1 : ((reducesTo_S128x16384x4_S128x16384_d2.drop i) (1 : Fin 2)).val = (i 1).val :=
    Shape.ReducesTo.drop_apply_val_of_eq _ i 1 1
  constructor
  · intro h
    have h0 : (i 0).val = e.val := by rw [← d0, h]; rfl
    have h1 : (i 1).val = b.val := by rw [← d1, h]; rfl
    funext k
    apply Fin.ext
    fin_cases k
    · exact h0
    · exact h1
    · rfl
  · intro h
    have h0 : (i 0).val = e.val := by rw [h]; rfl
    have h1 : (i 1).val = b.val := by rw [h]; rfl
    funext k
    apply Fin.ext
    fin_cases k
    · exact d0.trans h0
    · exact d1.trans h1

/-- The pairs a place is chosen from: the four scores of its row and column, each with its number. -/
theorem mem_fiber (s : FVec Ideal S128x16384x4 .f32) (e : Fin 128) (b : Fin 16384) (p : Ideal .f32 × BitVec 32) :
    p ∈ Host.argReduceFiber s (iotaInDim S128x16384x4 32 2) reducesTo_S128x16384x4_S128x16384_d2 (ix2 e b)
      ↔ ∃ j : Fin 4, p = (s (ix3 e b j), BitVec.ofNat 32 j.val) := by
  unfold Host.argReduceFiber
  rw [List.mem_map]
  constructor
  · rintro ⟨n, hn, rfl⟩
    have hd := of_decide_eq_true (List.mem_filter.mp hn).2
    generalize S128x16384x4.rowMajor.symm n = i at hd ⊢
    rw [drop_eq_iff] at hd
    exact ⟨i 2, Prod.ext (congrArg s hd) rfl⟩
  · rintro ⟨j, rfl⟩
    refine ⟨S128x16384x4.rowMajor (ix3 e b j), List.mem_filter.mpr ⟨List.mem_finRange _, decide_eq_true ?_⟩, ?_⟩
    · rw [Equiv.symm_apply_apply]
      exact (drop_eq_iff _ e b).mpr rfl
    · rw [Equiv.symm_apply_apply]
      rfl

/-- A fold from below every score over the four numbered scores ends at the first of the greatest mantissa. -/
theorem fold_place (l : List (EReal × BitVec 32)) (m : Fin 4 → ℕ) (c : Fin 4) (hm : ∀ j, m j < 2 ^ 23)
    (hl : ∀ p, p ∈ l ↔ ∃ j : Fin 4, p = (((Noise.score (m j) : ℝ) : EReal), BitVec.ofNat 32 j.val))
    (hc : ∀ j, m j < m c ∨ (m j = m c ∧ c ≤ j)) (z : BitVec 32) :
    (l.foldl (reducer_argmax_f32_i32 (F := Ideal) : EReal × BitVec 32 → EReal × BitVec 32 → EReal × BitVec 32)
      ((⊥ : EReal), z)).2 = BitVec.ofNat 32 c.val := by
  obtain ⟨h1, h2⟩ := Noise.foldl_rank reducer_rank l ((⊥ : EReal), z)
  have hcq := h2 _ (List.mem_cons_of_mem _ ((hl _).mpr ⟨c, rfl⟩))
  generalize List.foldl _ _ _ = q at h1 hcq ⊢
  unfold Noise.rank at hcq
  rw [Prod.Lex.toLex_le_toLex] at hcq
  rcases List.mem_cons.mp h1 with rfl | h1
  · exfalso
    rcases hcq with h | h
    · exact not_lt_bot h
    · exact EReal.coe_ne_bot _ h.1
  · obtain ⟨j, rfl⟩ := (hl q).mp h1
    rcases hc j with h | ⟨h, h'⟩
    · have := Noise.score_lt (hm c) h
      exfalso
      rcases hcq with g | g
      · have g : (Noise.score (m c) : EReal) < Noise.score (m j) := g
        have := EReal.coe_lt_coe_iff.mp g
        linarith
      · have := EReal.coe_eq_coe_iff.mp g.1
        linarith
    · rcases hcq with g | g
      · have g : (Noise.score (m c) : EReal) < Noise.score (m j) := g
        rw [h] at g
        exact absurd g (lt_irrefl _)
      · have g2 : -(BitVec.ofNat 32 c.val).toInt ≤ -(BitVec.ofNat 32 j.val).toInt := g.2
        have z : ∀ k : Fin 4, (BitVec.ofNat 32 k.val).toInt = k.val := by decide
        rw [z, z] at g2
        have : j = c := le_antisymm (by rw [Fin.le_def]; omega) h'
        rw [this]

/-- The word of minus infinity. -/
theorem ofBits_bot : Ideal.ofBits .f32 0xFF800000#32 = ⊥ := by
  simp [Ideal.ofBits, Ideal.ieee]

/-- The same of the reducer's own pairs, from any pair of value minus infinity. -/
theorem fold_place' (l : List (Ideal .f32 × BitVec 32)) (m : Fin 4 → ℕ) (c : Fin 4) (hm : ∀ j, m j < 2 ^ 23)
    (hl : ∀ p, p ∈ l ↔ ∃ j : Fin 4, p = (((Noise.score (m j) : ℝ) : EReal), BitVec.ofNat 32 j.val))
    (hc : ∀ j, m j < m c ∨ (m j = m c ∧ c ≤ j)) (z : Ideal .f32 × BitVec 32) (hz : z.1 = (⊥ : EReal)) :
    (l.foldl reducer_argmax_f32_i32 z).2 = BitVec.ofNat 32 c.val := by
  obtain ⟨z1, z2⟩ := z
  have hz : z1 = (⊥ : EReal) := hz
  subst hz
  exact fold_place l m c hm hl hc z2

/-- A reduction of pairs at an index is the fold over the pairs it reduces there. -/
theorem argReduce_fold {s t u : Shape} {axes : List (Fin s.rank)}
    (f : Ideal .f32 × BitVec 32 → Ideal .f32 × BitVec 32 → Ideal .f32 × BitVec 32) (x : FVec Ideal s .f32) (y : IVec s 32)
    (ix : FVec Ideal u .f32) (iy : IVec u 32) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- The words of the places are what the folds over their pairs keep. -/
theorem places_fold (s : FVec Ideal S128x16384x4 .f32) : places s
    = fun j => ((Host.argReduceFiber s (iotaInDim S128x16384x4 32 2) reducesTo_S128x16384x4_S128x16384_d2 j).foldl
      reducer_argmax_f32_i32 ((constant S_ .f32 0xFF800000#32 : FVec Ideal S_ .f32) (Shape.Idx.first h_S_),
        constantI S_ 32 0#32 (Shape.Idx.first h_S_))).2 := by
  have e : places s = fun j => (Host.argReduce reducer_argmax_f32_i32 s (iotaInDim S128x16384x4 32 2)
    (constant S_ .f32 0xFF800000#32) (constantI S_ 32 0#32) reducesTo_S128x16384x4_S128x16384_d2 h_S_ j).2 := by
    unfold places
    exact Eq.refl _
  exact e.trans (funext fun j => argReduce_fold reducer_argmax_f32_i32 s (iotaInDim S128x16384x4 32 2)
    (constant S_ .f32 0xFF800000#32) (constantI S_ 32 0#32) reducesTo_S128x16384x4_S128x16384_d2 h_S_ j)

/-- Where the scores are the real ones of four mantissas, the place is the first of the greatest mantissa. -/
theorem places_at (s : FVec Ideal S128x16384x4 .f32) (e : Fin 128) (b : Fin 16384) (m : Fin 4 → ℕ) (c : Fin 4)
    (hm : ∀ j, m j < 2 ^ 23) (hs : ∀ j, s (ix3 e b j) = ((Noise.score (m j) : ℝ) : EReal))
    (hc : ∀ j, m j < m c ∨ (m j = m c ∧ c ≤ j)) : places s (ix2 e b) = BitVec.ofNat 32 c.val :=
  (congrFun (places_fold s) (ix2 e b)).trans (fold_place' _ m c hm
    (fun p => (mem_fiber s e b p).trans (exists_congr fun j => by rw [hs])) hc _ ofBits_bot)

end Cert.ReferenceIdeal.Line

end
-- ==== Proof.RefValue.lean ====
module

public import proofs.«01_k».proof.Proof.RefScore

/-! The reference's result over the extended reals: each element is the layer of the branch picked there. -/

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo

/-- The layers mixed by a one-hot row are the layer at its place. -/
theorem mixed_at (y0 y1 y2 y3 : FVec Ideal S16384x128 .f32) (p : IVec S128x16384 32) (b : Fin 16384) (e : Fin 128) (c : Fin 4)
    (hp : p (ix2 e b) = BitVec.ofNat 32 c.val) :
    mixed (stacked y0 y1 y2 y3) (hots p) (ix2 b e) = ![y0 (ix2 b e), y1 (ix2 b e), y2 (ix2 b e), y3 (ix2 b e)] c := by
  unfold mixed stacked hots
  pointwise
  rw [Fin.sum_univ_four, hp]
  have u0 : (FloatOps.uitofp FTy.f32 (0#1) : Ideal .f32) = (0 : EReal) := by
    show (((0#1 : BitVec 1).toNat : ℝ) : EReal) = 0
    simp
  have u1 : (FloatOps.uitofp FTy.f32 (1#1) : Ideal .f32) = (1 : EReal) := by
    show (((1#1 : BitVec 1).toNat : ℝ) : EReal) = 1
    simp
  have q : ∀ a b : Fin 4, IntOp.cmpi .eq (BitVec.ofNat 32 a.val) (BitVec.ofNat 32 b.val) = if a = b then 1#1 else 0#1 := by
    decide
  have f : ∀ j : Fin 4, (FloatOps.uitofp FTy.f32 (IntOp.cmpi .eq (BitVec.ofNat 32 c.val) (BitVec.ofNat 32 j.val)) : Ideal .f32)
      = if c = j then (1 : EReal) else 0 := fun j => by
    rw [q]
    split
    · exact u1
    · exact u0
  simp only [f]
  fin_cases c <;> simp

variable (V : Valuation τ sig (Elt Ideal))

/-- The mantissas the reference draws at row `b`, column `e`. -/
theorem draws_word (e : Fin 128) (b : Fin 16384) (j : Fin 4) :
    draws (last V (Proc.devRef .tc (r 316))) low top (ix3 e b j)
      = ((Noise.unif (Noise.mants (Noise.word b.val e.val) j) : ℝ) : EReal) :=
  draws_at _ e b j (Noise.mj (Noise.word b.val e.val) (BitVec.ofNat 32 j.val)) (Noise.mant_lt _)
    (congrArg (fun x => IntOp.shrui .host x 9#32) (mixed_word V e b j))

/-- The pick of four layers, element by element. -/
def out (x0 x1 x2 x3 : FVec Ideal S16384x128 .f32) (w0 w1 w2 w3 : FVec Ideal S128x128 .f32) (v0 v1 v2 v3 : FVec Ideal S128 .f32) :
    FVec Ideal S16384x128 .f32 := fun i =>
  Noise.pick (Noise.word (i 0).val (i 1).val) (layer x0 w0 v0 i) (layer x1 w1 v1 i) (layer x2 w2 v2 i) (layer x3 w3 v3 i)

/-- The layers mixed by the reference's one-hot rows, at row `b`, column `e`: the pick of the four layers there. -/
theorem mixed_pick (y0 y1 y2 y3 : FVec Ideal S16384x128 .f32) (b : Fin 16384) (e : Fin 128) :
    mixed (stacked y0 y1 y2 y3) (hots (places (scores (draws (last V (Proc.devRef .tc (r 316))) low top) logits))) (ix2 b e)
      = Noise.pick (Noise.word b.val e.val) (y0 (ix2 b e)) (y1 (ix2 b e)) (y2 (ix2 b e)) (y3 (ix2 b e)) := by
  obtain ⟨c, hp, hc⟩ := Noise.pick_spec (Noise.word b.val e.val)
  have hpl := places_at (scores (draws (last V (Proc.devRef .tc (r 316))) low top) logits) e b
    (Noise.mants (Noise.word b.val e.val)) c (Noise.mants_lt _)
    (fun j => scores_at _ e b j _ (Noise.mants_lt _ j) (draws_word V e b j)) hc
  exact (mixed_at _ _ _ _ _ b e c hpl).trans (hp EReal ![_, _, _, _]).symm

/-- The reference's result is the pick of its four layers. -/
theorem result_out : last V (Proc.devRef .tc (r 355))
    = out (V (Proc.devRef .tc (r 0))) (V (Proc.devRef .tc (r 1))) (V (Proc.devRef .tc (r 2))) (V (Proc.devRef .tc (r 3)))
        (V (Proc.devRef .tc (r 4))) (V (Proc.devRef .tc (r 6))) (V (Proc.devRef .tc (r 8))) (V (Proc.devRef .tc (r 10)))
        (V (Proc.devRef .tc (r 5))) (V (Proc.devRef .tc (r 7))) (V (Proc.devRef .tc (r 9))) (V (Proc.devRef .tc (r 11))) := by
  refine (result V).trans (funext fun (i : S16384x128.Idx) => ?_)
  have hi : i = ix2 (i 0) (i 1) := by
    funext k
    fin_cases k <;> rfl
  rw [hi]
  exact mixed_pick V _ _ _ _ (i 0) (i 1)

/-- One layer at row `b`, column `e`. -/
theorem layer_at (x : FVec Ideal S16384x128 .f32) (w : FVec Ideal S128x128 .f32) (v : FVec Ideal S128 .f32) (b : Fin 16384)
    (e : Fin 128) : layer x w v (ix2 b e) = max ((∑ k : Fin 128, x (ix2 b k) * w (ix2 k e)) + v (ix1 e)) 0 := by
  unfold layer
  pointwise

end Cert.ReferenceIdeal.Line

end
-- ==== Proof.Algebraic.lean ====
module

public import proofs.«01_k».proof.Proof.Whole
public import proofs.«01_k».proof.Proof.KernelValue
public import proofs.«01_k».proof.Proof.RefValue

/-! The kernel and the reference, from the same arguments, end with the same result: the pick of the four layers. -/

@[expose] public section

set_option maxRecDepth 16384

noncomputable section

namespace Cert.Proof

open Idealize.ShloMosaic Idealize.ShloMosaic.TcCoe Idealize.SL.Sem

/-- The reference's pick of four layers is the kernel's. -/
theorem out_eq (x0 x1 x2 x3 : FVec Ideal Cert.ReferenceIdeal.S16384x128 .f32) (w0 w1 w2 w3 : FVec Ideal Cert.ReferenceIdeal.S128x128 .f32)
    (v0 v1 v2 v3 : FVec Ideal Cert.ReferenceIdeal.S128 .f32) :
    Cert.ReferenceIdeal.Line.out x0 x1 x2 x3 w0 w1 w2 w3 v0 v1 v2 v3
      = Cert.KernelIdeal.Run.picked x0 x1 x2 x3 w0 w1 w2 w3 (Cert.KernelIdeal.Run.row v0) (Cert.KernelIdeal.Run.row v1)
          (Cert.KernelIdeal.Run.row v2) (Cert.KernelIdeal.Run.row v3) := by
  refine funext fun (i : Cert.ReferenceIdeal.S16384x128.Idx) => ?_
  obtain ⟨b, e, rfl⟩ : ∃ (b : Fin 16384) (e : Fin 128), i = ix2 b e := ⟨i 0, i 1, by funext k; fin_cases k <;> rfl⟩
  have h : ∀ (x : FVec Ideal Cert.ReferenceIdeal.S16384x128 .f32) (w : FVec Ideal Cert.ReferenceIdeal.S128x128 .f32)
      (v : FVec Ideal Cert.ReferenceIdeal.S128 .f32), Cert.ReferenceIdeal.Line.layer x w v (ix2 b e)
        = Cert.KernelIdeal.Bodies.cell (fun k => x (ix2 b k)) (fun k => w (ix2 k e)) (Cert.KernelIdeal.Run.row v (ix2 0 e)) :=
    fun x w v => by
      rw [Cert.ReferenceIdeal.Line.layer_at, Cert.KernelIdeal.Run.row_at]
      rfl
  have h0 := h x0 w0 v0
  have h1 := h x1 w1 v1
  have h2 := h x2 w2 v2
  have h3 := h x3 w3 v3
  show Noise.pick (Noise.word b.val e.val) _ _ _ _ = Noise.pick (Noise.word b.val e.val) _ _ _ _
  rw [h0, h1, h2, h3]
  rfl

/-- Over the extended reals kernel and reference end with the same result. -/
theorem algebraic : Cert.algebraic_KernelIdeal_ReferenceIdeal := fun m g m' g' _ ag => by
  refine ⟨fun c => Cert.KernelIdeal.Run.W5 m c (Proc.devRef .tc Cert.KernelIdeal.main_v6), ?_, ?_⟩
  · refine (θ_run _ _ _).mono (fun r h c => ?_) (Cert.KernelIdeal.Run.run_main m g)
    refine ⟨Cert.KernelIdeal.Run.result_at m h c, ?_⟩
    repeat' apply And.intro
    all_goals exact Cert.KernelIdeal.Run.args_kept m h c _ (by decide)
  · refine (θ_run _ _ _).mono (fun r h c => ?_) (Cert.ReferenceIdeal.Line.run (F := Ideal) m' g')
    refine ⟨(h c _).trans ?_, ?_⟩
    · obtain ⟨a0, a1, a2, a3, a4, a5, a6, a7, a8, a9, a10, a11⟩ := ag c
      refine (Cert.ReferenceIdeal.Line.result_out _).trans ((out_eq _ _ _ _ _ _ _ _ _ _ _ _).trans ?_)
      refine Eq.trans ?_ (Cert.KernelIdeal.Run.W5_answer m c).symm
      unfold Cert.KernelIdeal.Run.answer
      rw [← a0, ← a1, ← a2, ← a3, ← a4, ← a5, ← a6, ← a7, ← a8, ← a9, ← a10, ← a11]
      rfl
    · repeat' apply And.intro
      all_goals exact (h c _).trans (Cert.ReferenceIdeal.Line.arg_eq _ _ (by decide) (by decide))

end Cert.Proof

end
-- ==== Proof.lean ====
module

public import proofs.«01_k».proof.Defs
public import proofs.«01_k».proof.Proof.Frames
public import proofs.«01_k».proof.Proof.Algebraic

@[expose] public section

namespace Cert.Proof

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
